-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)) (v3 : (c : Dev Cert.Kernel7Ideal.nD) → Buf (Elt Ideal) ((c.tc : Thread Cert.Kernel7Ideal.nD Cert.Kernel7Ideal.τ).loc Cert.Kernel7Ideal.main_v7_3)) (v4 : (c : Dev Cert.Kernel7Ideal.nD) → Buf (Elt Ideal) ((c.tc : Thread Cert.Kernel7Ideal.nD Cert.Kernel7Ideal.τ).loc Cert.Kernel7Ideal.main_v7_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_v7_3) = v3 c
          ∧ r.2.mem ((c.tc : Thread Cert.Kernel7Ideal.nD Cert.Kernel7Ideal.τ).loc Cert.Kernel7Ideal.main_v7_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_v83) = v1 c
          ∧ r.2.mem ((c.tc : Thread Cert.Reference7Ideal.nD Cert.Reference7Ideal.τ).loc Cert.Reference7Ideal.main_v84) = v2 c
          ∧ r.2.mem ((c.tc : Thread Cert.Reference7Ideal.nD Cert.Reference7Ideal.τ).loc Cert.Reference7Ideal.main_v85) = v3 c
          ∧ r.2.mem ((c.tc : Thread Cert.Reference7Ideal.nD Cert.Reference7Ideal.τ).loc Cert.Reference7Ideal.main_v86) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_tables_in_range.lean ====
abbrev S40960x2048 : Shape := ⟨2, ![40960, 2048]⟩
abbrev S2x16x2048x1024 : Shape := ⟨4, ![2, 16, 2048, 1024]⟩
abbrev S2x16x512x2048 : Shape := ⟨4, ![2, 16, 512, 2048]⟩
abbrev S80 : Shape := ⟨1, ![80]⟩
abbrev S_ : Shape := ⟨0, ![]⟩

class Facts : Prop where
  bcast_S_S80 : S_.BroadcastsInDim S80 (![] : Fin 0 → Fin S80.rank)

variable [Facts]

def fn {F : FTy → Type} [FloatOps F] (main_arg0 : FVec F S40960x2048 .bf16) (main_arg1 : FVec F S2x16x2048x1024 .f32) (main_arg2 : FVec F S2x16x512x2048 .f32) (main_arg3 : IVec S80 32) (main_arg4 : IVec S80 32) : IVec S80 1 :=
  let main_c : IVec S_ 32 := constantI S_ 32 0#32
  let main_v0 : IVec S80 32 := broadcastInDim S80 ![] bcast_S_S80 main_c
  let main_v1 : IVec S80 1 := cmpi .sge main_arg3 main_v0
  let main_c_0 : IVec S_ 32 := constantI S_ 32 16#32
  let main_v2 : IVec S80 32 := broadcastInDim S80 ![] bcast_S_S80 main_c_0
  let main_v3 : IVec S80 1 := cmpi .slt main_arg3 main_v2
  let main_v4 : IVec S80 1 := andi main_v1 main_v3
  let main_c_1 : IVec S_ 32 := constantI S_ 32 0#32
  let main_v5 : IVec S80 32 := broadcastInDim S80 ![] bcast_S_S80 main_c_1
  let main_v6 : IVec S80 1 := cmpi .sge main_arg4 main_v5
  let main_v7 : IVec S80 1 := andi main_v4 main_v6
  let main_c_2 : IVec S_ 32 := constantI S_ 32 1#32
  let main_v8 : IVec S80 32 := broadcastInDim S80 ![] bcast_S_S80 main_c_2
  let main_v9 : IVec S80 1 := cmpi .sle main_arg4 main_v8
  let main_v10 : IVec S80 1 := andi main_v7 main_v9
  main_v10
-- ==== Kernel.lean ====
abbrev S40960x2048 : Shape := ⟨2, ![40960, 2048]⟩
abbrev S2x16x2048x1024 : Shape := ⟨4, ![2, 16, 2048, 1024]⟩
abbrev S2x16x512x2048 : Shape := ⟨4, ![2, 16, 512, 2048]⟩
abbrev S80 : Shape := ⟨1, ![80]⟩
abbrev S20480x2048 : Shape := ⟨2, ![20480, 2048]⟩
abbrev S40 : Shape := ⟨1, ![40]⟩
abbrev S512x2048 : Shape := ⟨2, ![512, 2048]⟩
abbrev S1x1x2048x1024 : Shape := ⟨4, ![1, 1, 2048, 1024]⟩
abbrev S1 : Shape := ⟨1, ![1]⟩
abbrev S1x1x512x2048 : Shape := ⟨4, ![1, 1, 512, 2048]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 9
  | .vmem => 20
  | .smem => 4
  | _ => 0

abbrev bufTy : (tb : Table) → Fin (tcTables nBuf tb) → BufTy
  | .hbm, ⟨0, _⟩ => ⟨S40960x2048, .bf16⟩
  | .hbm, ⟨1, _⟩ => ⟨S2x16x2048x1024, .f32⟩
  | .hbm, ⟨2, _⟩ => ⟨S2x16x512x2048, .f32⟩
  | .hbm, ⟨3, _⟩ => ⟨S80, .i32⟩
  | .hbm, ⟨4, _⟩ => ⟨S80, .i32⟩
  | .hbm, ⟨5, _⟩ => ⟨S20480x2048, .bf16⟩
  | .hbm, ⟨6, _⟩ => ⟨S40960x2048, .bf16⟩
  | .hbm, ⟨7, _⟩ => ⟨S20480x2048, .bf16⟩
  | .hbm, ⟨8, _⟩ => ⟨S40960x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x512x2048, .f32⟩
  | .local _ .vmem, ⟨5, _⟩ => ⟨S1x1x512x2048, .f32⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1x1x2048x1024, .f32⟩
  | .local _ .vmem, ⟨13, _⟩ => ⟨S1x1x2048x1024, .f32⟩
  | .local _ .vmem, ⟨14, _⟩ => ⟨S1x1x512x2048, .f32⟩
  | .local _ .vmem, ⟨15, _⟩ => ⟨S1x1x512x2048, .f32⟩
  | .local _ .vmem, ⟨16, _⟩ => ⟨S512x2048, .bf16⟩
  | .local _ .vmem, ⟨17, _⟩ => ⟨S512x2048, .bf16⟩
  | .local _ .vmem, ⟨18, _⟩ => ⟨S2048x1024, .bf16⟩
  | .local _ .vmem, ⟨19, _⟩ => ⟨S512x2048, .bf16⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v3 : Ref sig .tc := ⟨.hbm, 6, rfl⟩
abbrev main_v4 : Ref sig .tc := ⟨.hbm, 7, rfl⟩
abbrev main_v7 : Ref sig .tc := ⟨.hbm, 8, rfl⟩
abbrev main_v1 : Ref sig .tc := ⟨.smem, 0, rfl⟩
abbrev main_v2 : Ref sig .tc := ⟨.smem, 1, rfl⟩
abbrev main_v5 : Ref sig .tc := ⟨.smem, 2, rfl⟩
abbrev main_v6 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![40], ![false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

abbrev pre1 : Pipeline.Prefetch sig := ⟨2, ![main_v5.idx, main_v6.idx], fun | 0 => main_v5.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k1_off3 (i : grid1.Coords) : Fin 1 → Nat :=
  let arg0 : BitVec 32 := BitVec.ofNat 32 (i 0).val
  let v11 : Index := Scalar.indexCast arg0
  ![v11.toNat]
def k1_off4 (i : grid1.Coords) : Fin 1 → Nat :=
  let arg0 : BitVec 32 := BitVec.ofNat 32 (i 0).val
  let v16 : Index := Scalar.indexCast arg0
  ![v16.toNat]
def k1_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k1_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S40.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_2 (k1_off1_inb : ∀ i : grid1.Coords, ∀ a, (k1_off1 i) a + S1.size a ≤ S40.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_4 (i : grid1.Coords) : Fin 2 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  ![v0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S40960x2048 : Shape := ⟨2, ![40960, 2048]⟩
abbrev S2x16x2048x1024 : Shape := ⟨4, ![2, 16, 2048, 1024]⟩
abbrev S2x16x512x2048 : Shape := ⟨4, ![2, 16, 512, 2048]⟩
abbrev S80 : Shape := ⟨1, ![80]⟩
abbrev S80x512 : Shape := ⟨2, ![80, 512]⟩
abbrev S40960 : Shape := ⟨1, ![40960]⟩
abbrev S40960x1 : Shape := ⟨2, ![40960, 1]⟩
abbrev S_ : Shape := ⟨0, ![]⟩
abbrev S1x16 : Shape := ⟨2, ![1, 16]⟩
abbrev S40960x16 : Shape := ⟨2, ![40960, 16]⟩
abbrev S1x1x2048x1024 : Shape := ⟨4, ![1, 1, 2048, 1024]⟩
abbrev S2048x1024 : Shape := ⟨2, ![2048, 1024]⟩
abbrev S40960x1024 : Shape := ⟨2, ![40960, 1024]⟩
abbrev S40960x512 : Shape := ⟨2, ![40960, 512]⟩
abbrev S1x1x512x2048 : Shape := ⟨4, ![1, 1, 512, 2048]⟩
abbrev S512x2048 : Shape := ⟨2, ![512, 2048]⟩

abbrev nBuf : Space → Nat
  | .hbm => 380
  | .vmem => 0
  | .smem => 0
  | _ => 0

abbrev hbmTy0_0 (i : Nat) : BufTy := match i % 128 with
  | 0 => ⟨S40960x2048, .bf16⟩
  | 1 => ⟨S2x16x2048x1024, .f32⟩
  | 2 => ⟨S2x16x512x2048, .f32⟩
  | 3 => ⟨S80, .i32⟩
  | 4 => ⟨S80, .i32⟩
  | 5 => ⟨S40960x2048, .f32⟩
  | 6 => ⟨S80x512, .i32⟩
  | 7 => ⟨S40960, .i32⟩
  | 8 => ⟨S80x512, .i32⟩
  | 9 => ⟨S40960, .i32⟩
  | 10 => ⟨S40960x1, .i32⟩
  | 11 => ⟨S_, .i32⟩
  | 12 => ⟨S40960x1, .i32⟩
  | 13 => ⟨S40960x1, .i1⟩
  | 14 => ⟨S40960x1, .i32⟩
  | 15 => ⟨S1x16, .i32⟩
  | 16 => ⟨S40960x16, .i32⟩
  | 17 => ⟨S40960x16, .i32⟩
  | 18 => ⟨S40960x16, .i1⟩
  | 19 => ⟨S40960x16, .f32⟩
  | 20 => ⟨S_, .f32⟩
  | 21 => ⟨S_, .f32⟩
  | 22 => ⟨S40960x16, .i1⟩
  | 23 => ⟨S40960x16, .f32⟩
  | 24 => ⟨S40960x16, .f32⟩
  | 25 => ⟨S_, .f32⟩
  | 26 => ⟨S40960x2048, .f32⟩
  | 27 => ⟨S1x1x2048x1024, .f32⟩
  | 28 => ⟨S2048x1024, .f32⟩
  | 29 => ⟨S40960x1024, .f32⟩
  | 30 => ⟨S40960x512, .f32⟩
  | 31 => ⟨S40960x512, .f32⟩
  | 32 => ⟨S40960x1, .f32⟩
  | 33 => ⟨S40960x512, .f32⟩
  | 34 => ⟨S40960x512, .f32⟩
  | 35 => ⟨S_, .f32⟩
  | 36 => ⟨S40960x512, .f32⟩
  | 37 => ⟨S40960x512, .f32⟩
  | 38 => ⟨S_, .f32⟩
  | 39 => ⟨S40960x512, .f32⟩
  | 40 => ⟨S40960x512, .f32⟩
  | 41 => ⟨S40960x512, .f32⟩
  | 42 => ⟨S40960x512, .f32⟩
  | 43 => ⟨S1x1x512x2048, .f32⟩
  | 44 => ⟨S512x2048, .f32⟩
  | 45 => ⟨S40960x2048, .f32⟩
  | 46 => ⟨S40960x2048, .f32⟩
  | 47 => ⟨S40960x2048, .f32⟩
  | 48 => ⟨S40960x2048, .f32⟩
  | 49 => ⟨S1x1x2048x1024, .f32⟩
  | 50 => ⟨S2048x1024, .f32⟩
  | 51 => ⟨S40960x1024, .f32⟩
  | 52 => ⟨S40960x512, .f32⟩
  | 53 => ⟨S40960x512, .f32⟩
  | 54 => ⟨S40960x1, .f32⟩
  | 55 => ⟨S40960x512, .f32⟩
  | 56 => ⟨S40960x512, .f32⟩
  | 57 => ⟨S_, .f32⟩
  | 58 => ⟨S40960x512, .f32⟩
  | 59 => ⟨S40960x512, .f32⟩
  | 60 => ⟨S_, .f32⟩
  | 61 => ⟨S40960x512, .f32⟩
  | 62 => ⟨S40960x512, .f32⟩
  | 63 => ⟨S40960x512, .f32⟩
  | 64 => ⟨S40960x512, .f32⟩
  | 65 => ⟨S1x1x512x2048, .f32⟩
  | 66 => ⟨S512x2048, .f32⟩
  | 67 => ⟨S40960x2048, .f32⟩
  | 68 => ⟨S40960x2048, .f32⟩
  | 69 => ⟨S40960x2048, .f32⟩
  | 70 => ⟨S40960x2048, .f32⟩
  | 71 => ⟨S1x1x2048x1024, .f32⟩
  | 72 => ⟨S2048x1024, .f32⟩
  | 73 => ⟨S40960x1024, .f32⟩
  | 74 => ⟨S40960x512, .f32⟩
  | 75 => ⟨S40960x512, .f32⟩
  | 76 => ⟨S40960x1, .f32⟩
  | 77 => ⟨S40960x512, .f32⟩
  | 78 => ⟨S40960x512, .f32⟩
  | 79 => ⟨S_, .f32⟩
  | 80 => ⟨S40960x512, .f32⟩
  | 81 => ⟨S40960x512, .f32⟩
  | 82 => ⟨S_, .f32⟩
  | 83 => ⟨S40960x512, .f32⟩
  | 84 => ⟨S40960x512, .f32⟩
  | 85 => ⟨S40960x512, .f32⟩
  | 86 => ⟨S40960x512, .f32⟩
  | 87 => ⟨S1x1x512x2048, .f32⟩
  | 88 => ⟨S512x2048, .f32⟩
  | 89 => ⟨S40960x2048, .f32⟩
  | 90 => ⟨S40960x2048, .f32⟩
  | 91 => ⟨S40960x2048, .f32⟩
  | 92 => ⟨S40960x2048, .f32⟩
  | 93 => ⟨S1x1x2048x1024, .f32⟩
  | 94 => ⟨S2048x1024, .f32⟩
  | 95 => ⟨S40960x1024, .f32⟩
  | 96 => ⟨S40960x512, .f32⟩
  | 97 => ⟨S40960x512, .f32⟩
  | 98 => ⟨S40960x1, .f32⟩
  | 99 => ⟨S40960x512, .f32⟩
  | 100 => ⟨S40960x512, .f32⟩
  | 101 => ⟨S_, .f32⟩
  | 102 => ⟨S40960x512, .f32⟩
  | 103 => ⟨S40960x512, .f32⟩
  | 104 => ⟨S_, .f32⟩
  | 105 => ⟨S40960x512, .f32⟩
  | 106 => ⟨S40960x512, .f32⟩
  | 107 => ⟨S40960x512, .f32⟩
  | 108 => ⟨S40960x512, .f32⟩
  | 109 => ⟨S1x1x512x2048, .f32⟩
  | 110 => ⟨S512x2048, .f32⟩
  | 111 => ⟨S40960x2048, .f32⟩
  | 112 => ⟨S40960x2048, .f32⟩
  | 113 => ⟨S40960x2048, .f32⟩
  | 114 => ⟨S40960x2048, .f32⟩
  | 115 => ⟨S1x1x2048x1024, .f32⟩
  | 116 => ⟨S2048x1024, .f32⟩
  | 117 => ⟨S40960x1024, .f32⟩
  | 118 => ⟨S40960x512, .f32⟩
  | 119 => ⟨S40960x512, .f32⟩
  | 120 => ⟨S40960x1, .f32⟩
  | 121 => ⟨S40960x512, .f32⟩
  | 122 => ⟨S40960x512, .f32⟩
  | 123 => ⟨S_, .f32⟩
  | 124 => ⟨S40960x512, .f32⟩
  | 125 => ⟨S40960x512, .f32⟩
  | 126 => ⟨S_, .f32⟩
  | 127 => ⟨S40960x512, .f32⟩
  | _ => ⟨S40960x2048, .bf16⟩

abbrev hbmTy0_1 (i : Nat) : BufTy := match i % 128 with
  | 0 => ⟨S40960x512, .f32⟩
  | 1 => ⟨S40960x512, .f32⟩
  | 2 => ⟨S40960x512, .f32⟩
  | 3 => ⟨S1x1x512x2048, .f32⟩
  | 4 => ⟨S512x2048, .f32⟩
  | 5 => ⟨S40960x2048, .f32⟩
  | 6 => ⟨S40960x2048, .f32⟩
  | 7 => ⟨S40960x2048, .f32⟩
  | 8 => ⟨S40960x2048, .f32⟩
  | 9 => ⟨S1x1x2048x1024, .f32⟩
  | 10 => ⟨S2048x1024, .f32⟩
  | 11 => ⟨S40960x1024, .f32⟩
  | 12 => ⟨S40960x512, .f32⟩
  | 13 => ⟨S40960x512, .f32⟩
  | 14 => ⟨S40960x1, .f32⟩
  | 15 => ⟨S40960x512, .f32⟩
  | 16 => ⟨S40960x512, .f32⟩
  | 17 => ⟨S_, .f32⟩
  | 18 => ⟨S40960x512, .f32⟩
  | 19 => ⟨S40960x512, .f32⟩
  | 20 => ⟨S_, .f32⟩
  | 21 => ⟨S40960x512, .f32⟩
  | 22 => ⟨S40960x512, .f32⟩
  | 23 => ⟨S40960x512, .f32⟩
  | 24 => ⟨S40960x512, .f32⟩
  | 25 => ⟨S1x1x512x2048, .f32⟩
  | 26 => ⟨S512x2048, .f32⟩
  | 27 => ⟨S40960x2048, .f32⟩
  | 28 => ⟨S40960x2048, .f32⟩
  | 29 => ⟨S40960x2048, .f32⟩
  | 30 => ⟨S40960x2048, .f32⟩
  | 31 => ⟨S1x1x2048x1024, .f32⟩
  | 32 => ⟨S2048x1024, .f32⟩
  | 33 => ⟨S40960x1024, .f32⟩
  | 34 => ⟨S40960x512, .f32⟩
  | 35 => ⟨S40960x512, .f32⟩
  | 36 => ⟨S40960x1, .f32⟩
  | 37 => ⟨S40960x512, .f32⟩
  | 38 => ⟨S40960x512, .f32⟩
  | 39 => ⟨S_, .f32⟩
  | 40 => ⟨S40960x512, .f32⟩
  | 41 => ⟨S40960x512, .f32⟩
  | 42 => ⟨S_, .f32⟩
  | 43 => ⟨S40960x512, .f32⟩
  | 44 => ⟨S40960x512, .f32⟩
  | 45 => ⟨S40960x512, .f32⟩
  | 46 => ⟨S40960x512, .f32⟩
  | 47 => ⟨S1x1x512x2048, .f32⟩
  | 48 => ⟨S512x2048, .f32⟩
  | 49 => ⟨S40960x2048, .f32⟩
  | 50 => ⟨S40960x2048, .f32⟩
  | 51 => ⟨S40960x2048, .f32⟩
  | 52 => ⟨S40960x2048, .f32⟩
  | 53 => ⟨S1x1x2048x1024, .f32⟩
  | 54 => ⟨S2048x1024, .f32⟩
  | 55 => ⟨S40960x1024, .f32⟩
  | 56 => ⟨S40960x512, .f32⟩
  | 57 => ⟨S40960x512, .f32⟩
  | 58 => ⟨S40960x1, .f32⟩
  | 59 => ⟨S40960x512, .f32⟩
  | 60 => ⟨S40960x512, .f32⟩
  | 61 => ⟨S_, .f32⟩
  | 62 => ⟨S40960x512, .f32⟩
  | 63 => ⟨S40960x512, .f32⟩
  | 64 => ⟨S_, .f32⟩
  | 65 => ⟨S40960x512, .f32⟩
  | 66 => ⟨S40960x512, .f32⟩
  | 67 => ⟨S40960x512, .f32⟩
  | 68 => ⟨S40960x512, .f32⟩
  | 69 => ⟨S1x1x512x2048, .f32⟩
  | 70 => ⟨S512x2048, .f32⟩
  | 71 => ⟨S40960x2048, .f32⟩
  | 72 => ⟨S40960x2048, .f32⟩
  | 73 => ⟨S40960x2048, .f32⟩
  | 74 => ⟨S40960x2048, .f32⟩
  | 75 => ⟨S1x1x2048x1024, .f32⟩
  | 76 => ⟨S2048x1024, .f32⟩
  | 77 => ⟨S40960x1024, .f32⟩
  | 78 => ⟨S40960x512, .f32⟩
  | 79 => ⟨S40960x512, .f32⟩
  | 80 => ⟨S40960x1, .f32⟩
  | 81 => ⟨S40960x512, .f32⟩
  | 82 => ⟨S40960x512, .f32⟩
  | 83 => ⟨S_, .f32⟩
  | 84 => ⟨S40960x512, .f32⟩
  | 85 => ⟨S40960x512, .f32⟩
  | 86 => ⟨S_, .f32⟩
  | 87 => ⟨S40960x512, .f32⟩
  | 88 => ⟨S40960x512, .f32⟩
  | 89 => ⟨S40960x512, .f32⟩
  | 90 => ⟨S40960x512, .f32⟩
  | 91 => ⟨S1x1x512x2048, .f32⟩
  | 92 => ⟨S512x2048, .f32⟩
  | 93 => ⟨S40960x2048, .f32⟩
  | 94 => ⟨S40960x2048, .f32⟩
  | 95 => ⟨S40960x2048, .f32⟩
  | 96 => ⟨S40960x2048, .f32⟩
  | 97 => ⟨S1x1x2048x1024, .f32⟩
  | 98 => ⟨S2048x1024, .f32⟩
  | 99 => ⟨S40960x1024, .f32⟩
  | 100 => ⟨S40960x512, .f32⟩
  | 101 => ⟨S40960x512, .f32⟩
  | 102 => ⟨S40960x1, .f32⟩
  | 103 => ⟨S40960x512, .f32⟩
  | 104 => ⟨S40960x512, .f32⟩
  | 105 => ⟨S_, .f32⟩
  | 106 => ⟨S40960x512, .f32⟩
  | 107 => ⟨S40960x512, .f32⟩
  | 108 => ⟨S_, .f32⟩
  | 109 => ⟨S40960x512, .f32⟩
  | 110 => ⟨S40960x512, .f32⟩
  | 111 => ⟨S40960x512, .f32⟩
  | 112 => ⟨S40960x512, .f32⟩
  | 113 => ⟨S1x1x512x2048, .f32⟩
  | 114 => ⟨S512x2048, .f32⟩
  | 115 => ⟨S40960x2048, .f32⟩
  | 116 => ⟨S40960x2048, .f32⟩
  | 117 => ⟨S40960x2048, .f32⟩
  | 118 => ⟨S40960x2048, .f32⟩
  | 119 => ⟨S1x1x2048x1024, .f32⟩
  | 120 => ⟨S2048x1024, .f32⟩
  | 121 => ⟨S40960x1024, .f32⟩
  | 122 => ⟨S40960x512, .f32⟩
  | 123 => ⟨S40960x512, .f32⟩
  | 124 => ⟨S40960x1, .f32⟩
  | 125 => ⟨S40960x512, .f32⟩
  | 126 => ⟨S40960x512, .f32⟩
  | 127 => ⟨S_, .f32⟩
  | _ => ⟨S40960x2048, .bf16⟩

abbrev hbmTy0_2 (i : Nat) : BufTy := match i % 128 with
  | 0 => ⟨S40960x512, .f32⟩
  | 1 => ⟨S40960x512, .f32⟩
  | 2 => ⟨S_, .f32⟩
  | 3 => ⟨S40960x512, .f32⟩
  | 4 => ⟨S40960x512, .f32⟩
  | 5 => ⟨S40960x512, .f32⟩
  | 6 => ⟨S40960x512, .f32⟩
  | 7 => ⟨S1x1x512x2048, .f32⟩
  | 8 => ⟨S512x2048, .f32⟩
  | 9 => ⟨S40960x2048, .f32⟩
  | 10 => ⟨S40960x2048, .f32⟩
  | 11 => ⟨S40960x2048, .f32⟩
  | 12 => ⟨S40960x2048, .f32⟩
  | 13 => ⟨S1x1x2048x1024, .f32⟩
  | 14 => ⟨S2048x1024, .f32⟩
  | 15 => ⟨S40960x1024, .f32⟩
  | 16 => ⟨S40960x512, .f32⟩
  | 17 => ⟨S40960x512, .f32⟩
  | 18 => ⟨S40960x1, .f32⟩
  | 19 => ⟨S40960x512, .f32⟩
  | 20 => ⟨S40960x512, .f32⟩
  | 21 => ⟨S_, .f32⟩
  | 22 => ⟨S40960x512, .f32⟩
  | 23 => ⟨S40960x512, .f32⟩
  | 24 => ⟨S_, .f32⟩
  | 25 => ⟨S40960x512, .f32⟩
  | 26 => ⟨S40960x512, .f32⟩
  | 27 => ⟨S40960x512, .f32⟩
  | 28 => ⟨S40960x512, .f32⟩
  | 29 => ⟨S1x1x512x2048, .f32⟩
  | 30 => ⟨S512x2048, .f32⟩
  | 31 => ⟨S40960x2048, .f32⟩
  | 32 => ⟨S40960x2048, .f32⟩
  | 33 => ⟨S40960x2048, .f32⟩
  | 34 => ⟨S40960x2048, .f32⟩
  | 35 => ⟨S1x1x2048x1024, .f32⟩
  | 36 => ⟨S2048x1024, .f32⟩
  | 37 => ⟨S40960x1024, .f32⟩
  | 38 => ⟨S40960x512, .f32⟩
  | 39 => ⟨S40960x512, .f32⟩
  | 40 => ⟨S40960x1, .f32⟩
  | 41 => ⟨S40960x512, .f32⟩
  | 42 => ⟨S40960x512, .f32⟩
  | 43 => ⟨S_, .f32⟩
  | 44 => ⟨S40960x512, .f32⟩
  | 45 => ⟨S40960x512, .f32⟩
  | 46 => ⟨S_, .f32⟩
  | 47 => ⟨S40960x512, .f32⟩
  | 48 => ⟨S40960x512, .f32⟩
  | 49 => ⟨S40960x512, .f32⟩
  | 50 => ⟨S40960x512, .f32⟩
  | 51 => ⟨S1x1x512x2048, .f32⟩
  | 52 => ⟨S512x2048, .f32⟩
  | 53 => ⟨S40960x2048, .f32⟩
  | 54 => ⟨S40960x2048, .f32⟩
  | 55 => ⟨S40960x2048, .f32⟩
  | 56 => ⟨S40960x2048, .f32⟩
  | 57 => ⟨S1x1x2048x1024, .f32⟩
  | 58 => ⟨S2048x1024, .f32⟩
  | 59 => ⟨S40960x1024, .f32⟩
  | 60 => ⟨S40960x512, .f32⟩
  | 61 => ⟨S40960x512, .f32⟩
  | 62 => ⟨S40960x1, .f32⟩
  | 63 => ⟨S40960x512, .f32⟩
  | 64 => ⟨S40960x512, .f32⟩
  | 65 => ⟨S_, .f32⟩
  | 66 => ⟨S40960x512, .f32⟩
  | 67 => ⟨S40960x512, .f32⟩
  | 68 => ⟨S_, .f32⟩
  | 69 => ⟨S40960x512, .f32⟩
  | 70 => ⟨S40960x512, .f32⟩
  | 71 => ⟨S40960x512, .f32⟩
  | 72 => ⟨S40960x512, .f32⟩
  | 73 => ⟨S1x1x512x2048, .f32⟩
  | 74 => ⟨S512x2048, .f32⟩
  | 75 => ⟨S40960x2048, .f32⟩
  | 76 => ⟨S40960x2048, .f32⟩
  | 77 => ⟨S40960x2048, .f32⟩
  | 78 => ⟨S40960x2048, .f32⟩
  | 79 => ⟨S1x1x2048x1024, .f32⟩
  | 80 => ⟨S2048x1024, .f32⟩
  | 81 => ⟨S40960x1024, .f32⟩
  | 82 => ⟨S40960x512, .f32⟩
  | 83 => ⟨S40960x512, .f32⟩
  | 84 => ⟨S40960x1, .f32⟩
  | 85 => ⟨S40960x512, .f32⟩
  | 86 => ⟨S40960x512, .f32⟩
  | 87 => ⟨S_, .f32⟩
  | 88 => ⟨S40960x512, .f32⟩
  | 89 => ⟨S40960x512, .f32⟩
  | 90 => ⟨S_, .f32⟩
  | 91 => ⟨S40960x512, .f32⟩
  | 92 => ⟨S40960x512, .f32⟩
  | 93 => ⟨S40960x512, .f32⟩
  | 94 => ⟨S40960x512, .f32⟩
  | 95 => ⟨S1x1x512x2048, .f32⟩
  | 96 => ⟨S512x2048, .f32⟩
  | 97 => ⟨S40960x2048, .f32⟩
  | 98 => ⟨S40960x2048, .f32⟩
  | 99 => ⟨S40960x2048, .f32⟩
  | 100 => ⟨S40960x2048, .f32⟩
  | 101 => ⟨S1x1x2048x1024, .f32⟩
  | 102 => ⟨S2048x1024, .f32⟩
  | 103 => ⟨S40960x1024, .f32⟩
  | 104 => ⟨S40960x512, .f32⟩
  | 105 => ⟨S40960x512, .f32⟩
  | 106 => ⟨S40960x1, .f32⟩
  | 107 => ⟨S40960x512, .f32⟩
  | 108 => ⟨S40960x512, .f32⟩
  | 109 => ⟨S_, .f32⟩
  | 110 => ⟨S40960x512, .f32⟩
  | 111 => ⟨S40960x512, .f32⟩
  | 112 => ⟨S_, .f32⟩
  | 113 => ⟨S40960x512, .f32⟩
  | 114 => ⟨S40960x512, .f32⟩
  | 115 => ⟨S40960x512, .f32⟩
  | 116 => ⟨S40960x512, .f32⟩
  | 117 => ⟨S1x1x512x2048, .f32⟩
  | 118 => ⟨S512x2048, .f32⟩
  | 119 => ⟨S40960x2048, .f32⟩
  | 120 => ⟨S40960x2048, .f32⟩
  | 121 => ⟨S40960x2048, .f32⟩
  | 122 => ⟨S40960x2048, .f32⟩
  | 123 => ⟨S40960x2048, .bf16⟩
  | _ => ⟨S40960x2048, .bf16⟩

abbrev hbmTy (i : Nat) : BufTy := match i / 128 with
  | 0 => hbmTy0_0 i
  | 1 => hbmTy0_1 i
  | 2 => hbmTy0_2 i
  | _ => ⟨S40960x2048, .bf16⟩

abbrev bufTy : (tb : Table) → Fin (tcTables nBuf tb) → BufTy
  | .hbm, ⟨i, _⟩ => hbmTy i
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call5_v0 : Ref sig .tc := ⟨.hbm, 99, rfl⟩
abbrev main_call5_v1 : Ref sig .tc := ⟨.hbm, 100, rfl⟩
abbrev main_call5_cst : Ref sig .tc := ⟨.hbm, 101, rfl⟩
abbrev main_call5_v2 : Ref sig .tc := ⟨.hbm, 102, rfl⟩
abbrev main_call5_v3 : Ref sig .tc := ⟨.hbm, 103, rfl⟩
abbrev main_call5_cst_0 : Ref sig .tc := ⟨.hbm, 104, rfl⟩
abbrev main_call5_v4 : Ref sig .tc := ⟨.hbm, 105, rfl⟩
abbrev main_call5_v5 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_call6_v0 : Ref sig .tc := ⟨.hbm, 121, rfl⟩
abbrev main_call6_v1 : Ref sig .tc := ⟨.hbm, 122, rfl⟩
abbrev main_call6_cst : Ref sig .tc := ⟨.hbm, 123, rfl⟩
abbrev main_call6_v2 : Ref sig .tc := ⟨.hbm, 124, rfl⟩
abbrev main_call6_v3 : Ref sig .tc := ⟨.hbm, 125, rfl⟩
abbrev main_call6_cst_0 : Ref sig .tc := ⟨.hbm, 126, rfl⟩
abbrev main_call6_v4 : Ref sig .tc := ⟨.hbm, 127, rfl⟩
abbrev main_call6_v5 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_call8_v0 : Ref sig .tc := ⟨.hbm, 165, rfl⟩
abbrev main_call8_v1 : Ref sig .tc := ⟨.hbm, 166, rfl⟩
abbrev main_call8_cst : Ref sig .tc := ⟨.hbm, 167, rfl⟩
abbrev main_call8_v2 : Ref sig .tc := ⟨.hbm, 168, rfl⟩
abbrev main_call8_v3 : Ref sig .tc := ⟨.hbm, 169, rfl⟩
abbrev main_call8_cst_0 : Ref sig .tc := ⟨.hbm, 170, rfl⟩
abbrev main_call8_v4 : Ref sig .tc := ⟨.hbm, 171, rfl⟩
abbrev main_call8_v5 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_call9_v0 : Ref sig .tc := ⟨.hbm, 187, rfl⟩
abbrev main_call9_v1 : Ref sig .tc := ⟨.hbm, 188, rfl⟩
abbrev main_call9_cst : Ref sig .tc := ⟨.hbm, 189, rfl⟩
abbrev main_call9_v2 : Ref sig .tc := ⟨.hbm, 190, rfl⟩
abbrev main_call9_v3 : Ref sig .tc := ⟨.hbm, 191, rfl⟩
abbrev main_call9_cst_0 : Ref sig .tc := ⟨.hbm, 192, rfl⟩
abbrev main_call9_v4 : Ref sig .tc := ⟨.hbm, 193, rfl⟩
abbrev main_call9_v5 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_call10_v0 : Ref sig .tc := ⟨.hbm, 209, rfl⟩
abbrev main_call10_v1 : Ref sig .tc := ⟨.hbm, 210, rfl⟩
abbrev main_call10_cst : Ref sig .tc := ⟨.hbm, 211, rfl⟩
abbrev main_call10_v2 : Ref sig .tc := ⟨.hbm, 212, rfl⟩
abbrev main_call10_v3 : Ref sig .tc := ⟨.hbm, 213, rfl⟩
abbrev main_call10_cst_0 : Ref sig .tc := ⟨.hbm, 214, rfl⟩
abbrev main_call10_v4 : Ref sig .tc := ⟨.hbm, 215, rfl⟩
abbrev main_call10_v5 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_call11_v0 : Ref sig .tc := ⟨.hbm, 231, rfl⟩
abbrev main_call11_v1 : Ref sig .tc := ⟨.hbm, 232, rfl⟩
abbrev main_call11_cst : Ref sig .tc := ⟨.hbm, 233, rfl⟩
abbrev main_call11_v2 : Ref sig .tc := ⟨.hbm, 234, rfl⟩
abbrev main_call11_v3 : Ref sig .tc := ⟨.hbm, 235, rfl⟩
abbrev main_call11_cst_0 : Ref sig .tc := ⟨.hbm, 236, rfl⟩
abbrev main_call11_v4 : Ref sig .tc := ⟨.hbm, 237, rfl⟩
abbrev main_call11_v5 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_call12_v0 : Ref sig .tc := ⟨.hbm, 253, rfl⟩
abbrev main_call12_v1 : Ref sig .tc := ⟨.hbm, 254, rfl⟩
abbrev main_call12_cst : Ref sig .tc := ⟨.hbm, 255, rfl⟩
abbrev main_call12_v2 : Ref sig .tc := ⟨.hbm, 256, rfl⟩
abbrev main_call12_v3 : Ref sig .tc := ⟨.hbm, 257, rfl⟩
abbrev main_call12_cst_0 : Ref sig .tc := ⟨.hbm, 258, rfl⟩
abbrev main_call12_v4 : Ref sig .tc := ⟨.hbm, 259, rfl⟩
abbrev main_call12_v5 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_call13_v0 : Ref sig .tc := ⟨.hbm, 275, rfl⟩
abbrev main_call13_v1 : Ref sig .tc := ⟨.hbm, 276, rfl⟩
abbrev main_call13_cst : Ref sig .tc := ⟨.hbm, 277, rfl⟩
abbrev main_call13_v2 : Ref sig .tc := ⟨.hbm, 278, rfl⟩
abbrev main_call13_v3 : Ref sig .tc := ⟨.hbm, 279, rfl⟩
abbrev main_call13_cst_0 : Ref sig .tc := ⟨.hbm, 280, rfl⟩
abbrev main_call13_v4 : Ref sig .tc := ⟨.hbm, 281, rfl⟩
abbrev main_call13_v5 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_call14_v0 : Ref sig .tc := ⟨.hbm, 297, rfl⟩
abbrev main_call14_v1 : Ref sig .tc := ⟨.hbm, 298, rfl⟩
abbrev main_call14_cst : Ref sig .tc := ⟨.hbm, 299, rfl⟩
abbrev main_call14_v2 : Ref sig .tc := ⟨.hbm, 300, rfl⟩
abbrev main_call14_v3 : Ref sig .tc := ⟨.hbm, 301, rfl⟩
abbrev main_call14_cst_0 : Ref sig .tc := ⟨.hbm, 302, rfl⟩
abbrev main_call14_v4 : Ref sig .tc := ⟨.hbm, 303, rfl⟩
abbrev main_call14_v5 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_call15_v0 : Ref sig .tc := ⟨.hbm, 319, rfl⟩
abbrev main_call15_v1 : Ref sig .tc := ⟨.hbm, 320, rfl⟩
abbrev main_call15_cst : Ref sig .tc := ⟨.hbm, 321, rfl⟩
abbrev main_call15_v2 : Ref sig .tc := ⟨.hbm, 322, rfl⟩
abbrev main_call15_v3 : Ref sig .tc := ⟨.hbm, 323, rfl⟩
abbrev main_call15_cst_0 : Ref sig .tc := ⟨.hbm, 324, rfl⟩
abbrev main_call15_v4 : Ref sig .tc := ⟨.hbm, 325, rfl⟩
abbrev main_call15_v5 : Ref sig .tc := ⟨.hbm, 326, rfl⟩
abbrev main_v199 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_v203 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_call16_v0 : Ref sig .tc := ⟨.hbm, 341, rfl⟩
abbrev main_call16_v1 : Ref sig .tc := ⟨.hbm, 342, rfl⟩
abbrev main_call16_cst : Ref sig .tc := ⟨.hbm, 343, rfl⟩
abbrev main_call16_v2 : Ref sig .tc := ⟨.hbm, 344, rfl⟩
abbrev main_call16_v3 : Ref sig .tc := ⟨.hbm, 345, rfl⟩
abbrev main_call16_cst_0 : Ref sig .tc := ⟨.hbm, 346, rfl⟩
abbrev main_call16_v4 : Ref sig .tc := ⟨.hbm, 347, rfl⟩
abbrev main_call16_v5 : Ref sig .tc := ⟨.hbm, 348, rfl⟩
abbrev main_v213 : Ref sig .tc := ⟨.hbm, 349, rfl⟩
abbrev main_v214 : Ref sig .tc := ⟨.hbm, 350, rfl⟩
abbrev main_v215 : Ref sig .tc := ⟨.hbm, 351, rfl⟩
abbrev main_v216 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_v220 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_v224 : Ref sig .tc := ⟨.hbm, 360, rfl⟩
abbrev main_v225 : Ref sig .tc := ⟨.hbm, 361, rfl⟩
abbrev main_v226 : Ref sig .tc := ⟨.hbm, 362, rfl⟩
abbrev main_call17_v0 : Ref sig .tc := ⟨.hbm, 363, rfl⟩
abbrev main_call17_v1 : Ref sig .tc := ⟨.hbm, 364, rfl⟩
abbrev main_call17_cst : Ref sig .tc := ⟨.hbm, 365, rfl⟩
abbrev main_call17_v2 : Ref sig .tc := ⟨.hbm, 366, rfl⟩
abbrev main_call17_v3 : Ref sig .tc := ⟨.hbm, 367, rfl⟩
abbrev main_call17_cst_0 : Ref sig .tc := ⟨.hbm, 368, rfl⟩
abbrev main_call17_v4 : Ref sig .tc := ⟨.hbm, 369, rfl⟩
abbrev main_call17_v5 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_v235 : Ref sig .tc := ⟨.hbm, 379, rfl⟩

abbrev nD : Nat := 1
abbrev τ : Topo := Topo.v7x

variable {F : FTy → Type} [FloatOps F]
-- ==== Kernel2.lean ====
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x6144 : Shape := ⟨2, ![2048, 6144]⟩
abbrev S16384x6144 : Shape := ⟨2, ![16384, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S16384x6144, .f32⟩
  | .hbm, ⟨3, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S16384x2048 : Shape := ⟨2, ![16384, 2048]⟩
abbrev S2048x4176 : Shape := ⟨2, ![2048, 4176]⟩
abbrev S4176x2048 : Shape := ⟨2, ![4176, 2048]⟩
abbrev S16384x4096 : Shape := ⟨2, ![16384, 4096]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x4176, .f32⟩
  | .hbm, ⟨2, _⟩ => ⟨S4176x2048, .f32⟩
  | .hbm, ⟨3, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x4176 : Shape := ⟨2, ![2048, 4176]⟩
abbrev S16384x4176 : Shape := ⟨2, ![16384, 4176]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4176, .f32⟩
  | .hbm, ⟨2, _⟩ => ⟨S16384x2048, .f32⟩
  | .hbm, ⟨3, _⟩ => ⟨S16384x4176, .f32⟩
  | .hbm, ⟨4, _⟩ => ⟨S16384x4096, .f32⟩
  | .hbm, ⟨5, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S2048x96 : Shape := ⟨2, ![2048, 96]⟩
abbrev S2048x128 : Shape := ⟨2, ![2048, 128]⟩
abbrev S2048x112 : Shape := ⟨2, ![2048, 112]⟩
abbrev S4096x128 : Shape := ⟨2, ![4096, 128]⟩
abbrev S1x2048 : Shape := ⟨2, ![1, 2048]⟩
abbrev S16x1 : Shape := ⟨2, ![16, 1]⟩
abbrev S2x16384 : Shape := ⟨2, ![2, 16384]⟩
abbrev S512x2048 : Shape := ⟨2, ![512, 2048]⟩
abbrev S2x512 : Shape := ⟨2, ![2, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S16x512 : Shape := ⟨2, ![16, 512]⟩
abbrev S1x512 : Shape := ⟨2, ![1, 512]⟩

abbrev nBuf : Space → Nat
  | .hbm => 26
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x16, .f32⟩
  | .hbm, ⟨6, _⟩ => ⟨S16, .f32⟩
  | .hbm, ⟨7, _⟩ => ⟨S2048x2048, .bf16⟩
  | .hbm, ⟨8, _⟩ => ⟨S2048x16, .bf16⟩
  | .hbm, ⟨9, _⟩ => ⟨S2048x16, .f32⟩
  | .hbm, ⟨10, _⟩ => ⟨S2048x16, .f32⟩
  | .hbm, ⟨11, _⟩ => ⟨S2048x16, .bf16⟩
  | .hbm, ⟨12, _⟩ => ⟨S_, .bf16⟩
  | .hbm, ⟨13, _⟩ => ⟨S2048x96, .bf16⟩
  | .hbm, ⟨14, _⟩ => ⟨S2048x128, .bf16⟩
  | .hbm, ⟨15, _⟩ => ⟨S_, .bf16⟩
  | .hbm, ⟨16, _⟩ => ⟨S2048x112, .bf16⟩
  | .hbm, ⟨17, _⟩ => ⟨S2048x128, .bf16⟩
  | .hbm, ⟨18, _⟩ => ⟨S4096x128, .bf16⟩
  | .hbm, ⟨19, _⟩ => ⟨S1x2048, .f32⟩
  | .hbm, ⟨20, _⟩ => ⟨S1x2048, .f32⟩
  | .hbm, ⟨21, _⟩ => ⟨S16x1, .f32⟩
  | .hbm, ⟨22, _⟩ => ⟨S16384x2048, .f32⟩
  | .hbm, ⟨23, _⟩ => ⟨S16384x2048, .bf16⟩
  | .hbm, ⟨24, _⟩ => ⟨S2x16384, .i32⟩
  | .hbm, ⟨25, _⟩ => ⟨S2x16384, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S4096x128, .bf16⟩
  | .local _ .vmem, ⟨8, _⟩ => ⟨S16x1, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S2x512, .i32⟩
  | .local _ .vmem, ⟨14, _⟩ => ⟨S2x512, .i32⟩
  | .local _ .vmem, ⟨15, _⟩ => ⟨S2x512, .f32⟩
  | .local _ .vmem, ⟨16, _⟩ => ⟨S2x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x2048 : Shape := ⟨2, ![16384, 2048]⟩
abbrev S2048x2048 : Shape := ⟨2, ![2048, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x16, .f32⟩
  | .hbm, ⟨6, _⟩ => ⟨S16, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel5.lean ====
abbrev S16384x2048 : Shape := ⟨2, ![16384, 2048]⟩
abbrev S32768x2048 : Shape := ⟨2, ![32768, 2048]⟩
abbrev S2x16384 : Shape := ⟨2, ![2, 16384]⟩
abbrev S2048 : Shape := ⟨1, ![2048]⟩
abbrev S1x16384 : Shape := ⟨2, ![1, 16384]⟩
abbrev S16384 : Shape := ⟨1, ![16384]⟩
abbrev S16384x1 : Shape := ⟨2, ![16384, 1]⟩
abbrev S1x2048 : Shape := ⟨2, ![1, 2048]⟩
abbrev S512x2048 : Shape := ⟨2, ![512, 2048]⟩
abbrev S512x1 : Shape := ⟨2, ![512, 1]⟩
abbrev S512 : Shape := ⟨1, ![512]⟩

abbrev nBuf : Space → Nat
  | .hbm => 15
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S32768x2048, .bf16⟩
  | .hbm, ⟨2, _⟩ => ⟨S2x16384, .f32⟩
  | .hbm, ⟨3, _⟩ => ⟨S2048, .f32⟩
  | .hbm, ⟨4, _⟩ => ⟨S2048, .f32⟩
  | .hbm, ⟨5, _⟩ => ⟨S1x16384, .f32⟩
  | .hbm, ⟨6, _⟩ => ⟨S16384, .f32⟩
  | .hbm, ⟨7, _⟩ => ⟨S16384x1, .f32⟩
  | .hbm, ⟨8, _⟩ => ⟨S1x16384, .f32⟩
  | .hbm, ⟨9, _⟩ => ⟨S16384, .f32⟩
  | .hbm, ⟨10, _⟩ => ⟨S16384x1, .f32⟩
  | .hbm, ⟨11, _⟩ => ⟨S1x2048, .f32⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x2048 : Shape := ⟨2, ![16384, 2048]⟩
abbrev S32768x2048 : Shape := ⟨2, ![32768, 2048]⟩
abbrev S2x16384 : Shape := ⟨2, ![2, 16384]⟩
abbrev S2048 : Shape := ⟨1, ![2048]⟩
abbrev S1x16384 : Shape := ⟨2, ![1, 16384]⟩
abbrev S16384 : Shape := ⟨1, ![16384]⟩
abbrev S16384x1 : Shape := ⟨2, ![16384, 1]⟩
abbrev S_ : Shape := ⟨0, ![]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32768x2048, .bf16⟩
  | .hbm, ⟨2, _⟩ => ⟨S2x16384, .f32⟩
  | .hbm, ⟨3, _⟩ => ⟨S2048, .f32⟩
  | .hbm, ⟨4, _⟩ => ⟨S2048, .f32⟩
  | .hbm, ⟨5, _⟩ => ⟨S1x16384, .f32⟩
  | .hbm, ⟨6, _⟩ => ⟨S16384, .f32⟩
  | .hbm, ⟨7, _⟩ => ⟨S16384x1, .f32⟩
  | .hbm, ⟨8, _⟩ => ⟨S16384x2048, .bf16⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S1x16384, .f32⟩
  | .hbm, ⟨13, _⟩ => ⟨S16384, .f32⟩
  | .hbm, ⟨14, _⟩ => ⟨S16384x1, .f32⟩
  | .hbm, ⟨15, _⟩ => ⟨S16384x2048, .bf16⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S1x2048, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel6.lean ====
abbrev S16384x2048 : Shape := ⟨2, ![16384, 2048]⟩
abbrev S2048x4176 : Shape := ⟨2, ![2048, 4176]⟩
abbrev S4176x2048 : Shape := ⟨2, ![4176, 2048]⟩
abbrev S16384x128 : Shape := ⟨2, ![16384, 128]⟩
abbrev S1024x2048 : Shape := ⟨2, ![1024, 2048]⟩
abbrev S128x2048 : Shape := ⟨2, ![128, 2048]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4176, .f32⟩
  | .hbm, ⟨2, _⟩ => ⟨S4176x2048, .f32⟩
  | .hbm, ⟨3, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .f32⟩
  | .local _ .vmem, ⟨3, _⟩ => ⟨S1024x128, .f32⟩
  | .local _ .vmem, ⟨4, _⟩ => ⟨S1024x128, .f32⟩
  | .local _ .vmem, ⟨5, _⟩ => ⟨S128x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S2048x4176 : Shape := ⟨2, ![2048, 4176]⟩
abbrev S16384x4176 : Shape := ⟨2, ![16384, 4176]⟩
abbrev S16384x80 : Shape := ⟨2, ![16384, 80]⟩
abbrev S_ : Shape := ⟨0, ![]⟩
abbrev S16384x48 : Shape := ⟨2, ![16384, 48]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4176, .f32⟩
  | .hbm, ⟨2, _⟩ => ⟨S16384x2048, .f32⟩
  | .hbm, ⟨3, _⟩ => ⟨S16384x4176, .f32⟩
  | .hbm, ⟨4, _⟩ => ⟨S16384x80, .f32⟩
  | .hbm, ⟨5, _⟩ => ⟨S_, .f32⟩
  | .hbm, ⟨6, _⟩ => ⟨S16384x48, .f32⟩
  | .hbm, ⟨7, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4x4096x4096 : Shape := ⟨3, ![4, 4096, 4096]⟩
abbrev S4x4096x128 : Shape := ⟨3, ![4, 4096, 128]⟩
abbrev S4096x64 : Shape := ⟨2, ![4096, 64]⟩
abbrev S4096x32 : Shape := ⟨2, ![4096, 32]⟩
abbrev S4096x128 : Shape := ⟨2, ![4096, 128]⟩
abbrev S4x4096x2048 : Shape := ⟨3, ![4, 4096, 2048]⟩
abbrev S4x4096x512 : Shape := ⟨3, ![4, 4096, 512]⟩
abbrev S4x16x4096x128 : Shape := ⟨4, ![4, 16, 4096, 128]⟩
abbrev S1x256x4096 : Shape := ⟨3, ![1, 256, 4096]⟩
abbrev S1x256x128 : Shape := ⟨3, ![1, 256, 128]⟩
abbrev S256x128 : Shape := ⟨2, ![256, 128]⟩
abbrev S1x256x2048 : Shape := ⟨3, ![1, 256, 2048]⟩
abbrev S1x256x512 : Shape := ⟨3, ![1, 256, 512]⟩
abbrev S1x16x256x128 : Shape := ⟨4, ![1, 16, 256, 128]⟩
abbrev S1x1x256x128 : Shape := ⟨4, ![1, 1, 256, 128]⟩

abbrev nBuf : Space → Nat
  | .hbm => 18
  | .vmem => 22
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x128, .f32⟩
  | .hbm, ⟨2, _⟩ => ⟨S4096x64, .f32⟩
  | .hbm, ⟨3, _⟩ => ⟨S4096x64, .f32⟩
  | .hbm, ⟨4, _⟩ => ⟨S4096x32, .f32⟩
  | .hbm, ⟨5, _⟩ => ⟨S4096x32, .f32⟩
  | .hbm, ⟨6, _⟩ => ⟨S4096x128, .f32⟩
  | .hbm, ⟨7, _⟩ => ⟨S4096x64, .f32⟩
  | .hbm, ⟨8, _⟩ => ⟨S4096x128, .f32⟩
  | .hbm, ⟨9, _⟩ => ⟨S4096x128, .f32⟩
  | .hbm, ⟨10, _⟩ => ⟨S4096x32, .f32⟩
  | .hbm, ⟨11, _⟩ => ⟨S4096x32, .f32⟩
  | .hbm, ⟨12, _⟩ => ⟨S4096x128, .f32⟩
  | .hbm, ⟨13, _⟩ => ⟨S4x4096x2048, .bf16⟩
  | .hbm, ⟨14, _⟩ => ⟨S4x4096x512, .bf16⟩
  | .hbm, ⟨15, _⟩ => ⟨S4x4096x512, .bf16⟩
  | .hbm, ⟨16, _⟩ => ⟨S4x16x4096x128, .bf16⟩
  | .hbm, ⟨17, _⟩ => ⟨S4x4096x128, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x128, .f32⟩
  | .local _ .vmem, ⟨3, _⟩ => ⟨S1x256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x2048, .bf16⟩
  | .local _ .vmem, ⟨13, _⟩ => ⟨S1x256x2048, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x16x256x128, .bf16⟩
  | .local _ .vmem, ⟨19, _⟩ => ⟨S1x16x256x128, .bf16⟩
  | .local _ .vmem, ⟨20, _⟩ => ⟨S1x256x128, .bf16⟩
  | .local _ .vmem, ⟨21, _⟩ => ⟨S1x256x128, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S4x4096x4096 : Shape := ⟨3, ![4, 4096, 4096]⟩
abbrev S4x4096x128 : Shape := ⟨3, ![4, 4096, 128]⟩
abbrev S4096x64 : Shape := ⟨2, ![4096, 64]⟩
abbrev S4096x32 : Shape := ⟨2, ![4096, 32]⟩
abbrev S4x4096x2048 : Shape := ⟨3, ![4, 4096, 2048]⟩
abbrev S4x4096x512 : Shape := ⟨3, ![4, 4096, 512]⟩
abbrev S4x4096x1024 : Shape := ⟨3, ![4, 4096, 1024]⟩
abbrev S4x4096x16x128 : Shape := ⟨4, ![4, 4096, 16, 128]⟩
abbrev S1x4096x1x64 : Shape := ⟨4, ![1, 4096, 1, 64]⟩
abbrev S4x4096x16x64 : Shape := ⟨4, ![4, 4096, 16, 64]⟩
abbrev S_ : Shape := ⟨0, ![]⟩
abbrev S4x4096x4x128 : Shape := ⟨4, ![4, 4096, 4, 128]⟩
abbrev S4x4096x4x64 : Shape := ⟨4, ![4, 4096, 4, 64]⟩
abbrev S1x4096x1x32 : Shape := ⟨4, ![1, 4096, 1, 32]⟩
abbrev S4x4096x16x32 : Shape := ⟨4, ![4, 4096, 16, 32]⟩
abbrev S4x4096x64 : Shape := ⟨3, ![4, 4096, 64]⟩
abbrev S4x4096x1x64 : Shape := ⟨4, ![4, 4096, 1, 64]⟩
abbrev S4x4096x1x32 : Shape := ⟨4, ![4, 4096, 1, 32]⟩
abbrev S4x16x4096x64 : Shape := ⟨4, ![4, 16, 4096, 64]⟩
abbrev S4x16x4096x128 : Shape := ⟨4, ![4, 16, 4096, 128]⟩

abbrev nBuf : Space → Nat
  | .hbm => 97
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x128, .f32⟩
  | .hbm, ⟨2, _⟩ => ⟨S4096x64, .f32⟩
  | .hbm, ⟨3, _⟩ => ⟨S4096x64, .f32⟩
  | .hbm, ⟨4, _⟩ => ⟨S4096x32, .f32⟩
  | .hbm, ⟨5, _⟩ => ⟨S4096x32, .f32⟩
  | .hbm, ⟨6, _⟩ => ⟨S4x4096x4096, .f32⟩
  | .hbm, ⟨7, _⟩ => ⟨S4x4096x2048, .f32⟩
  | .hbm, ⟨8, _⟩ => ⟨S4x4096x512, .f32⟩
  | .hbm, ⟨9, _⟩ => ⟨S4x4096x512, .f32⟩
  | .hbm, ⟨10, _⟩ => ⟨S4x4096x1024, .f32⟩
  | .hbm, ⟨11, _⟩ => ⟨S4x4096x16x128, .f32⟩
  | .hbm, ⟨12, _⟩ => ⟨S1x4096x1x64, .f32⟩
  | .hbm, ⟨13, _⟩ => ⟨S1x4096x1x64, .f32⟩
  | .hbm, ⟨14, _⟩ => ⟨S4x4096x16x64, .f32⟩
  | .hbm, ⟨15, _⟩ => ⟨S4x4096x16x64, .f32⟩
  | .hbm, ⟨16, _⟩ => ⟨S4x4096x16x64, .f32⟩
  | .hbm, ⟨17, _⟩ => ⟨S4x4096x16x64, .f32⟩
  | .hbm, ⟨18, _⟩ => ⟨S4x4096x16x64, .f32⟩
  | .hbm, ⟨19, _⟩ => ⟨S4x4096x16x64, .f32⟩
  | .hbm, ⟨20, _⟩ => ⟨S4x4096x16x64, .f32⟩
  | .hbm, ⟨21, _⟩ => ⟨S4x4096x16x64, .f32⟩
  | .hbm, ⟨22, _⟩ => ⟨S4x4096x16x64, .f32⟩
  | .hbm, ⟨23, _⟩ => ⟨S4x4096x16x64, .f32⟩
  | .hbm, ⟨24, _⟩ => ⟨S4x4096x16x64, .f32⟩
  | .hbm, ⟨25, _⟩ => ⟨S4x4096x16x64, .f32⟩
  | .hbm, ⟨26, _⟩ => ⟨S4x4096x16x128, .f32⟩
  | .hbm, ⟨27, _⟩ => ⟨S4x4096x2048, .f32⟩
  | .hbm, ⟨28, _⟩ => ⟨S_, .f32⟩
  | .hbm, ⟨29, _⟩ => ⟨S4x4096x2048, .f32⟩
  | .hbm, ⟨30, _⟩ => ⟨S4x4096x2048, .f32⟩
  | .hbm, ⟨31, _⟩ => ⟨S4x4096x4x128, .f32⟩
  | .hbm, ⟨32, _⟩ => ⟨S1x4096x1x64, .f32⟩
  | .hbm, ⟨33, _⟩ => ⟨S1x4096x1x64, .f32⟩
  | .hbm, ⟨34, _⟩ => ⟨S4x4096x4x64, .f32⟩
  | .hbm, ⟨35, _⟩ => ⟨S4x4096x4x64, .f32⟩
  | .hbm, ⟨36, _⟩ => ⟨S4x4096x4x64, .f32⟩
  | .hbm, ⟨37, _⟩ => ⟨S4x4096x4x64, .f32⟩
  | .hbm, ⟨38, _⟩ => ⟨S4x4096x4x64, .f32⟩
  | .hbm, ⟨39, _⟩ => ⟨S4x4096x4x64, .f32⟩
  | .hbm, ⟨40, _⟩ => ⟨S4x4096x4x64, .f32⟩
  | .hbm, ⟨41, _⟩ => ⟨S4x4096x4x64, .f32⟩
  | .hbm, ⟨42, _⟩ => ⟨S4x4096x4x64, .f32⟩
  | .hbm, ⟨43, _⟩ => ⟨S4x4096x4x64, .f32⟩
  | .hbm, ⟨44, _⟩ => ⟨S4x4096x4x64, .f32⟩
  | .hbm, ⟨45, _⟩ => ⟨S4x4096x4x64, .f32⟩
  | .hbm, ⟨46, _⟩ => ⟨S4x4096x4x128, .f32⟩
  | .hbm, ⟨47, _⟩ => ⟨S4x4096x512, .f32⟩
  | .hbm, ⟨48, _⟩ => ⟨S4x4096x16x64, .f32⟩
  | .hbm, ⟨49, _⟩ => ⟨S1x4096x1x32, .f32⟩
  | .hbm, ⟨50, _⟩ => ⟨S1x4096x1x32, .f32⟩
  | .hbm, ⟨51, _⟩ => ⟨S4x4096x16x32, .f32⟩
  | .hbm, ⟨52, _⟩ => ⟨S4x4096x16x32, .f32⟩
  | .hbm, ⟨53, _⟩ => ⟨S4x4096x16x32, .f32⟩
  | .hbm, ⟨54, _⟩ => ⟨S4x4096x16x32, .f32⟩
  | .hbm, ⟨55, _⟩ => ⟨S4x4096x16x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S4x4096x16x32, .f32⟩
  | .hbm, ⟨60, _⟩ => ⟨S4x4096x16x32, .f32⟩
  | .hbm, ⟨61, _⟩ => ⟨S4x4096x16x32, .f32⟩
  | .hbm, ⟨62, _⟩ => ⟨S4x4096x16x32, .f32⟩
  | .hbm, ⟨63, _⟩ => ⟨S4x4096x16x64, .f32⟩
  | .hbm, ⟨64, _⟩ => ⟨S_, .f32⟩
  | .hbm, ⟨65, _⟩ => ⟨S4x4096x16x64, .f32⟩
  | .hbm, ⟨66, _⟩ => ⟨S4x4096x16x64, .f32⟩
  | .hbm, ⟨67, _⟩ => ⟨S4x4096x64, .f32⟩
  | .hbm, ⟨68, _⟩ => ⟨S4x4096x1x64, .f32⟩
  | .hbm, ⟨69, _⟩ => ⟨S1x4096x1x32, .f32⟩
  | .hbm, ⟨70, _⟩ => ⟨S1x4096x1x32, .f32⟩
  | .hbm, ⟨71, _⟩ => ⟨S4x4096x1x32, .f32⟩
  | .hbm, ⟨72, _⟩ => ⟨S4x4096x1x32, .f32⟩
  | .hbm, ⟨73, _⟩ => ⟨S4x4096x1x32, .f32⟩
  | .hbm, ⟨74, _⟩ => ⟨S4x4096x1x32, .f32⟩
  | .hbm, ⟨75, _⟩ => ⟨S4x4096x1x32, .f32⟩
  | .hbm, ⟨76, _⟩ => ⟨S4x4096x1x32, .f32⟩
  | .hbm, ⟨77, _⟩ => ⟨S4x4096x1x32, .f32⟩
  | .hbm, ⟨78, _⟩ => ⟨S4x4096x1x32, .f32⟩
  | .hbm, ⟨79, _⟩ => ⟨S4x4096x1x32, .f32⟩
  | .hbm, ⟨80, _⟩ => ⟨S4x4096x1x32, .f32⟩
  | .hbm, ⟨81, _⟩ => ⟨S4x4096x1x32, .f32⟩
  | .hbm, ⟨82, _⟩ => ⟨S4x4096x1x32, .f32⟩
  | .hbm, ⟨83, _⟩ => ⟨S4x4096x1x64, .f32⟩
  | .hbm, ⟨84, _⟩ => ⟨S4x4096x64, .f32⟩
  | .hbm, ⟨85, _⟩ => ⟨S4x16x4096x64, .f32⟩
  | .hbm, ⟨86, _⟩ => ⟨S_, .f32⟩
  | .hbm, ⟨87, _⟩ => ⟨S4x16x4096x64, .f32⟩
  | .hbm, ⟨88, _⟩ => ⟨S4x16x4096x128, .f32⟩
  | .hbm, ⟨89, _⟩ => ⟨S_, .f32⟩
  | .hbm, ⟨90, _⟩ => ⟨S4x4096x64, .f32⟩
  | .hbm, ⟨91, _⟩ => ⟨S4x4096x128, .f32⟩
  | .hbm, ⟨92, _⟩ => ⟨S4x4096x2048, .bf16⟩
  | .hbm, ⟨93, _⟩ => ⟨S4x4096x512, .bf16⟩
  | .hbm, ⟨94, _⟩ => ⟨S4x4096x512, .bf16⟩
  | .hbm, ⟨95, _⟩ => ⟨S4x16x4096x128, .bf16⟩
  | .hbm, ⟨96, _⟩ => ⟨S4x4096x128, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_0 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_1 : Ref sig .tc := ⟨.hbm, 86, rfl⟩
abbrev main_v78 : Ref sig .tc := ⟨.hbm, 87, rfl⟩
abbrev main_v79 : Ref sig .tc := ⟨.hbm, 88, rfl⟩
abbrev main_cst_2 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩

abbrev nD : Nat := 1
abbrev τ : Topo := Topo.v7x

variable {F : FTy → Type} [FloatOps F]
-- ==== Proof.Body0.lean ====
/- One grid point of the expert kernel, call 0: what the body leaves in its two weight scratches and in its output
   tile, over whatever tables, blocks and scratch contents it starts from. -/
module

public import proofs.«01_k».proof.Proof.Gen.KernelIdeal.Skeleton
public import proofs.«01_k».proof.Proof.Gen.KernelIdeal.Launch
public import Idealize.ShloMosaic.Lib.Pipeline.TableIdle
public import Idealize.ShloMosaic.Lib.VecWindow
public import Idealize.ShloMosaic.Lib.Tactic

@[expose] public section

set_option maxRecDepth 16384
set_option Elab.async false

noncomputable section

namespace Cert.Experts.Call0

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of owners and the table of valid tiles, as the body takes them. -/
abbrev tbE : Memref sig .tc .smem S40 .i32 := Memref.whole main_v1
abbrev tbV : Memref sig .tc .smem S40 .i32 := Memref.whole main_v2
/-- The two weight scratches. -/
abbrev scG : Memref sig .tc .vmem S2048x1024 .bf16 := Memref.whole cc0_scratch0
abbrev scD : Memref sig .tc .vmem S512x2048 .bf16 := Memref.whole cc0_scratch1

/-- The word of a table the body reads at the offsets `off`. -/
def wordAt (M : Memref sig .tc .smem S40 .i32) (T : M.view.ty.Contents (Elt F)) (off : Fin 1 → Nat) (h : ∀ a, off a + S1.size a ≤ S40.size a) : BitVec 32 :=
  View.readAt (Elt F) M.view (Rect.unit (s := S40) off S1.size h).toLoadRect T (Shape.Idx.first (numel1_S1.symm ▸ Nat.one_pos))

/-- Whether the point converts its weight blocks: the first point, or the owner changes. -/
def Reload (i : grid0.Coords) (TE : tbE.view.ty.Contents (Elt F)) : Prop :=
  Scalar.cmpi .ne (Scalar.extui (Scalar.ori (Scalar.cmpi .eq (BitVec.ofNat 32 (i 0).val) 0#32)
    (Scalar.cmpi .ne (wordAt tbE TE (k0_off1 i) (k0_off1_inb i)) (wordAt tbE TE (k0_off2 i) (k0_off2_inb i))))) 0#32 = 1#1

/-- Whether the tile is computed, and whether it is cleared. -/
def Computes (i : grid0.Coords) (TV : tbV.view.ty.Contents (Elt F)) : Prop :=
  k0_cond2 (wordAt tbV TV (k0_off3 i) (k0_off3_inb i)) = 1#1
def Clears (i : grid0.Coords) (TV : tbV.view.ty.Contents (Elt F)) : Prop :=
  k0_cond3 (wordAt tbV TV (k0_off4 i) (k0_off4_inb i)) = 1#1

open Classical in
/-- What the first scratch holds after the point. -/
def nextG (i : grid0.Coords) (TE : tbE.view.ty.Contents (Elt F)) (x1 : S1x1x2048x1024.Idx → Elt F .f32) (g : S2048x1024.Idx → Elt F .bf16) : S2048x1024.Idx → Elt F .bf16 :=
  if Reload i TE then k0_pay1 x1 else g

open Classical in
/-- What the second scratch holds after the point. -/
def nextD (i : grid0.Coords) (TE : tbE.view.ty.Contents (Elt F)) (x2 : S1x1x512x2048.Idx → Elt F .f32) (d : S512x2048.Idx → Elt F .bf16) : S512x2048.Idx → Elt F .bf16 :=
  if Reload i TE then k0_pay2 x2 else d

open Classical in
/-- What the output tile holds after the point. -/
def tile (i : grid0.Coords) (TV : tbV.view.ty.Contents (Elt F)) (x0 : S512x2048.Idx → Elt F .bf16) (g : S2048x1024.Idx → Elt F .bf16) (d : S512x2048.Idx → Elt F .bf16) : S512x2048.Idx → Elt F .bf16 :=
  if Computes i TV then k0_pay3 x0 g d else k0_pay4

set_option backward.proofsInPublic true in
set_option maxHeartbeats 8000000 in
/-- The body at a point whose tile is either computed or cleared. -/
theorem body_runs (c : Dev nD) (i : grid0.Coords)
    (arg3 : Memref sig .tc .vmem S512x2048 .bf16) (harg3 : arg3.IsWhole)
    (arg4 : Memref sig .tc .vmem S1x1x2048x1024 .f32) (harg4 : arg4.IsWhole)
    (arg5 : Memref sig .tc .vmem S1x1x512x2048 .f32) (harg5 : arg5.IsWhole)
    (arg6 : Memref sig .tc .vmem S512x2048 .bf16) (harg6 : arg6.IsWhole)
    (TE : tbE.view.ty.Contents (Elt F)) (TV : tbV.view.ty.Contents (Elt F))
    (x0 : S512x2048.Idx → Elt F .bf16) (x1 : S1x1x2048x1024.Idx → Elt F .f32) (x2 : S1x1x512x2048.Idx → Elt F .f32)
    (g : S2048x1024.Idx → Elt F .bf16) (d : S512x2048.Idx → Elt F .bf16)
    (hV : (Computes i TV ∧ ¬ Clears i TV) ∨ (¬ Computes i TV ∧ Clears i TV)) (K : PUnit → sProp 𝕄) :
    iprop(owns (c : Thread nD τ) arg3 fullShare x0
      ∗ owns (c : Thread nD τ) arg4 fullShare x1
      ∗ owns (c : Thread nD τ) arg5 fullShare x2
      ∗ (tbE.view.loc (c : Thread nD τ) ↦{fullShare} TE)
      ∗ (tbV.view.loc (c : Thread nD τ) ↦{fullShare} TV)
      ∗ (∃ y, owns (c : Thread nD τ) arg6 fullShare y)
      ∗ owns (c : Thread nD τ) scG fullShare g
      ∗ owns (c : Thread nD τ) scD fullShare d
      ∗ (iprop(owns (c : Thread nD τ) arg3 fullShare x0
          ∗ owns (c : Thread nD τ) arg4 fullShare x1
          ∗ owns (c : Thread nD τ) arg5 fullShare x2
          ∗ (tbE.view.loc (c : Thread nD τ) ↦{fullShare} TE)
          ∗ (tbV.view.loc (c : Thread nD τ) ↦{fullShare} TV)
          ∗ owns (c : Thread nD τ) arg6 fullShare (tile i TV x0 (nextG i TE x1 g) (nextD i TE x2 d))
          ∗ owns (c : Thread nD τ) scG fullShare (nextG i TE x1 g)
          ∗ owns (c : Thread nD τ) scD fullShare (nextD i TE x2 d)) -∗ K ⟨⟩))
      ⊢ wp frame (wpE (defs₀ (F := F)) Variants.none c none) Set.univ
          (cc0_experts i tbE (Memref.isWhole_whole _) tbV (Memref.isWhole_whole _) arg3 harg3 arg4 harg4 arg5 harg5 arg6 harg6 scG (Memref.isWhole_whole _) scD (Memref.isWhole_whole _)) K := by
  rw [cc0_experts_eq_skeleton]; unfold cc0_experts_skel
  have hS0 : scG.IsWhole := Memref.isWhole_whole _
  have hS1 : scD.IsWhole := Memref.isWhole_whole _
  have hT0 : tbE.IsWhole := Memref.isWhole_whole _
  have hT1 : tbV.IsWhole := Memref.isWhole_whole _
  conv =>
    lhs
    rw [owns_eq_rep (c : Thread nD τ) arg3, owns_eq_rep (c : Thread nD τ) arg4, owns_eq_rep (c : Thread nD τ) arg5, owns_eq_rep (c : Thread nD τ) scG _ g, owns_eq_rep (c : Thread nD τ) scD _ d]
    unfold owns
  iintro ⟨H0, H1, H2, HT0, HT1, ⟨%d3, %f3, -, HO3⟩, HS0, HS1, Hk⟩
  by_cases hR : Reload i TE <;> rcases hV with ⟨hC, hZ⟩ | ⟨hC, hZ⟩ <;>
  sl_exec! (disch := first | (guard_target = Scalar.cmpi _ _ _ = _; exact hR) | (guard_target = ¬(Scalar.cmpi _ _ _ = _); exact hR) | (guard_target = ¬(k0_cond2 _ = _); exact hC) | (guard_target = k0_cond2 _ = _; exact hC) | (guard_target = k0_cond3 _ = _; exact hZ) | (guard_target = ¬(k0_cond3 _ = _); exact hZ)) <;>
  sl_step
  all_goals
    iapply Hk
    isplitl [H0]; · iexact H0
    isplitl [H1]; · iexact H1
    isplitl [H2]; · iexact H2
    isplitl [HT0]; · iexact HT0
    isplitl [HT1]; · iexact HT1
    isplitl [HO3]
    · iexists _
      isplitr [HO3]
      rotate_left
      · iexact HO3
      · ipureintro
        unfold tile nextG nextD
        first | rw [if_pos hC] | rw [if_neg hC]
        all_goals sl_unfold_run_names
        all_goals first | (rw [if_pos hR, if_pos hR]) | (rw [if_neg hR, if_neg hR]) | skip
        all_goals rw [View.read_writes_full]
        all_goals (have hR' := hR; unfold Reload wordAt at hR')
        all_goals first | rw [dif_pos hR', dif_pos hR'] | rw [dif_neg hR', dif_neg hR'] | skip
        all_goals first | rw [View.readAt_writes_full, View.readAt_writes_full, View.readAt_rep_full, View.readAt_rep_full, View.readAt_rep_full] | rw [View.readCov_full, View.readCov_full, View.readAt_rep_full, View.readAt_rep_full, View.readAt_rep_full] | rw [View.readAt_rep_full, View.readAt_rep_full, View.readAt_rep_full] | skip
    isplitl [HS0]
    · iexists _
      isplitr [HS0]
      rotate_left
      · iexact HS0
      · ipureintro
        unfold nextG
        first | rw [if_pos hR] | rw [if_neg hR]
        all_goals sl_unfold_run_names
        all_goals (have hR' := hR; unfold Reload wordAt at hR')
        all_goals first | rw [dif_pos hR'] | rw [dif_neg hR'] | skip
        first | rw [View.read_writes_full, View.readAt_rep_full] | rw [View.read_rep]
    · iexists _
      isplitr [HS1]
      rotate_left
      · iexact HS1
      · ipureintro
        unfold nextD
        first | rw [if_pos hR] | rw [if_neg hR]
        all_goals sl_unfold_run_names
        all_goals (have hR' := hR; unfold Reload wordAt at hR')
        all_goals first | rw [dif_pos hR'] | rw [dif_neg hR'] | skip
        first | rw [View.read_writes_full, View.readAt_rep_full] | rw [View.read_rep]

end Cert.Experts.Call0
-- ==== Proof.Region0.lean ====
/- The grid of the expert kernel's call 0, over any tables it may be launched with: what each point finds and leaves, and
   the call as one step of the program. -/
module

public import proofs.«01_k».proof.Proof.Body0
public import proofs.«01_k».proof.Proof.Gen.KernelIdeal.Regions
public import Idealize.ShloMosaic.Lib.Pipeline.TableIdle
public import Idealize.ShloMosaic.Lib.Pipeline.RegionArraysTS
public import Idealize.ShloMosaic.Lib.Tactic

@[expose] public section

set_option maxRecDepth 16384
set_option Elab.async false

noncomputable section

namespace Cert.Experts.Call0

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg)

variable {F : FTy → Type} [FloatOps F]

local notation "𝕄" => MT nD τ sig Unit (Elt F) ℕ (UR sig nD τ) ℕ

/-- The position `n` of a table. -/
def at40 (n : Fin 40) : S40.Idx := fun b => ⟨n.val, by have hb : b = (0 : Fin 1) := Subsingleton.elim _ _
                                                       subst hb; exact n.isLt⟩

theorem word_eq (M : Ref sig .tc) (T : S40.Idx → BitVec 32) (off : Fin 1 → Nat) (h : ∀ a, off a + S1.size a ≤ S40.size a) (n : Fin 40) (e : off 0 = n.val) :
    T ((Rect.unit (s := S40) off S1.size h).emb (Shape.Idx.first (numel1_S1.symm ▸ Nat.one_pos))) = T (at40 n) := by
  refine congrArg T (funext fun b => Fin.ext ?_)
  have hb : b = (0 : Fin 1) := Subsingleton.elim _ _
  subst hb
  show off 0 + 1 * (Shape.Idx.first (s := S1) (numel1_S1.symm ▸ Nat.one_pos) (0 : Fin 1)).val = n.val
  have : (Shape.Idx.first (s := S1) (numel1_S1.symm ▸ Nat.one_pos) (0 : Fin 1)).val < 1 := (Shape.Idx.first (s := S1) (numel1_S1.symm ▸ Nat.one_pos) (0 : Fin 1)).isLt
  omega

theorem off1_eq : ∀ i : grid0.Coords, k0_off1 i 0 = (i 0).val := by decide +kernel
theorem off2_eq : ∀ i : grid0.Coords, k0_off2 i 0 = (i 0).val - 1 := by decide +kernel
theorem off3_eq : ∀ i : grid0.Coords, k0_off3 i 0 = (i 0).val := by decide +kernel
theorem off4_eq : ∀ i : grid0.Coords, k0_off4 i 0 = (i 0).val := by decide +kernel

variable (a0 : (pcfg0 (F := F)).Adm)

/-- The owners' words and the valid tiles' words. -/
abbrev TE : S40.Idx → BitVec 32 := a0.1 0
abbrev TV : S40.Idx → BitVec 32 := a0.1 1

abbrev cfgA : Pipeline.Cfg sig Λ₀ := cfg0 (F := F) a0
abbrev crd (t : Fin (cfgA a0).N) : grid0.Coords := (cfgA a0).grid.coords t
abbrev ms0 (t : Fin (cfgA a0).N) : Memref sig .tc .vmem S512x2048 .bf16 := spec0_0.stage ((cfgA a0).slots t (0 : Fin 4))
abbrev hs0 (t : Fin (cfgA a0).N) : (ms0 a0 t).IsWhole := hstage0_0 (((cfgA a0).slots t (0 : Fin 4)).cast nbuf0_0)
abbrev ms1 (t : Fin (cfgA a0).N) : Memref sig .tc .vmem S1x1x2048x1024 .f32 := spec0_1.stage ((cfgA a0).slots t (1 : Fin 4))
abbrev hs1 (t : Fin (cfgA a0).N) : (ms1 a0 t).IsWhole := hstage0_1 (((cfgA a0).slots t (1 : Fin 4)).cast nbuf0_1)
abbrev ms2 (t : Fin (cfgA a0).N) : Memref sig .tc .vmem S1x1x512x2048 .f32 := spec0_2.stage ((cfgA a0).slots t (2 : Fin 4))
abbrev hs2 (t : Fin (cfgA a0).N) : (ms2 a0 t).IsWhole := hstage0_2 (((cfgA a0).slots t (2 : Fin 4)).cast nbuf0_2)
abbrev ms3 (t : Fin (cfgA a0).N) : Memref sig .tc .vmem S512x2048 .bf16 := spec0_3.stage ((cfgA a0).slots t (3 : Fin 4))
abbrev hs3 (t : Fin (cfgA a0).N) : (ms3 a0 t).IsWhole := hstage0_3 (((cfgA a0).slots t (3 : Fin 4)).cast nbuf0_3)

/-- The word of the owners, of the valid tiles, at a point. -/
theorem wordE1 (i : grid0.Coords) : wordAt (F := F) tbE (TE a0) (k0_off1 i) (k0_off1_inb i) = TE a0 (at40 (i 0)) :=
  word_eq main_v1 (TE a0) _ _ (i 0) (off1_eq i)
theorem wordE2 (i : grid0.Coords) : wordAt (F := F) tbE (TE a0) (k0_off2 i) (k0_off2_inb i) = TE a0 (at40 ⟨(i 0).val - 1, lt_of_le_of_lt (Nat.sub_le _ _) (i 0).isLt⟩) :=
  word_eq main_v1 (TE a0) _ _ _ (off2_eq i)
theorem wordV3 (i : grid0.Coords) : wordAt (F := F) tbV (TV a0) (k0_off3 i) (k0_off3_inb i) = TV a0 (at40 (i 0)) :=
  word_eq main_v2 (TV a0) _ _ (i 0) (off3_eq i)
theorem wordV4 (i : grid0.Coords) : wordAt (F := F) tbV (TV a0) (k0_off4 i) (k0_off4_inb i) = TV a0 (at40 (i 0)) :=
  word_eq main_v2 (TV a0) _ _ (i 0) (off4_eq i)

theorem cond2_zero : k0_cond2 0#32 = 0#1 := by decide
theorem cond3_zero : k0_cond3 0#32 = 1#1 := by decide
theorem cond2_one : k0_cond2 1#32 = 1#1 := by decide
theorem cond3_one : k0_cond3 1#32 = 0#1 := by decide

/-- Every tile is marked as empty or as filled. -/
def Marked : Prop := ∀ n : Fin 40, TV a0 (at40 n) = 0#32 ∨ TV a0 (at40 n) = 1#32

variable {a0}

theorem computes_iff (i : grid0.Coords) : Computes (F := F) i (TV a0) ↔ k0_cond2 (TV a0 (at40 (i 0))) = 1#1 := by
  unfold Computes; rw [wordV3]
theorem clears_iff (i : grid0.Coords) : Clears (F := F) i (TV a0) ↔ k0_cond3 (TV a0 (at40 (i 0))) = 1#1 := by
  unfold Clears; rw [wordV4]

theorem marked_cases (h : Marked a0) (i : grid0.Coords) :
    (Computes (F := F) i (TV a0) ∧ ¬ Clears (F := F) i (TV a0)) ∨ (¬ Computes (F := F) i (TV a0) ∧ Clears (F := F) i (TV a0)) := by
  rw [computes_iff, clears_iff]
  rcases h (i 0) with e | e <;> rw [e]
  · right; rw [cond2_zero, cond3_zero]; decide
  · left; rw [cond2_one, cond3_one]; decide

theorem atD_eq (i : grid0.Coords) (off : Fin 1 → Nat) (n : Fin 40) (e : off 0 = n.val) :
    (Pipeline.Prefetch.Contents.atD (pre := pre0) a0.1 1 off : BitVec 32) = TV a0 (at40 n) := by
  unfold Pipeline.Prefetch.Contents.atD
  rw [dif_pos]
  · refine congrArg (TV a0) (funext fun b : Fin 1 => Fin.ext ?_)
    have hb : b = (0 : Fin 1) := Subsingleton.elim _ _
    subst hb
    exact e
  · intro (b : Fin 1)
    have hb : b = (0 : Fin 1) := Subsingleton.elim _ _
    subst hb
    show off 0 < 40
    rw [e]; exact n.isLt

theorem marked_idle (h : Marked a0) (i : grid0.Coords) : (cfgA a0).idle (3 : Fin 4) i = false := by
  show (!(k0_cond2 (Pipeline.Prefetch.Contents.atD (pre := pre0) a0.1 1 (k0_off3 i)) == 1#1) && !(k0_cond3 (Pipeline.Prefetch.Contents.atD (pre := pre0) a0.1 1 (k0_off4 i)) == 1#1)) = false
  rw [atD_eq i _ (i 0) (off3_eq i), atD_eq i _ (i 0) (off4_eq i)]
  rcases h (i 0) with e | e <;> rw [e]
  · rw [cond2_zero, cond3_zero]; decide
  · rw [cond2_one, cond3_one]; decide

variable (a0) (W : Dev nD → Valuation τ sig (Elt F))

/-- Window `w`'s block at point `t`, read off the array the call is entered with. -/
def blkOf (c : Dev nD) (w : Fin (cfgA a0).W) (t : Fin (cfgA a0).N) : (((cfgA a0).win w).xblock ((cfgA a0).grid.coords t)).Idx → Elt F ((cfgA a0).win w).elt :=
  (((cfgA a0).win w).blk t).view.read (Elt F) (W c (Proc.devRef .tc (Pipeline.arrRef spec0 w)))

/-- The two weight blocks, rounded, at a point. -/
def wG (c : Dev nD) (t : Fin (cfgA a0).N) : S2048x1024.Idx → Elt F .bf16 := k0_pay1 (blkOf a0 W c (1 : Fin 4) t)
def wD (c : Dev nD) (t : Fin (cfgA a0).N) : S512x2048.Idx → Elt F .bf16 := k0_pay2 (blkOf a0 W c (2 : Fin 4) t)

/-- The tile the point leaves. -/
def tileOf (c : Dev nD) (t : Fin (cfgA a0).N) : S512x2048.Idx → Elt F .bf16 :=
  tile (crd a0 t) (TV a0) (blkOf a0 W c (0 : Fin 4) t) (wG a0 W c t) (wD a0 W c t)

/-- Between two points: the scratches hold the rounded weight blocks of the point before. -/
def Phi (c : Dev nD) (t : Fin ((cfgA a0).N + 1)) : sProp 𝕄 :=
  iprop((∃ g d, ⌜∀ s : Fin (cfgA a0).N, s.val + 1 = t.val → g = wG a0 W c s ∧ d = wD a0 W c s⌝
      ∗ owns (c : Thread nD τ) scG fullShare g ∗ owns (c : Thread nD τ) scD fullShare d)
    ∗ (tbE.view.loc (c : Thread nD τ) ↦{fullShare} TE a0)
    ∗ (tbV.view.loc (c : Thread nD τ) ↦{fullShare} TV a0)
    ∗ iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)))

/-- The call's proof data on core `c`. -/
def dat (c : Dev nD) : Dat τ (Elt F) Unit ℕ (UR sig nD τ) ℕ (cfgA a0) c where
  A w := W c (Proc.devRef .tc (Pipeline.arrRef spec0 w))
  after w t := match w with
    | ⟨0, _⟩ => blkOf a0 W c (0 : Fin 4) t
    | ⟨1, _⟩ => blkOf a0 W c (1 : Fin 4) t
    | ⟨2, _⟩ => blkOf a0 W c (2 : Fin 4) t
    | ⟨3, _⟩ => tileOf a0 W c t
  Φ t := Phi a0 W c t
  q _ := fullShare
  owed _ := 0

theorem after_0 (c : Dev nD) (t : Fin (cfgA a0).N) : (dat a0 W c).after (0 : Fin 4) t = blkOf a0 W c (0 : Fin 4) t := rfl
theorem after_1 (c : Dev nD) (t : Fin (cfgA a0).N) : (dat a0 W c).after (1 : Fin 4) t = blkOf a0 W c (1 : Fin 4) t := rfl
theorem after_2 (c : Dev nD) (t : Fin (cfgA a0).N) : (dat a0 W c).after (2 : Fin 4) t = blkOf a0 W c (2 : Fin 4) t := rfl
theorem after_3 (c : Dev nD) (t : Fin (cfgA a0).N) : (dat a0 W c).after (3 : Fin 4) t = tileOf a0 W c t := rfl

theorem before_0 (c : Dev nD) (t : Fin (cfgA a0).N) (d) : (dat a0 W c).before (0 : Fin 4) t d = blkOf a0 W c (0 : Fin 4) t :=
  ((dat a0 W c).before_in_eq_fetched (0 : Fin 4) rfl (fun _ => rfl) (fun _ _ _ => rfl) (fun t => by rw [after_0]; unfold Dat.blockOf blkOf; rfl) t d).trans
    (by unfold Dat.fetched Dat.blockOf blkOf; rfl)
theorem before_1 (c : Dev nD) (t : Fin (cfgA a0).N) (d) : (dat a0 W c).before (1 : Fin 4) t d = blkOf a0 W c (1 : Fin 4) t :=
  ((dat a0 W c).before_in_eq_fetched (1 : Fin 4) rfl (fun _ => rfl) (fun _ _ _ => rfl) (fun t => by rw [after_1]; unfold Dat.blockOf blkOf; rfl) t d).trans
    (by unfold Dat.fetched Dat.blockOf blkOf; rfl)
theorem before_2 (c : Dev nD) (t : Fin (cfgA a0).N) (d) : (dat a0 W c).before (2 : Fin 4) t d = blkOf a0 W c (2 : Fin 4) t :=
  ((dat a0 W c).before_in_eq_fetched (2 : Fin 4) rfl (fun _ => rfl) (fun _ _ _ => rfl) (fun t => by rw [after_2]; unfold Dat.blockOf blkOf; rfl) t d).trans
    (by unfold Dat.fetched Dat.blockOf blkOf; rfl)

theorem coords_val : ∀ t : Fin grid0.N, ((grid0.coords t) 0).val = t.val := by decide +kernel

theorem transform1_eq (pf : pre0.Contents (Elt F)) (i : grid0.Coords) : cc0_transform_1 k0_off1_inb numel1_S1 pf i = ![0, ((pf 0 : S40.Idx → BitVec 32) (at40 (i 0))).toNat, 0, 0] := by
  rw [← word_eq main_v1 (pf 0) _ (k0_off1_inb i) (i 0) (off1_eq i)]; rfl
theorem transform2_eq (pf : pre0.Contents (Elt F)) (i : grid0.Coords) : cc0_transform_2 k0_off1_inb numel1_S1 pf i = ![0, ((pf 0 : S40.Idx → BitVec 32) (at40 (i 0))).toNat, 0, 0] := by
  rw [← word_eq main_v1 (pf 0) _ (k0_off1_inb i) (i 0) (off1_eq i)]; rfl

/-- Tables whose owners are experts may be launched with. -/
theorem ok_of (pf : pre0.Contents (Elt F)) (h : ∀ n : Fin 40, ((pf 0 : S40.Idx → BitVec 32) (at40 n)).toNat < 16) : ok0 pf := by
  constructor
  · intro i
    refine ⟨?_, .inl rfl⟩
    rw [transform1_eq]
    have := h (i 0)
    generalize ((pf 0 : S40.Idx → BitVec 32) (at40 (i 0))).toNat = e at this
    exact fun b => match b with
      | 0 => by show (0 + 1) * 1 ≤ 2; omega
      | 1 => by show (e + 1) * 1 ≤ 16; omega
      | 2 => by show (0 + 1) * 2048 ≤ 2048; omega
      | 3 => by show (0 + 1) * 1024 ≤ 1024; omega
  · intro i
    refine ⟨?_, .inl rfl⟩
    rw [transform2_eq]
    have := h (i 0)
    generalize ((pf 0 : S40.Idx → BitVec 32) (at40 (i 0))).toNat = e at this
    exact fun b => match b with
      | 0 => by show (0 + 1) * 1 ≤ 2; omega
      | 1 => by show (e + 1) * 1 ≤ 16; omega
      | 2 => by show (0 + 1) * 512 ≤ 512; omega
      | 3 => by show (0 + 1) * 2048 ≤ 2048; omega

/-- The element of the array a weight block's element is. -/
theorem blk1_at (c : Dev nD) (t : Fin (cfgA a0).N) (j : S1x1x2048x1024.Idx) :
    ∃ p : S2x16x2048x1024.Idx, blkOf a0 W c (1 : Fin 4) t j = W c (Proc.devRef .tc main_arg1) p
      ∧ ∀ b, (p b).val = (![0, (TE a0 (at40 (crd a0 t 0))).toNat, 0, 0] : Fin 4 → Nat) b * S1x1x2048x1024.size b + 1 * (j b).val := by
  rw [← transform1_eq]
  exact ⟨(((cfgA a0).win (1 : Fin 4)).rect t).emb j, rfl, fun b => rfl⟩
theorem blk2_at (c : Dev nD) (t : Fin (cfgA a0).N) (j : S1x1x512x2048.Idx) :
    ∃ p : S2x16x512x2048.Idx, blkOf a0 W c (2 : Fin 4) t j = W c (Proc.devRef .tc main_arg2) p
      ∧ ∀ b, (p b).val = (![0, (TE a0 (at40 (crd a0 t 0))).toNat, 0, 0] : Fin 4 → Nat) b * S1x1x512x2048.size b + 1 * (j b).val := by
  rw [← transform2_eq]
  exact ⟨(((cfgA a0).win (2 : Fin 4)).rect t).emb j, rfl, fun b => rfl⟩

/-- A weight block depends on the owner alone. -/
theorem blk1_eq (c : Dev nD) (s t : Fin (cfgA a0).N) (h : TE a0 (at40 (crd a0 s 0)) = TE a0 (at40 (crd a0 t 0))) :
    wG a0 W c s = wG a0 W c t := by
  refine congrArg k0_pay1 (funext fun j => ?_)
  obtain ⟨p, e, hp⟩ := blk1_at a0 W c s j
  obtain ⟨p', e', hp'⟩ := blk1_at a0 W c t j
  rw [e, e']
  refine congrArg _ (funext fun b => Fin.ext ?_)
  rw [hp, hp', h]
theorem blk2_eq (c : Dev nD) (s t : Fin (cfgA a0).N) (h : TE a0 (at40 (crd a0 s 0)) = TE a0 (at40 (crd a0 t 0))) :
    wD a0 W c s = wD a0 W c t := by
  refine congrArg k0_pay2 (funext fun j => ?_)
  obtain ⟨p, e, hp⟩ := blk2_at a0 W c s j
  obtain ⟨p', e', hp'⟩ := blk2_at a0 W c t j
  rw [e, e']
  refine congrArg _ (funext fun b => Fin.ext ?_)
  rw [hp, hp', h]

theorem or_bits : ∀ p q : BitVec 1, (p = 1#1 ∨ q = 1#1) → Scalar.cmpi .ne ((Scalar.extui (Scalar.ori p q)) : BitVec 32) 0#32 = 1#1 := by decide

/-- A point that does not convert its weights is not the first, and has the owner of the point before. -/
theorem not_reload (i : grid0.Coords) (h : ¬ Reload (F := F) i (TE a0)) :
    0 < (i 0).val ∧ TE a0 (at40 ⟨(i 0).val - 1, lt_of_le_of_lt (Nat.sub_le _ _) (i 0).isLt⟩) = TE a0 (at40 (i 0)) := by
  unfold Reload at h
  rw [wordE1, wordE2] at h
  generalize TE a0 (at40 ⟨(i 0).val - 1, lt_of_le_of_lt (Nat.sub_le _ _) (i 0).isLt⟩) = x at h ⊢
  generalize TE a0 (at40 (i 0)) = y at h ⊢
  by_cases h0 : (i 0).val = 0
  · exfalso; apply h
    rw [h0]
    exact or_bits _ _ (.inl rfl)
  · refine ⟨Nat.pos_of_ne_zero h0, ?_⟩
    by_contra hxy
    apply h
    refine or_bits _ _ (.inr ?_)
    show BitVec.ofBool (y != x) = 1#1
    rw [bne_iff_ne.mpr (Ne.symm hxy)]; rfl

theorem next_eq (c : Dev nD) (t : Fin (cfgA a0).N) (g : S2048x1024.Idx → Elt F .bf16) (d : S512x2048.Idx → Elt F .bf16)
    (h : ∀ s : Fin (cfgA a0).N, s.val + 1 = t.val → g = wG a0 W c s ∧ d = wD a0 W c s) :
    nextG (crd a0 t) (TE a0) (blkOf a0 W c (1 : Fin 4) t) g = wG a0 W c t
      ∧ nextD (crd a0 t) (TE a0) (blkOf a0 W c (2 : Fin 4) t) d = wD a0 W c t := by
  unfold nextG nextD
  by_cases hR : Reload (F := F) (crd a0 t) (TE a0)
  · rw [if_pos hR, if_pos hR]; exact ⟨rfl, rfl⟩
  · rw [if_neg hR, if_neg hR]
    obtain ⟨hpos, heq⟩ := not_reload a0 (crd a0 t) hR
    have hv : ((crd a0 t) 0).val = t.val := coords_val t
    have hlt : t.val - 1 < (cfgA a0).N := lt_of_le_of_lt (Nat.sub_le _ _) t.isLt
    obtain ⟨e1, e2⟩ := h ⟨t.val - 1, hlt⟩ (by show t.val - 1 + 1 = t.val; omega)
    have hw : TE a0 (at40 (crd a0 ⟨t.val - 1, hlt⟩ 0)) = TE a0 (at40 (crd a0 t 0)) := by
      rw [← heq]
      refine congrArg (fun n => TE a0 (at40 n)) (Fin.ext ?_)
      show ((grid0.coords ⟨t.val - 1, hlt⟩) 0).val = ((crd a0 t) 0).val - 1
      rw [coords_val, hv]
    exact ⟨e1.trans (blk1_eq a0 W c _ _ hw), e2.trans (blk2_eq a0 W c _ _ hw)⟩

set_option maxHeartbeats 4000000 in
/-- The body at a generic point. -/
theorem sound_body (hM : Marked a0) (c : Dev nD) (t : Fin (cfgA a0).N) :
    iprop((dat a0 W c).Φ t.castSucc ∗ (dat a0 W c).owesAt () t.castSucc
        ∗ (∃ d, owns (c : Thread nD τ) (ms0 a0 t) fullShare ((dat a0 W c).before (0 : Fin 4) t d))
        ∗ (∃ d, owns (c : Thread nD τ) (ms1 a0 t) fullShare ((dat a0 W c).before (1 : Fin 4) t d))
        ∗ (∃ d, owns (c : Thread nD τ) (ms2 a0 t) fullShare ((dat a0 W c).before (2 : Fin 4) t d))
        ∗ (∃ d, owns (c : Thread nD τ) (ms3 a0 t) fullShare ((dat a0 W c).before (3 : Fin 4) t d)))
      ⊢ wp frame (wpE (defs₀ (F := F)) Variants.none c none) Set.univ
          (cc0_experts (crd a0 t) tbE (Memref.isWhole_whole _) tbV (Memref.isWhole_whole _) (ms0 a0 t) (hs0 a0 t) (ms1 a0 t) (hs1 a0 t) (ms2 a0 t) (hs2 a0 t) (ms3 a0 t) (hs3 a0 t) scG (Memref.isWhole_whole _) scD (Memref.isWhole_whole _)) fun _ =>
          iprop((dat a0 W c).Φ t.succ ∗ (dat a0 W c).owesAt () t.succ
            ∗ bigSep Finset.univ fun w : Fin (cfgA a0).W =>
                match (cfgA a0).idle w ((cfgA a0).grid.coords t) with
                | true =>
                  match ((cfgA a0).win w).flush t with
                  | false => iprop(∃ d, owns (c : Thread nD τ) (((cfgA a0).win w).stage ((cfgA a0).slots t w)) fullShare ((dat a0 W c).before w t d))
                  | true => owns (c : Thread nD τ) (((cfgA a0).win w).stage ((cfgA a0).slots t w)) fullShare ((dat a0 W c).after w t)
                | false => owns (c : Thread nD τ) (((cfgA a0).win w).stage ((cfgA a0).slots t w)) fullShare ((dat a0 W c).after w t)) := by
  rw [bigSep_W0]
  have i3 := marked_idle hM ((cfgA a0).grid.coords t)
  rewrite [i3]
  simp only [before_0, before_1, before_2, after_0, after_1, after_2, after_3]
  rewrite [show (dat a0 W c).Φ t.succ = Phi a0 W c t.succ from rfl, show (dat a0 W c).Φ t.castSucc = Phi a0 W c t.castSucc from rfl,
    show (dat a0 W c).owesAt () t.succ = (dat a0 W c).owesAt () t.castSucc from rfl]
  unfold Phi
  iintro ⟨⟨⟨%g, %d, %hgd, HG, HD⟩, HT0, HT1, HR⟩, Ho, ⟨%d0, H0⟩, ⟨%d1, H1⟩, ⟨%d2, H2⟩, ⟨%d3, H3⟩⟩
  obtain ⟨eG, eD⟩ := next_eq a0 W c t g d hgd
  iapply (body_runs c (crd a0 t) (ms0 a0 t) (hs0 a0 t) (ms1 a0 t) (hs1 a0 t) (ms2 a0 t) (hs2 a0 t) (ms3 a0 t) (hs3 a0 t) (TE a0) (TV a0)
    (blkOf a0 W c (0 : Fin 4) t) (blkOf a0 W c (1 : Fin 4) t) (blkOf a0 W c (2 : Fin 4) t) g d (marked_cases hM (crd a0 t)) _)
  rw [eG, eD]
  isplitl [H0]; · iexact H0
  isplitl [H1]; · iexact H1
  isplitl [H2]; · iexact H2
  isplitl [HT0]; · iexact HT0
  isplitl [HT1]; · iexact HT1
  isplitl [H3]; · iexists _; iexact H3
  isplitl [HG]; · iexact HG
  isplitl [HD]; · iexact HD
  iintro ⟨H0, H1, H2, HT0, HT1, H3, HG, HD⟩
  isplitl [HG HD HT0 HT1 HR]
  · isplitl [HG HD]
    · iexists _; iexists _; isplitr; swap
      · isplitl [HG]; · iexact HG
        iexact HD
      · ipureintro
        intro s hs
        have hst : s = t := Fin.ext (by have : s.val + 1 = t.val + 1 := hs; omega)
        subst hst; exact ⟨rfl, rfl⟩
    isplitl [HT0]; · iexact HT0
    isplitl [HT1]; · iexact HT1
    iexact HR
  isplitl [Ho]; · iexact Ho
  isplitl [H0]; · iexact H0
  isplitl [H1]; · iexact H1
  isplitl [H2]; · iexact H2
  iexact H3

theorem body_obligation (hM : Marked a0) (c : Dev nD) : BodyObligation (dat a0 W c) (defs₀ (F := F)) Variants.none () Set.univ := fun t => by
  rw [bigSep_W0]
  exact sound_body a0 W hM c t

theorem share_eq (c : Dev nD) (w : Fin (cfgA a0).W) : (dat a0 W c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v1) ↦{q 0} v 0) ∗ (((c : Thread nD τ).loc main_v2) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(iprop(Pipeline.scopedRest spec0 c ∗ BI.emp) ∗ Pipeline.prefHeld pre0 c (fun _ => fullShare) a0.1) ⊢ (dat a0 W c).Φ 0 := by
  rw [tables_eq, scopedRest0_eq, show (dat a0 W c).Φ 0 = Phi a0 W c 0 from rfl]
  unfold Phi
  iintro ⟨⟨⟨⟨%g, HG⟩, ⟨%d, HD⟩, R2, R3, R4, R5, R6, R7, R8, R9, R10, R11⟩, -⟩, ⟨HT0, HT1⟩⟩
  isplitl [HG HD]
  · iexists g; iexists d
    isplitr
    · ipureintro; intro s hs; exact absurd hs (Nat.succ_ne_zero _)
    rw [owns_whole (c : Thread nD τ) cc0_scratch0, owns_whole (c : Thread nD τ) cc0_scratch1]
    isplitl [HG]; · iexact HG
    iexact HD
  isplitl [HT0]; · iexact HT0
  isplitl [HT1]; · iexact HT1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

theorem phi_exit (c : Dev nD) : (dat a0 W c).Φ (Fin.last (cfgA a0).N) ⊢ iprop(iprop(Pipeline.scopedRest spec0 c ∗ BI.emp) ∗ Pipeline.prefHeld pre0 c (fun _ => fullShare) a0.1) := by
  rw [tables_eq, scopedRest0_eq, show (dat a0 W c).Φ (Fin.last (cfgA a0).N) = Phi a0 W c (Fin.last _) from rfl]
  unfold Phi
  iintro ⟨⟨%g, %d, -, HG, HD⟩, HT0, HT1, ⟨R2, R3, R4, R5, R6, R7, R8, R9, R10, R11⟩⟩
  isplitr [HT0 HT1]
  · isplitl
    · isplitl [HG]; · iexists g; rw [← owns_whole (c : Thread nD τ) cc0_scratch0]; iexact HG
      isplitl [HD]; · iexists d; rw [← owns_whole (c : Thread nD τ) cc0_scratch1]; iexact HD
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iempintro
  isplitl [HT0]; · iexact HT0
  iexact HT1

end Cert.Experts.Call0
-- ==== Proof.Body1.lean ====
/- One grid point of the expert kernel, call 1: what the body leaves in its two weight scratches and in its output
   tile, over whatever tables, blocks and scratch contents it starts from. -/
module

public import proofs.«01_k».proof.Proof.Gen.KernelIdeal.Skeleton
public import proofs.«01_k».proof.Proof.Gen.KernelIdeal.Launch
public import Idealize.ShloMosaic.Lib.Pipeline.TableIdle
public import Idealize.ShloMosaic.Lib.VecWindow
public import Idealize.ShloMosaic.Lib.Tactic

@[expose] public section

set_option maxRecDepth 16384
set_option Elab.async false

noncomputable section

namespace Cert.Experts.Call1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of owners and the table of valid tiles, as the body takes them. -/
abbrev tbE : Memref sig .tc .smem S40 .i32 := Memref.whole main_v5
abbrev tbV : Memref sig .tc .smem S40 .i32 := Memref.whole main_v6
/-- The two weight scratches. -/
abbrev scG : Memref sig .tc .vmem S2048x1024 .bf16 := Memref.whole cc1_scratch0
abbrev scD : Memref sig .tc .vmem S512x2048 .bf16 := Memref.whole cc1_scratch1

/-- The word of a table the body reads at the offsets `off`. -/
def wordAt (M : Memref sig .tc .smem S40 .i32) (T : M.view.ty.Contents (Elt F)) (off : Fin 1 → Nat) (h : ∀ a, off a + S1.size a ≤ S40.size a) : BitVec 32 :=
  View.readAt (Elt F) M.view (Rect.unit (s := S40) off S1.size h).toLoadRect T (Shape.Idx.first (numel1_S1.symm ▸ Nat.one_pos))

/-- Whether the point converts its weight blocks: the first point, or the owner changes. -/
def Reload (i : grid1.Coords) (TE : tbE.view.ty.Contents (Elt F)) : Prop :=
  Scalar.cmpi .ne (Scalar.extui (Scalar.ori (Scalar.cmpi .eq (BitVec.ofNat 32 (i 0).val) 0#32)
    (Scalar.cmpi .ne (wordAt tbE TE (k1_off1 i) (k1_off1_inb i)) (wordAt tbE TE (k1_off2 i) (k1_off2_inb i))))) 0#32 = 1#1

/-- Whether the tile is computed, and whether it is cleared. -/
def Computes (i : grid1.Coords) (TV : tbV.view.ty.Contents (Elt F)) : Prop :=
  k1_cond2 (wordAt tbV TV (k1_off3 i) (k1_off3_inb i)) = 1#1
def Clears (i : grid1.Coords) (TV : tbV.view.ty.Contents (Elt F)) : Prop :=
  k1_cond3 (wordAt tbV TV (k1_off4 i) (k1_off4_inb i)) = 1#1

open Classical in
/-- What the first scratch holds after the point. -/
def nextG (i : grid1.Coords) (TE : tbE.view.ty.Contents (Elt F)) (x1 : S1x1x2048x1024.Idx → Elt F .f32) (g : S2048x1024.Idx → Elt F .bf16) : S2048x1024.Idx → Elt F .bf16 :=
  if Reload i TE then k1_pay1 x1 else g

open Classical in
/-- What the second scratch holds after the point. -/
def nextD (i : grid1.Coords) (TE : tbE.view.ty.Contents (Elt F)) (x2 : S1x1x512x2048.Idx → Elt F .f32) (d : S512x2048.Idx → Elt F .bf16) : S512x2048.Idx → Elt F .bf16 :=
  if Reload i TE then k1_pay2 x2 else d

open Classical in
/-- What the output tile holds after the point. -/
def tile (i : grid1.Coords) (TV : tbV.view.ty.Contents (Elt F)) (x0 : S512x2048.Idx → Elt F .bf16) (g : S2048x1024.Idx → Elt F .bf16) (d : S512x2048.Idx → Elt F .bf16) : S512x2048.Idx → Elt F .bf16 :=
  if Computes i TV then k1_pay3 x0 g d else k1_pay4

set_option backward.proofsInPublic true in
set_option maxHeartbeats 8000000 in
/-- The body at a point whose tile is either computed or cleared. -/
theorem body_runs (c : Dev nD) (i : grid1.Coords)
    (arg3 : Memref sig .tc .vmem S512x2048 .bf16) (harg3 : arg3.IsWhole)
    (arg4 : Memref sig .tc .vmem S1x1x2048x1024 .f32) (harg4 : arg4.IsWhole)
    (arg5 : Memref sig .tc .vmem S1x1x512x2048 .f32) (harg5 : arg5.IsWhole)
    (arg7 : Memref sig .tc .vmem S512x2048 .bf16) (harg7 : arg7.IsWhole)
    (TE : tbE.view.ty.Contents (Elt F)) (TV : tbV.view.ty.Contents (Elt F))
    (x0 : S512x2048.Idx → Elt F .bf16) (x1 : S1x1x2048x1024.Idx → Elt F .f32) (x2 : S1x1x512x2048.Idx → Elt F .f32)
    (g : S2048x1024.Idx → Elt F .bf16) (d : S512x2048.Idx → Elt F .bf16)
    (hV : (Computes i TV ∧ ¬ Clears i TV) ∨ (¬ Computes i TV ∧ Clears i TV)) (K : PUnit → sProp 𝕄) :
    iprop(owns (c : Thread nD τ) arg3 fullShare x0
      ∗ owns (c : Thread nD τ) arg4 fullShare x1
      ∗ owns (c : Thread nD τ) arg5 fullShare x2
      ∗ (tbE.view.loc (c : Thread nD τ) ↦{fullShare} TE)
      ∗ (tbV.view.loc (c : Thread nD τ) ↦{fullShare} TV)
      ∗ (∃ y, owns (c : Thread nD τ) arg7 fullShare y)
      ∗ owns (c : Thread nD τ) scG fullShare g
      ∗ owns (c : Thread nD τ) scD fullShare d
      ∗ (iprop(owns (c : Thread nD τ) arg3 fullShare x0
          ∗ owns (c : Thread nD τ) arg4 fullShare x1
          ∗ owns (c : Thread nD τ) arg5 fullShare x2
          ∗ (tbE.view.loc (c : Thread nD τ) ↦{fullShare} TE)
          ∗ (tbV.view.loc (c : Thread nD τ) ↦{fullShare} TV)
          ∗ owns (c : Thread nD τ) arg7 fullShare (tile i TV x0 (nextG i TE x1 g) (nextD i TE x2 d))
          ∗ owns (c : Thread nD τ) scG fullShare (nextG i TE x1 g)
          ∗ owns (c : Thread nD τ) scD fullShare (nextD i TE x2 d)) -∗ K ⟨⟩))
      ⊢ wp frame (wpE (defs₀ (F := F)) Variants.none c none) Set.univ
          (cc1_experts i tbE (Memref.isWhole_whole _) tbV (Memref.isWhole_whole _) arg3 harg3 arg4 harg4 arg5 harg5 (Memref.whole main_v3) (Memref.isWhole_whole _) arg7 harg7 scG (Memref.isWhole_whole _) scD (Memref.isWhole_whole _)) K := by
  rw [cc1_experts_eq_skeleton]; unfold cc1_experts_skel
  have hS0 : scG.IsWhole := Memref.isWhole_whole _
  have hS1 : scD.IsWhole := Memref.isWhole_whole _
  have hT0 : tbE.IsWhole := Memref.isWhole_whole _
  have hT1 : tbV.IsWhole := Memref.isWhole_whole _
  conv =>
    lhs
    rw [owns_eq_rep (c : Thread nD τ) arg3, owns_eq_rep (c : Thread nD τ) arg4, owns_eq_rep (c : Thread nD τ) arg5, owns_eq_rep (c : Thread nD τ) scG _ g, owns_eq_rep (c : Thread nD τ) scD _ d]
    unfold owns
  iintro ⟨H0, H1, H2, HT0, HT1, ⟨%d3, %f3, -, HO3⟩, HS0, HS1, Hk⟩
  by_cases hR : Reload i TE <;> rcases hV with ⟨hC, hZ⟩ | ⟨hC, hZ⟩ <;>
  sl_exec! (disch := first | (guard_target = Scalar.cmpi _ _ _ = _; exact hR) | (guard_target = ¬(Scalar.cmpi _ _ _ = _); exact hR) | (guard_target = ¬(k1_cond2 _ = _); exact hC) | (guard_target = k1_cond2 _ = _; exact hC) | (guard_target = k1_cond3 _ = _; exact hZ) | (guard_target = ¬(k1_cond3 _ = _); exact hZ)) <;>
  sl_step
  all_goals
    iapply Hk
    isplitl [H0]; · iexact H0
    isplitl [H1]; · iexact H1
    isplitl [H2]; · iexact H2
    isplitl [HT0]; · iexact HT0
    isplitl [HT1]; · iexact HT1
    isplitl [HO3]
    · iexists _
      isplitr [HO3]
      rotate_left
      · iexact HO3
      · ipureintro
        unfold tile nextG nextD
        first | rw [if_pos hC] | rw [if_neg hC]
        all_goals sl_unfold_run_names
        all_goals first | (rw [if_pos hR, if_pos hR]) | (rw [if_neg hR, if_neg hR]) | skip
        all_goals rw [View.read_writes_full]
        all_goals (have hR' := hR; unfold Reload wordAt at hR')
        all_goals first | rw [dif_pos hR', dif_pos hR'] | rw [dif_neg hR', dif_neg hR'] | skip
        all_goals first | rw [View.readAt_writes_full, View.readAt_writes_full, View.readAt_rep_full, View.readAt_rep_full, View.readAt_rep_full] | rw [View.readCov_full, View.readCov_full, View.readAt_rep_full, View.readAt_rep_full, View.readAt_rep_full] | rw [View.readAt_rep_full, View.readAt_rep_full, View.readAt_rep_full] | skip
    isplitl [HS0]
    · iexists _
      isplitr [HS0]
      rotate_left
      · iexact HS0
      · ipureintro
        unfold nextG
        first | rw [if_pos hR] | rw [if_neg hR]
        all_goals sl_unfold_run_names
        all_goals (have hR' := hR; unfold Reload wordAt at hR')
        all_goals first | rw [dif_pos hR'] | rw [dif_neg hR'] | skip
        first | rw [View.read_writes_full, View.readAt_rep_full] | rw [View.read_rep]
    · iexists _
      isplitr [HS1]
      rotate_left
      · iexact HS1
      · ipureintro
        unfold nextD
        first | rw [if_pos hR] | rw [if_neg hR]
        all_goals sl_unfold_run_names
        all_goals (have hR' := hR; unfold Reload wordAt at hR')
        all_goals first | rw [dif_pos hR'] | rw [dif_neg hR'] | skip
        first | rw [View.read_writes_full, View.readAt_rep_full] | rw [View.read_rep]

end Cert.Experts.Call1
-- ==== Proof.Region1.lean ====
/- The grid of the expert kernel's call 1, over any tables it may be launched with: what each point finds and leaves, and
   the call as one step of the program. -/
module

public import proofs.«01_k».proof.Proof.Body1
public import proofs.«01_k».proof.Proof.Gen.KernelIdeal.Regions
public import Idealize.ShloMosaic.Lib.Pipeline.TableIdle
public import Idealize.ShloMosaic.Lib.Pipeline.RegionArraysTS
public import Idealize.ShloMosaic.Lib.Tactic

@[expose] public section

set_option maxRecDepth 16384
set_option Elab.async false

noncomputable section

namespace Cert.Experts.Call1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg)

variable {F : FTy → Type} [FloatOps F]

local notation "𝕄" => MT nD τ sig Unit (Elt F) ℕ (UR sig nD τ) ℕ

/-- The position `n` of a table. -/
def at40 (n : Fin 40) : S40.Idx := fun b => ⟨n.val, by have hb : b = (0 : Fin 1) := Subsingleton.elim _ _
                                                       subst hb; exact n.isLt⟩

theorem word_eq (M : Ref sig .tc) (T : S40.Idx → BitVec 32) (off : Fin 1 → Nat) (h : ∀ a, off a + S1.size a ≤ S40.size a) (n : Fin 40) (e : off 0 = n.val) :
    T ((Rect.unit (s := S40) off S1.size h).emb (Shape.Idx.first (numel1_S1.symm ▸ Nat.one_pos))) = T (at40 n) := by
  refine congrArg T (funext fun b => Fin.ext ?_)
  have hb : b = (0 : Fin 1) := Subsingleton.elim _ _
  subst hb
  show off 0 + 1 * (Shape.Idx.first (s := S1) (numel1_S1.symm ▸ Nat.one_pos) (0 : Fin 1)).val = n.val
  have : (Shape.Idx.first (s := S1) (numel1_S1.symm ▸ Nat.one_pos) (0 : Fin 1)).val < 1 := (Shape.Idx.first (s := S1) (numel1_S1.symm ▸ Nat.one_pos) (0 : Fin 1)).isLt
  omega

theorem off1_eq : ∀ i : grid1.Coords, k1_off1 i 0 = (i 0).val := by decide +kernel
theorem off2_eq : ∀ i : grid1.Coords, k1_off2 i 0 = (i 0).val - 1 := by decide +kernel
theorem off3_eq : ∀ i : grid1.Coords, k1_off3 i 0 = (i 0).val := by decide +kernel
theorem off4_eq : ∀ i : grid1.Coords, k1_off4 i 0 = (i 0).val := by decide +kernel

variable (a1 : (pcfg1 (F := F)).Adm)

/-- The owners' words and the valid tiles' words. -/
abbrev TE : S40.Idx → BitVec 32 := a1.1 0
abbrev TV : S40.Idx → BitVec 32 := a1.1 1

abbrev cfgA : Pipeline.Cfg sig Λ₀ := cfg1 (F := F) a1
abbrev crd (t : Fin (cfgA a1).N) : grid1.Coords := (cfgA a1).grid.coords t
abbrev ms0 (t : Fin (cfgA a1).N) : Memref sig .tc .vmem S512x2048 .bf16 := spec1_0.stage ((cfgA a1).slots t (0 : Fin 4))
abbrev hs0 (t : Fin (cfgA a1).N) : (ms0 a1 t).IsWhole := hstage1_0 (((cfgA a1).slots t (0 : Fin 4)).cast nbuf1_0)
abbrev ms1 (t : Fin (cfgA a1).N) : Memref sig .tc .vmem S1x1x2048x1024 .f32 := spec1_1.stage ((cfgA a1).slots t (1 : Fin 4))
abbrev hs1 (t : Fin (cfgA a1).N) : (ms1 a1 t).IsWhole := hstage1_1 (((cfgA a1).slots t (1 : Fin 4)).cast nbuf1_1)
abbrev ms2 (t : Fin (cfgA a1).N) : Memref sig .tc .vmem S1x1x512x2048 .f32 := spec1_2.stage ((cfgA a1).slots t (2 : Fin 4))
abbrev hs2 (t : Fin (cfgA a1).N) : (ms2 a1 t).IsWhole := hstage1_2 (((cfgA a1).slots t (2 : Fin 4)).cast nbuf1_2)
abbrev ms3 (t : Fin (cfgA a1).N) : Memref sig .tc .vmem S512x2048 .bf16 := spec1_3.stage ((cfgA a1).slots t (3 : Fin 4))
abbrev hs3 (t : Fin (cfgA a1).N) : (ms3 a1 t).IsWhole := hstage1_3 (((cfgA a1).slots t (3 : Fin 4)).cast nbuf1_3)

/-- The word of the owners, of the valid tiles, at a point. -/
theorem wordE1 (i : grid1.Coords) : wordAt (F := F) tbE (TE a1) (k1_off1 i) (k1_off1_inb i) = TE a1 (at40 (i 0)) :=
  word_eq main_v5 (TE a1) _ _ (i 0) (off1_eq i)
theorem wordE2 (i : grid1.Coords) : wordAt (F := F) tbE (TE a1) (k1_off2 i) (k1_off2_inb i) = TE a1 (at40 ⟨(i 0).val - 1, lt_of_le_of_lt (Nat.sub_le _ _) (i 0).isLt⟩) :=
  word_eq main_v5 (TE a1) _ _ _ (off2_eq i)
theorem wordV3 (i : grid1.Coords) : wordAt (F := F) tbV (TV a1) (k1_off3 i) (k1_off3_inb i) = TV a1 (at40 (i 0)) :=
  word_eq main_v6 (TV a1) _ _ (i 0) (off3_eq i)
theorem wordV4 (i : grid1.Coords) : wordAt (F := F) tbV (TV a1) (k1_off4 i) (k1_off4_inb i) = TV a1 (at40 (i 0)) :=
  word_eq main_v6 (TV a1) _ _ (i 0) (off4_eq i)

theorem cond2_zero : k1_cond2 0#32 = 0#1 := by decide
theorem cond3_zero : k1_cond3 0#32 = 1#1 := by decide
theorem cond2_one : k1_cond2 1#32 = 1#1 := by decide
theorem cond3_one : k1_cond3 1#32 = 0#1 := by decide

/-- Every tile is marked as empty or as filled. -/
def Marked : Prop := ∀ n : Fin 40, TV a1 (at40 n) = 0#32 ∨ TV a1 (at40 n) = 1#32

variable {a1}

theorem computes_iff (i : grid1.Coords) : Computes (F := F) i (TV a1) ↔ k1_cond2 (TV a1 (at40 (i 0))) = 1#1 := by
  unfold Computes; rw [wordV3]
theorem clears_iff (i : grid1.Coords) : Clears (F := F) i (TV a1) ↔ k1_cond3 (TV a1 (at40 (i 0))) = 1#1 := by
  unfold Clears; rw [wordV4]

theorem marked_cases (h : Marked a1) (i : grid1.Coords) :
    (Computes (F := F) i (TV a1) ∧ ¬ Clears (F := F) i (TV a1)) ∨ (¬ Computes (F := F) i (TV a1) ∧ Clears (F := F) i (TV a1)) := by
  rw [computes_iff, clears_iff]
  rcases h (i 0) with e | e <;> rw [e]
  · right; rw [cond2_zero, cond3_zero]; decide
  · left; rw [cond2_one, cond3_one]; decide

theorem atD_eq (i : grid1.Coords) (off : Fin 1 → Nat) (n : Fin 40) (e : off 0 = n.val) :
    (Pipeline.Prefetch.Contents.atD (pre := pre1) a1.1 1 off : BitVec 32) = TV a1 (at40 n) := by
  unfold Pipeline.Prefetch.Contents.atD
  rw [dif_pos]
  · refine congrArg (TV a1) (funext fun b : Fin 1 => Fin.ext ?_)
    have hb : b = (0 : Fin 1) := Subsingleton.elim _ _
    subst hb
    exact e
  · intro (b : Fin 1)
    have hb : b = (0 : Fin 1) := Subsingleton.elim _ _
    subst hb
    show off 0 < 40
    rw [e]; exact n.isLt

theorem marked_idle (h : Marked a1) (i : grid1.Coords) : (cfgA a1).idle (3 : Fin 4) i = false := by
  show (!(k1_cond2 (Pipeline.Prefetch.Contents.atD (pre := pre1) a1.1 1 (k1_off3 i)) == 1#1) && !(k1_cond3 (Pipeline.Prefetch.Contents.atD (pre := pre1) a1.1 1 (k1_off4 i)) == 1#1)) = false
  rw [atD_eq i _ (i 0) (off3_eq i), atD_eq i _ (i 0) (off4_eq i)]
  rcases h (i 0) with e | e <;> rw [e]
  · rw [cond2_zero, cond3_zero]; decide
  · rw [cond2_one, cond3_one]; decide

variable (a1) (W : Dev nD → Valuation τ sig (Elt F))

/-- Window `w`'s block at point `t`, read off the array the call is entered with. -/
def blkOf (c : Dev nD) (w : Fin (cfgA a1).W) (t : Fin (cfgA a1).N) : (((cfgA a1).win w).xblock ((cfgA a1).grid.coords t)).Idx → Elt F ((cfgA a1).win w).elt :=
  (((cfgA a1).win w).blk t).view.read (Elt F) (W c (Proc.devRef .tc (Pipeline.arrRef spec1 w)))

/-- The two weight blocks, rounded, at a point. -/
def wG (c : Dev nD) (t : Fin (cfgA a1).N) : S2048x1024.Idx → Elt F .bf16 := k1_pay1 (blkOf a1 W c (1 : Fin 4) t)
def wD (c : Dev nD) (t : Fin (cfgA a1).N) : S512x2048.Idx → Elt F .bf16 := k1_pay2 (blkOf a1 W c (2 : Fin 4) t)

/-- The tile the point leaves. -/
def tileOf (c : Dev nD) (t : Fin (cfgA a1).N) : S512x2048.Idx → Elt F .bf16 :=
  tile (crd a1 t) (TV a1) (blkOf a1 W c (0 : Fin 4) t) (wG a1 W c t) (wD a1 W c t)

/-- Between two points: the scratches hold the rounded weight blocks of the point before. -/
def Phi (c : Dev nD) (t : Fin ((cfgA a1).N + 1)) : sProp 𝕄 :=
  iprop((∃ g d, ⌜∀ s : Fin (cfgA a1).N, s.val + 1 = t.val → g = wG a1 W c s ∧ d = wD a1 W c s⌝
      ∗ owns (c : Thread nD τ) scG fullShare g ∗ owns (c : Thread nD τ) scD fullShare d)
    ∗ (tbE.view.loc (c : Thread nD τ) ↦{fullShare} TE a1)
    ∗ (tbV.view.loc (c : Thread nD τ) ↦{fullShare} TV a1)
    ∗ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)))

/-- The call's proof data on core `c`. -/
def dat (c : Dev nD) : Dat τ (Elt F) Unit ℕ (UR sig nD τ) ℕ (cfgA a1) c where
  A w := W c (Proc.devRef .tc (Pipeline.arrRef spec1 w))
  after w t := match w with
    | ⟨0, _⟩ => blkOf a1 W c (0 : Fin 4) t
    | ⟨1, _⟩ => blkOf a1 W c (1 : Fin 4) t
    | ⟨2, _⟩ => blkOf a1 W c (2 : Fin 4) t
    | ⟨3, _⟩ => tileOf a1 W c t
  Φ t := Phi a1 W c t
  q _ := fullShare
  owed _ := 0

theorem after_0 (c : Dev nD) (t : Fin (cfgA a1).N) : (dat a1 W c).after (0 : Fin 4) t = blkOf a1 W c (0 : Fin 4) t := rfl
theorem after_1 (c : Dev nD) (t : Fin (cfgA a1).N) : (dat a1 W c).after (1 : Fin 4) t = blkOf a1 W c (1 : Fin 4) t := rfl
theorem after_2 (c : Dev nD) (t : Fin (cfgA a1).N) : (dat a1 W c).after (2 : Fin 4) t = blkOf a1 W c (2 : Fin 4) t := rfl
theorem after_3 (c : Dev nD) (t : Fin (cfgA a1).N) : (dat a1 W c).after (3 : Fin 4) t = tileOf a1 W c t := rfl

theorem before_0 (c : Dev nD) (t : Fin (cfgA a1).N) (d) : (dat a1 W c).before (0 : Fin 4) t d = blkOf a1 W c (0 : Fin 4) t :=
  ((dat a1 W c).before_in_eq_fetched (0 : Fin 4) rfl (fun _ => rfl) (fun _ _ _ => rfl) (fun t => by rw [after_0]; unfold Dat.blockOf blkOf; rfl) t d).trans
    (by unfold Dat.fetched Dat.blockOf blkOf; rfl)
theorem before_1 (c : Dev nD) (t : Fin (cfgA a1).N) (d) : (dat a1 W c).before (1 : Fin 4) t d = blkOf a1 W c (1 : Fin 4) t :=
  ((dat a1 W c).before_in_eq_fetched (1 : Fin 4) rfl (fun _ => rfl) (fun _ _ _ => rfl) (fun t => by rw [after_1]; unfold Dat.blockOf blkOf; rfl) t d).trans
    (by unfold Dat.fetched Dat.blockOf blkOf; rfl)
theorem before_2 (c : Dev nD) (t : Fin (cfgA a1).N) (d) : (dat a1 W c).before (2 : Fin 4) t d = blkOf a1 W c (2 : Fin 4) t :=
  ((dat a1 W c).before_in_eq_fetched (2 : Fin 4) rfl (fun _ => rfl) (fun _ _ _ => rfl) (fun t => by rw [after_2]; unfold Dat.blockOf blkOf; rfl) t d).trans
    (by unfold Dat.fetched Dat.blockOf blkOf; rfl)

theorem coords_val : ∀ t : Fin grid1.N, ((grid1.coords t) 0).val = t.val := by decide +kernel

theorem transform1_eq (pf : pre1.Contents (Elt F)) (i : grid1.Coords) : cc1_transform_1 k1_off1_inb numel1_S1 pf i = ![0, ((pf 0 : S40.Idx → BitVec 32) (at40 (i 0))).toNat, 0, 0] := by
  rw [← word_eq main_v5 (pf 0) _ (k1_off1_inb i) (i 0) (off1_eq i)]; rfl
theorem transform2_eq (pf : pre1.Contents (Elt F)) (i : grid1.Coords) : cc1_transform_2 k1_off1_inb numel1_S1 pf i = ![0, ((pf 0 : S40.Idx → BitVec 32) (at40 (i 0))).toNat, 0, 0] := by
  rw [← word_eq main_v5 (pf 0) _ (k1_off1_inb i) (i 0) (off1_eq i)]; rfl

/-- Tables whose owners are experts may be launched with. -/
theorem ok_of (pf : pre1.Contents (Elt F)) (h : ∀ n : Fin 40, ((pf 0 : S40.Idx → BitVec 32) (at40 n)).toNat < 16) : ok1 pf := by
  constructor
  · intro i
    refine ⟨?_, .inl rfl⟩
    rw [transform1_eq]
    have := h (i 0)
    generalize ((pf 0 : S40.Idx → BitVec 32) (at40 (i 0))).toNat = e at this
    exact fun b => match b with
      | 0 => by show (0 + 1) * 1 ≤ 2; omega
      | 1 => by show (e + 1) * 1 ≤ 16; omega
      | 2 => by show (0 + 1) * 2048 ≤ 2048; omega
      | 3 => by show (0 + 1) * 1024 ≤ 1024; omega
  · intro i
    refine ⟨?_, .inl rfl⟩
    rw [transform2_eq]
    have := h (i 0)
    generalize ((pf 0 : S40.Idx → BitVec 32) (at40 (i 0))).toNat = e at this
    exact fun b => match b with
      | 0 => by show (0 + 1) * 1 ≤ 2; omega
      | 1 => by show (e + 1) * 1 ≤ 16; omega
      | 2 => by show (0 + 1) * 512 ≤ 512; omega
      | 3 => by show (0 + 1) * 2048 ≤ 2048; omega

/-- The element of the array a weight block's element is. -/
theorem blk1_at (c : Dev nD) (t : Fin (cfgA a1).N) (j : S1x1x2048x1024.Idx) :
    ∃ p : S2x16x2048x1024.Idx, blkOf a1 W c (1 : Fin 4) t j = W c (Proc.devRef .tc main_arg1) p
      ∧ ∀ b, (p b).val = (![0, (TE a1 (at40 (crd a1 t 0))).toNat, 0, 0] : Fin 4 → Nat) b * S1x1x2048x1024.size b + 1 * (j b).val := by
  rw [← transform1_eq]
  exact ⟨(((cfgA a1).win (1 : Fin 4)).rect t).emb j, rfl, fun b => rfl⟩
theorem blk2_at (c : Dev nD) (t : Fin (cfgA a1).N) (j : S1x1x512x2048.Idx) :
    ∃ p : S2x16x512x2048.Idx, blkOf a1 W c (2 : Fin 4) t j = W c (Proc.devRef .tc main_arg2) p
      ∧ ∀ b, (p b).val = (![0, (TE a1 (at40 (crd a1 t 0))).toNat, 0, 0] : Fin 4 → Nat) b * S1x1x512x2048.size b + 1 * (j b).val := by
  rw [← transform2_eq]
  exact ⟨(((cfgA a1).win (2 : Fin 4)).rect t).emb j, rfl, fun b => rfl⟩

/-- A weight block depends on the owner alone. -/
theorem blk1_eq (c : Dev nD) (s t : Fin (cfgA a1).N) (h : TE a1 (at40 (crd a1 s 0)) = TE a1 (at40 (crd a1 t 0))) :
    wG a1 W c s = wG a1 W c t := by
  refine congrArg k1_pay1 (funext fun j => ?_)
  obtain ⟨p, e, hp⟩ := blk1_at a1 W c s j
  obtain ⟨p', e', hp'⟩ := blk1_at a1 W c t j
  rw [e, e']
  refine congrArg _ (funext fun b => Fin.ext ?_)
  rw [hp, hp', h]
theorem blk2_eq (c : Dev nD) (s t : Fin (cfgA a1).N) (h : TE a1 (at40 (crd a1 s 0)) = TE a1 (at40 (crd a1 t 0))) :
    wD a1 W c s = wD a1 W c t := by
  refine congrArg k1_pay2 (funext fun j => ?_)
  obtain ⟨p, e, hp⟩ := blk2_at a1 W c s j
  obtain ⟨p', e', hp'⟩ := blk2_at a1 W c t j
  rw [e, e']
  refine congrArg _ (funext fun b => Fin.ext ?_)
  rw [hp, hp', h]

theorem or_bits : ∀ p q : BitVec 1, (p = 1#1 ∨ q = 1#1) → Scalar.cmpi .ne ((Scalar.extui (Scalar.ori p q)) : BitVec 32) 0#32 = 1#1 := by decide

/-- A point that does not convert its weights is not the first, and has the owner of the point before. -/
theorem not_reload (i : grid1.Coords) (h : ¬ Reload (F := F) i (TE a1)) :
    0 < (i 0).val ∧ TE a1 (at40 ⟨(i 0).val - 1, lt_of_le_of_lt (Nat.sub_le _ _) (i 0).isLt⟩) = TE a1 (at40 (i 0)) := by
  unfold Reload at h
  rw [wordE1, wordE2] at h
  generalize TE a1 (at40 ⟨(i 0).val - 1, lt_of_le_of_lt (Nat.sub_le _ _) (i 0).isLt⟩) = x at h ⊢
  generalize TE a1 (at40 (i 0)) = y at h ⊢
  by_cases h0 : (i 0).val = 0
  · exfalso; apply h
    rw [h0]
    exact or_bits _ _ (.inl rfl)
  · refine ⟨Nat.pos_of_ne_zero h0, ?_⟩
    by_contra hxy
    apply h
    refine or_bits _ _ (.inr ?_)
    show BitVec.ofBool (y != x) = 1#1
    rw [bne_iff_ne.mpr (Ne.symm hxy)]; rfl

theorem next_eq (c : Dev nD) (t : Fin (cfgA a1).N) (g : S2048x1024.Idx → Elt F .bf16) (d : S512x2048.Idx → Elt F .bf16)
    (h : ∀ s : Fin (cfgA a1).N, s.val + 1 = t.val → g = wG a1 W c s ∧ d = wD a1 W c s) :
    nextG (crd a1 t) (TE a1) (blkOf a1 W c (1 : Fin 4) t) g = wG a1 W c t
      ∧ nextD (crd a1 t) (TE a1) (blkOf a1 W c (2 : Fin 4) t) d = wD a1 W c t := by
  unfold nextG nextD
  by_cases hR : Reload (F := F) (crd a1 t) (TE a1)
  · rw [if_pos hR, if_pos hR]; exact ⟨rfl, rfl⟩
  · rw [if_neg hR, if_neg hR]
    obtain ⟨hpos, heq⟩ := not_reload a1 (crd a1 t) hR
    have hv : ((crd a1 t) 0).val = t.val := coords_val t
    have hlt : t.val - 1 < (cfgA a1).N := lt_of_le_of_lt (Nat.sub_le _ _) t.isLt
    obtain ⟨e1, e2⟩ := h ⟨t.val - 1, hlt⟩ (by show t.val - 1 + 1 = t.val; omega)
    have hw : TE a1 (at40 (crd a1 ⟨t.val - 1, hlt⟩ 0)) = TE a1 (at40 (crd a1 t 0)) := by
      rw [← heq]
      refine congrArg (fun n => TE a1 (at40 n)) (Fin.ext ?_)
      show ((grid1.coords ⟨t.val - 1, hlt⟩) 0).val = ((crd a1 t) 0).val - 1
      rw [coords_val, hv]
    exact ⟨e1.trans (blk1_eq a1 W c _ _ hw), e2.trans (blk2_eq a1 W c _ _ hw)⟩

set_option maxHeartbeats 4000000 in
/-- The body at a generic point. -/
theorem sound_body (hM : Marked a1) (c : Dev nD) (t : Fin (cfgA a1).N) :
    iprop((dat a1 W c).Φ t.castSucc ∗ (dat a1 W c).owesAt () t.castSucc
        ∗ (∃ d, owns (c : Thread nD τ) (ms0 a1 t) fullShare ((dat a1 W c).before (0 : Fin 4) t d))
        ∗ (∃ d, owns (c : Thread nD τ) (ms1 a1 t) fullShare ((dat a1 W c).before (1 : Fin 4) t d))
        ∗ (∃ d, owns (c : Thread nD τ) (ms2 a1 t) fullShare ((dat a1 W c).before (2 : Fin 4) t d))
        ∗ (∃ d, owns (c : Thread nD τ) (ms3 a1 t) fullShare ((dat a1 W c).before (3 : Fin 4) t d)))
      ⊢ wp frame (wpE (defs₀ (F := F)) Variants.none c none) Set.univ
          (cc1_experts (crd a1 t) tbE (Memref.isWhole_whole _) tbV (Memref.isWhole_whole _) (ms0 a1 t) (hs0 a1 t) (ms1 a1 t) (hs1 a1 t) (ms2 a1 t) (hs2 a1 t) (Memref.whole main_v3) (Memref.isWhole_whole _) (ms3 a1 t) (hs3 a1 t) scG (Memref.isWhole_whole _) scD (Memref.isWhole_whole _)) fun _ =>
          iprop((dat a1 W c).Φ t.succ ∗ (dat a1 W c).owesAt () t.succ
            ∗ bigSep Finset.univ fun w : Fin (cfgA a1).W =>
                match (cfgA a1).idle w ((cfgA a1).grid.coords t) with
                | true =>
                  match ((cfgA a1).win w).flush t with
                  | false => iprop(∃ d, owns (c : Thread nD τ) (((cfgA a1).win w).stage ((cfgA a1).slots t w)) fullShare ((dat a1 W c).before w t d))
                  | true => owns (c : Thread nD τ) (((cfgA a1).win w).stage ((cfgA a1).slots t w)) fullShare ((dat a1 W c).after w t)
                | false => owns (c : Thread nD τ) (((cfgA a1).win w).stage ((cfgA a1).slots t w)) fullShare ((dat a1 W c).after w t)) := by
  rw [bigSep_W1]
  have i3 := marked_idle hM ((cfgA a1).grid.coords t)
  rewrite [i3]
  simp only [before_0, before_1, before_2, after_0, after_1, after_2, after_3]
  rewrite [show (dat a1 W c).Φ t.succ = Phi a1 W c t.succ from rfl, show (dat a1 W c).Φ t.castSucc = Phi a1 W c t.castSucc from rfl,
    show (dat a1 W c).owesAt () t.succ = (dat a1 W c).owesAt () t.castSucc from rfl]
  unfold Phi
  iintro ⟨⟨⟨%g, %d, %hgd, HG, HD⟩, HT0, HT1, HR⟩, Ho, ⟨%d0, H0⟩, ⟨%d1, H1⟩, ⟨%d2, H2⟩, ⟨%d3, H3⟩⟩
  obtain ⟨eG, eD⟩ := next_eq a1 W c t g d hgd
  iapply (body_runs c (crd a1 t) (ms0 a1 t) (hs0 a1 t) (ms1 a1 t) (hs1 a1 t) (ms2 a1 t) (hs2 a1 t) (ms3 a1 t) (hs3 a1 t) (TE a1) (TV a1)
    (blkOf a1 W c (0 : Fin 4) t) (blkOf a1 W c (1 : Fin 4) t) (blkOf a1 W c (2 : Fin 4) t) g d (marked_cases hM (crd a1 t)) _)
  rw [eG, eD]
  isplitl [H0]; · iexact H0
  isplitl [H1]; · iexact H1
  isplitl [H2]; · iexact H2
  isplitl [HT0]; · iexact HT0
  isplitl [HT1]; · iexact HT1
  isplitl [H3]; · iexists _; iexact H3
  isplitl [HG]; · iexact HG
  isplitl [HD]; · iexact HD
  iintro ⟨H0, H1, H2, HT0, HT1, H3, HG, HD⟩
  isplitl [HG HD HT0 HT1 HR]
  · isplitl [HG HD]
    · iexists _; iexists _; isplitr; swap
      · isplitl [HG]; · iexact HG
        iexact HD
      · ipureintro
        intro s hs
        have hst : s = t := Fin.ext (by have : s.val + 1 = t.val + 1 := hs; omega)
        subst hst; exact ⟨rfl, rfl⟩
    isplitl [HT0]; · iexact HT0
    isplitl [HT1]; · iexact HT1
    iexact HR
  isplitl [Ho]; · iexact Ho
  isplitl [H0]; · iexact H0
  isplitl [H1]; · iexact H1
  isplitl [H2]; · iexact H2
  iexact H3

theorem body_obligation (hM : Marked a1) (c : Dev nD) : BodyObligation (dat a1 W c) (defs₀ (F := F)) Variants.none () Set.univ := fun t => by
  rw [bigSep_W1]
  exact sound_body a1 W hM c t

theorem share_eq (c : Dev nD) (w : Fin (cfgA a1).W) : (dat a1 W c).share w = fullShare := by unfold Dat.share; split <;> rfl

theorem tables_eq (c : Dev nD) (q : Fin 2 → PosShare TreeShare) (v : pre1.Contents (Elt F)) :
    (Pipeline.prefHeld (Ix := Unit) (Name := ℕ) (U := UR sig nD τ) (Lvl := ℕ) pre1 c q v : sProp 𝕄)
      = iprop((((c : Thread nD τ).loc main_v5) ↦{q 0} v 0) ∗ (((c : Thread nD τ).loc main_v6) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(iprop(Pipeline.scopedRest spec1 c ∗ BI.emp) ∗ Pipeline.prefHeld pre1 c (fun _ => fullShare) a1.1) ⊢ (dat a1 W c).Φ 0 := by
  rw [tables_eq, scopedRest1_eq, show (dat a1 W c).Φ 0 = Phi a1 W c 0 from rfl]
  unfold Phi
  iintro ⟨⟨⟨R0, R1, R2, R3, R4, R5, R6, R7, R8, R9, ⟨%g, HG⟩, ⟨%d, HD⟩⟩, -⟩, ⟨HT0, HT1⟩⟩
  isplitl [HG HD]
  · iexists g; iexists d
    isplitr
    · ipureintro; intro s hs; exact absurd hs (Nat.succ_ne_zero _)
    rw [owns_whole (c : Thread nD τ) cc1_scratch0, owns_whole (c : Thread nD τ) cc1_scratch1]
    isplitl [HG]; · iexact HG
    iexact HD
  isplitl [HT0]; · iexact HT0
  isplitl [HT1]; · iexact HT1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem phi_exit (c : Dev nD) : (dat a1 W c).Φ (Fin.last (cfgA a1).N) ⊢ iprop(iprop(Pipeline.scopedRest spec1 c ∗ BI.emp) ∗ Pipeline.prefHeld pre1 c (fun _ => fullShare) a1.1) := by
  rw [tables_eq, scopedRest1_eq, show (dat a1 W c).Φ (Fin.last (cfgA a1).N) = Phi a1 W c (Fin.last _) from rfl]
  unfold Phi
  iintro ⟨⟨%g, %d, -, HG, HD⟩, HT0, HT1, ⟨R0, R1, R2, R3, R4, R5, R6, R7, R8, R9⟩⟩
  isplitr [HT0 HT1]
  · isplitl
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HG]; · iexists g; rw [← owns_whole (c : Thread nD τ) cc1_scratch0]; iexact HG
      iexists d; rw [← owns_whole (c : Thread nD τ) cc1_scratch1]; iexact HD
    · iempintro
  isplitl [HT0]; · iexact HT0
  iexact HT1

end Cert.Experts.Call1
-- ==== Proof.Tables.lean ====
/- The frame claim and the precondition at any float semantics, and what the precondition says of the tables' words. -/
module

public import proofs.«01_k».proof.Defs
public import proofs.«01_k».proof.Proof.Gen.Kernel
public import proofs.«01_k».proof.Proof.Gen.KernelIdeal
public import proofs.«01_k».proof.Proof.Gen.Pre_tables_in_range
public import Idealize.ShloMosaic.Lib.Tactic
@[expose] public section
noncomputable section
namespace Cert.Experts
open Idealize.ShloMosaic Idealize.SL.Sem

/-- The tables in range, at any float semantics. -/
def PreAt (F : FTy → Type) [FloatOps F] (m : (ℓ : Loc Cert.KernelIdeal.nD Cert.KernelIdeal.τ Cert.KernelIdeal.sig) → Buf (Elt F) ℓ) : Prop :=
  ∀ c : Dev Cert.KernelIdeal.nD,
    (Cert.Pre_tables_in_range.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

/-- The frame claim of the kernel, at any float semantics. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), PreAt F m →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem kernel_frame_eq : Cert.quiescent_Kernel = FrameAt Bits := by sl_kernel_rfl
theorem kernelIdeal_frame_eq : Cert.quiescent_KernelIdeal = FrameAt Ideal := by sl_kernel_rfl

theorem and_bits : ∀ p q : BitVec 1, p &&& q = 1#1 → p = 1#1 ∧ q = 1#1 := by decide
theorem ofBool_one : ∀ b : Bool, BitVec.ofBool b = 1#1 → b = true := by decide

/-- The position `n` of an argument table. -/
def at80 (n : Fin 80) : Cert.KernelIdeal.S80.Idx := fun b => ⟨n.val, by
  obtain rfl : b = (0 : Fin 1) := Subsingleton.elim _ _
  exact n.isLt⟩

/-- A word between zero and a small bound, read unsigned. -/
theorem small_word (x : BitVec 32) (k : Nat) (hk : k < 2 ^ 31) (h0 : (0#32).sle x = true) (h1 : x.sle (BitVec.ofNat 32 k) = true) : x.toNat ≤ k := by
  rw [BitVec.sle_iff_toInt_le] at h0 h1
  rw [BitVec.toInt_eq_toNat_cond, BitVec.toInt_eq_toNat_cond] at h0 h1
  have e0 : (0#32).toNat = 0 := rfl
  have ek : (BitVec.ofNat 32 k).toNat = k := by rw [BitVec.toNat_ofNat]; exact Nat.mod_eq_of_lt (by omega)
  have hx := x.isLt
  rw [e0] at h0
  rw [ek] at h1
  split_ifs at h0 h1 <;> omega

theorem in_range {F : FTy → Type} [FloatOps F] (a0 a1 a2) (te tv : Cert.KernelIdeal.S80.Idx → BitVec 32)
    (h : Cert.Pre_tables_in_range.fn (F := F) a0 a1 a2 te tv = fun _ => 1#1) (n : Cert.KernelIdeal.S80.Idx) :
    (te n).toNat < 16 ∧ (tv n = 0#32 ∨ tv n = 1#32) := by
  have hn : (((BitVec.ofBool ((0#32).sle (te n))) &&& (BitVec.ofBool ((te n).slt 16#32))) &&& (BitVec.ofBool ((0#32).sle (tv n)))) &&& (BitVec.ofBool ((tv n).sle 1#32)) = 1#1 :=
    congrFun h n
  obtain ⟨h3, h4⟩ := and_bits _ _ hn
  obtain ⟨h2, h3⟩ := and_bits _ _ h3
  obtain ⟨h1, h2⟩ := and_bits _ _ h2
  have h1 := ofBool_one _ h1
  have h2 := ofBool_one _ h2
  have h3 := ofBool_one _ h3
  have h4 := ofBool_one _ h4
  refine ⟨?_, ?_⟩
  · have h2' : (te n).sle 15#32 = true := by
      rw [BitVec.slt_iff_toInt_lt] at h2
      rw [BitVec.sle_iff_toInt_le]
      have e16 : (16#32).toInt = 16 := by decide
      have e15 : (15#32).toInt = 15 := by decide
      omega
    have := small_word (te n) 15 (by norm_num) h1 h2'
    omega
  · have := small_word (tv n) 1 (by norm_num) h3 h4
    rcases Nat.le_one_iff_eq_zero_or_eq_one.mp this with e | e
    · exact .inl (BitVec.eq_of_toNat_eq e)
    · exact .inr (BitVec.eq_of_toNat_eq e)

end Cert.Experts
end
-- ==== Proof.Run.lean ====
/- The program's run: the two calls as steps between the host's stretches, and what the result's buffer holds at the end. -/
module

public import proofs.«01_k».proof.Proof.Region0
public import proofs.«01_k».proof.Proof.Region1
public import proofs.«01_k».proof.Proof.Tables

@[expose] public section

set_option maxRecDepth 16384
set_option Elab.async false

noncomputable section

namespace Cert.Experts

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

theorem V4_v7 (m : (ℓ : Loc nD τ sig) → Buf (Elt F) ℓ) (outs : Outs (F := F)) (c : Dev nD) : V4 m outs c main_v7 = outs 4 main_v7 c := by
  simp only [V4, Function.update_of_ne (StableHlo.devRef_ne_of_ne (by decide : main_v7 ≠ main_v3) : (Proc.devRef .tc main_v7 : DevRef τ sig) ≠ Proc.devRef .tc main_v3), Function.update_self]

theorem V4_v3 (m : (ℓ : Loc nD τ sig) → Buf (Elt F) ℓ) (outs : Outs (F := F)) (c : Dev nD) : V4 m outs c main_v3 = outs 4 main_v3 c := by
  simp only [V4, Function.update_self]
theorem V2_v3 (m : (ℓ : Loc nD τ sig) → Buf (Elt F) ℓ) (outs : Outs (F := F)) (c : Dev nD) : V2 m outs c main_v3 = outs 2 main_v3 c := by
  simp only [V2, Function.update_self]

section
variable (m : (ℓ : Loc nD τ sig) → Buf (Elt F) ℓ)

set_option backward.isDefEq.respectTransparency.types false in
/-- The run from the two regions' records, with the result's buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v7) = outs 4 main_v7 c)
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v7) = outs 4 main_v7 c)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_v7) (Finset.mem_filter.mpr ⟨StableHlo.devRef_mem_tcRefs main_v7, by decide⟩)).trans (V4_v7 m outs c)⟩
    · iexact HSI

end

local notation "𝕄" => MT nD τ sig Unit (Elt F) ℕ (UR sig nD τ) ℕ

variable (m : (ℓ : Loc nD τ sig) → Buf (Elt F) ℓ)

/-- The tables in range: every tile names an expert and is marked as empty or as filled. -/
def Ranged : Prop := ∀ c : Dev nD, ∀ n : S80.Idx,
  ((m ((c : Thread nD τ).loc main_arg3) : S80.Idx → BitVec 32) n).toNat < 16
    ∧ ((m ((c : Thread nD τ).loc main_arg4) : S80.Idx → BitVec 32) n = 0#32 ∨ (m ((c : Thread nD τ).loc main_arg4) : S80.Idx → BitVec 32) n = 1#32)

theorem ranged_of_pre (h : PreAt F m) : Ranged m := fun c n => in_range _ _ _ _ _ (h c) n

/-- The tables' slices each call is launched with. -/
def tab0 : pre0.Contents (Elt F) := fun k => V1 m 0 (Proc.devRef .tc (pre0.ref k))

theorem V1_v1 (c : Dev nD) : V1 m c (Proc.devRef .tc main_v1) = extractStridedSlice S40 ![0] (m ((c : Thread nD τ).loc main_arg3) : S80.Idx → BitVec 32) slices_S80_S40_0 := rfl
theorem V1_v2 (c : Dev nD) : V1 m c (Proc.devRef .tc main_v2) = extractStridedSlice S40 ![0] (m ((c : Thread nD τ).loc main_arg4) : S80.Idx → BitVec 32) slices_S80_S40_0 := rfl

theorem V3_v5 (outs : Outs (F := F)) (c : Dev nD) : V3 m outs c (Proc.devRef .tc main_v5) = extractStridedSlice S40 ![40] (m ((c : Thread nD τ).loc main_arg3) : S80.Idx → BitVec 32) slices_S80_S40_40 := rfl
theorem V3_v6 (outs : Outs (F := F)) (c : Dev nD) : V3 m outs c (Proc.devRef .tc main_v6) = extractStridedSlice S40 ![40] (m ((c : Thread nD τ).loc main_arg4) : S80.Idx → BitVec 32) slices_S80_S40_40 := rfl

variable {m} (hm : Ranged m)

include hm in
theorem ok_tab0 : ok0 (tab0 m) := Call0.ok_of _ fun n => (hm 0 _).1
def adm0 : (pcfg0 (F := F)).Adm := ⟨tab0 m, ok_tab0 hm⟩
theorem marked0 : Call0.Marked (adm0 hm) := fun n => (hm 0 _).2

/-- What the first call leaves in its result. -/
def res0 (c : Dev nD) : Buf (Elt F) ((c : Thread nD τ).loc main_v3) := (Call0.dat (adm0 hm) (V1 m) c).arrAt (3 : Fin 4) (Call0.cfgA (adm0 hm)).N

/-- The contents the calls leave, the second call's not yet. -/
def outs0 : Outs (F := F) := fun _ r c => Function.update (fun r : Ref sig .tc => m ((c : Thread nD τ).loc r)) main_v3 (res0 hm c) r

def tab1 : pre1.Contents (Elt F) := fun k => V3 m (outs0 hm) 0 (Proc.devRef .tc (pre1.ref k))
theorem ok_tab1 : ok1 (tab1 hm) := Call1.ok_of _ fun n => (hm 0 _).1
def adm1 : (pcfg1 (F := F)).Adm := ⟨tab1 hm, ok_tab1 hm⟩
theorem marked1 : Call1.Marked (adm1 hm) := fun n => (hm 0 _).2

/-- What the second call leaves in its result. -/
def res1 (c : Dev nD) : Buf (Elt F) ((c : Thread nD τ).loc main_v7) := (Call1.dat (adm1 hm) (V3 m (outs0 hm)) c).arrAt (3 : Fin 4) (Call1.cfgA (adm1 hm)).N

def outs : Outs (F := F) := fun n r c => match n with
  | 4 => Function.update (fun r : Ref sig .tc => V3 m (outs0 hm) c (Proc.devRef .tc r)) main_v7 (res1 hm c) r
  | _ => outs0 hm n r c

theorem V3_outs (c : Dev nD) : V3 m (outs hm) c = V3 m (outs0 hm) c := rfl
theorem outs_2 (c : Dev nD) : outs hm 2 main_v3 c = res0 hm c := by simp only [outs, outs0, Function.update_self]
theorem outs_4 (c : Dev nD) : outs hm 4 main_v7 c = res1 hm c := by simp only [outs, Function.update_self]
theorem outs_4' (c : Dev nD) : outs hm 4 main_v3 c = V3 m (outs0 hm) c (Proc.devRef .tc main_v3) := by
  simp only [outs, Function.update_of_ne (by decide : main_v3 ≠ main_v7)]

def adm : (p : Fin 2) → (pcfgs (F := F) p).Adm
  | 0 => adm0 hm
  | 1 => adm1 hm

def pdats : (p : Fin 2) → (c : Dev nD) → Dat τ (Elt F) Unit ℕ (UR sig nD τ) ℕ (Pipeline.pin (pcfgs (F := F)) (adm hm) p) c
  | 0 => fun c => Call0.dat (adm0 hm) (V1 m) c
  | 1 => fun c => Call1.dat (adm1 hm) (V3 m (outs0 hm)) c

def lvl (g : GSem nD τ sig) : Finset Unit := if g.1.2 = .tc then {()} else ∅

theorem cut (p : Fin 2) : Pipeline.LevelCut (pcfgs (F := F)) (adm hm) () lvl (fun _ _ => (0 : ℕ)) p (fun _ => 0) (fun _ => 0) where
  hι c w s := by unfold lvl; rw [if_pos rfl]; exact Finset.mem_singleton_self _
  hιb c w s := le_refl _
  hD c g i h := absurd h (lt_irrefl _)

theorem dev_eq (c : Dev nD) : c = 0 := Subsingleton.elim _ _

set_option backward.isDefEq.respectTransparency.types false in
def reg0 : RegionSeg (pcfgs (F := F)) (adm hm) (pdats hm) () defs₀ Variants.none lvl (fun _ _ => (0 : ℕ)) 0 :=
  RegionSeg.ofHeldInT (pcfgs (F := F)) (adm hm) (pdats hm) () defs₀ Variants.none lvl (fun _ _ => (0 : ℕ)) 0 (fun _ => 0)
    (Pipeline.ucRefs τ sig) (fun _ => BI.emp) (fun _ => BI.emp) launch0
    (fun c => (Call0.body_obligation (adm0 hm) (V1 m) (marked0 hm) c).loose) (fun c t => rfl) (fun c => rfl)
    (fun c w => Call0.share_eq (adm0 hm) (V1 m) c w) (fun c => Call0.phi_intro (adm0 hm) (V1 m) c) (fun c => Call0.phi_exit (adm0 hm) (V1 m) c)
    (fun _ => 0) (cut hm 0) (fun _ => BI.emp) (V1 m) (fun c w => rfl) (fun c k => by rw [dev_eq c]; rfl)

set_option backward.isDefEq.respectTransparency.types false in
def reg1 : RegionSeg (pcfgs (F := F)) (adm hm) (pdats hm) () defs₀ Variants.none lvl (fun _ _ => (0 : ℕ)) 1 :=
  RegionSeg.ofHeldInT (pcfgs (F := F)) (adm hm) (pdats hm) () defs₀ Variants.none lvl (fun _ _ => (0 : ℕ)) 1 (fun _ => 0)
    (Pipeline.ucRefs τ sig) (fun _ => BI.emp) (fun _ => BI.emp) launch1
    (fun c => (Call1.body_obligation (adm1 hm) (V3 m (outs0 hm)) (marked1 hm) c).loose) (fun c t => rfl) (fun c => rfl)
    (fun c w => Call1.share_eq (adm1 hm) (V3 m (outs0 hm)) c w) (fun c => Call1.phi_intro (adm1 hm) (V3 m (outs0 hm)) c) (fun c => Call1.phi_exit (adm1 hm) (V3 m (outs0 hm)) c)
    (fun _ => 0) (cut hm 1) (fun _ => BI.emp) (V3 m (outs0 hm)) (fun c w => rfl) (fun c k => by rw [dev_eq c]; rfl)

/-- What rides beside the buffers. -/
def Rest (_ : Fin 3) (c : Dev nD) : sProp 𝕄 := iprop((∃ Wd, owes (c : Thread nD τ) (0 : CellTallies nD τ sig Unit) Wd) ∗ BI.emp ∗ BI.emp)

theorem after0 (c : Dev nD) : ∀ b ∈ Pipeline.ucRefs τ sig, Pipeline.afterRegion (pdats hm 0 c) (V1 m c) b = V2 m (outs hm) c b := by
  intro b hb
  obtain ⟨r, -, rfl⟩ := Finset.mem_map.mp (Finset.mem_filter.mp hb).1
  show Pipeline.afterRegion (pdats hm 0 c) (V1 m c) (Proc.devRef .tc r) = V2 m (outs hm) c (Proc.devRef .tc r)
  by_cases h : r = main_v3
  · subst h
    refine (Pipeline.afterRegion_arr (pdats hm 0 c) (V1 m c) (launch0 (F := F)).win.arr_inj (3 : Fin 4)).trans ?_
    exact (outs_2 hm c).symm.trans (V2_v3 m (outs hm) c).symm
  · rw [V2_of m (outs hm) c r (fun hmem => h (List.mem_singleton.mp hmem))]
    refine Pipeline.afterRegion_keeps (pdats hm 0 c) (V1 m c) (launch0 (F := F)).win.arr_inj (fun w => rfl) r ?_
    intro (w : Fin 4) hw
    match w with
    | 0 => rfl
    | 1 => rfl
    | 2 => rfl
    | 3 => exact absurd hw.symm h

theorem after1 (c : Dev nD) : ∀ b ∈ Pipeline.ucRefs τ sig, Pipeline.afterRegion (pdats hm 1 c) (V3 m (outs0 hm) c) b = V4 m (outs hm) c b := by
  intro b hb
  obtain ⟨r, -, rfl⟩ := Finset.mem_map.mp (Finset.mem_filter.mp hb).1
  show Pipeline.afterRegion (pdats hm 1 c) (V3 m (outs0 hm) c) (Proc.devRef .tc r) = V4 m (outs hm) c (Proc.devRef .tc r)
  by_cases h : r = main_v7
  · subst h
    refine (Pipeline.afterRegion_arr (pdats hm 1 c) (V3 m (outs0 hm) c) (launch1 (F := F)).win.arr_inj (3 : Fin 4)).trans ?_
    exact (outs_4 hm c).symm.trans (V4_v7 m (outs hm) c).symm
  · have hk : Pipeline.afterRegion (pdats hm 1 c) (V3 m (outs0 hm) c) (Proc.devRef .tc r) = V3 m (outs0 hm) c (Proc.devRef .tc r) := by
      refine Pipeline.afterRegion_keeps (pdats hm 1 c) (V3 m (outs0 hm) c) (launch1 (F := F)).win.arr_inj (fun w => rfl) r ?_
      intro (w : Fin 4) hw
      match w with
      | 0 => rfl
      | 1 => rfl
      | 2 => rfl
      | 3 => exact absurd hw.symm h
    rw [hk]
    by_cases h3 : r = main_v3
    · subst h3
      exact (outs_4' hm c).symm.trans (V4_v3 m (outs hm) c).symm
    · exact (V4_of m (outs hm) c r (fun hmem => by
        rcases List.mem_cons.mp hmem with e | e
        · exact h e
        · exact h3 (List.mem_singleton.mp e))).symm

theorem own_launch (a : (p : Fin 2) → (pcfgs (F := F) p).Adm) :
    (ownU (initOf (Pipeline.cells (Pipeline.pin (pcfgs (F := F)) a) (cellOf_inj a)) (Pipeline.launchToks (Pipeline.pin (pcfgs (F := F)) a) (cellOf_inj a))) : sProp 𝕄)
      ⊢ BI.own ((emb₁ : Emb (UR sig nD τ) 𝕄) (initOf (Pipeline.cells (Pipeline.pin (pcfgs (F := F)) a) (cellOf_inj a)) (Pipeline.launchToks (Pipeline.pin (pcfgs (F := F)) a) (cellOf_inj a)))) := .rfl

theorem pre0_eq (c : Dev nD) : iprop(StableHlo.held (c : Thread nD τ) (Pipeline.ucRefs τ sig) (V1 m c) ∗ Rest (F := F) 0 c) ⊢ (reg0 hm).pre c := by
  unfold Rest reg0
  exact RegionSeg.ofHeldInT_pre (S := Pipeline.ucRefs τ sig) (X := fun _ => BI.emp) (Y := fun _ => BI.emp) (R := fun _ => BI.emp) (D := fun _ => 0) (W := V1 m) (Pipeline.arrRefs_sub_ucRefs _ (launch0 (F := F)).win.arr_unscoped) (Pipeline.tblRefs_sub_ucRefs _ preFacts0.unscoped) c
theorem post0_eq (c : Dev nD) : (reg0 hm).post c ⊢ iprop(StableHlo.held (c : Thread nD τ) (Pipeline.ucRefs τ sig) (V2 m (outs hm) c) ∗ Rest (F := F) 1 c) := by
  rw [← StableHlo.held_congr (c : Thread nD τ) (after0 hm c)]
  exact RegionSeg.ofHeldInT_post (Pipeline.arrRefs_sub_ucRefs _ (launch0 (F := F)).win.arr_unscoped) (Pipeline.tblRefs_sub_ucRefs _ preFacts0.unscoped) c
theorem pre1_eq (c : Dev nD) : iprop(StableHlo.held (c : Thread nD τ) (Pipeline.ucRefs τ sig) (V3 m (outs0 hm) c) ∗ Rest (F := F) 1 c) ⊢ (reg1 hm).pre c := by
  unfold Rest reg1
  exact RegionSeg.ofHeldInT_pre (S := Pipeline.ucRefs τ sig) (X := fun _ => BI.emp) (Y := fun _ => BI.emp) (R := fun _ => BI.emp) (D := fun _ => 0) (W := V3 m (outs0 hm)) (Pipeline.arrRefs_sub_ucRefs _ (launch1 (F := F)).win.arr_unscoped) (Pipeline.tblRefs_sub_ucRefs _ preFacts1.unscoped) c
theorem post1_eq (c : Dev nD) : (reg1 hm).post c ⊢ iprop(StableHlo.held (c : Thread nD τ) (Pipeline.ucRefs τ sig) (V4 m (outs hm) c) ∗ Rest (F := F) 2 c) := by
  rw [← StableHlo.held_congr (c : Thread nD τ) (after1 hm c)]
  exact RegionSeg.ofHeldInT_post (Pipeline.arrRefs_sub_ucRefs _ (launch1 (F := F)).win.arr_unscoped) (Pipeline.tblRefs_sub_ucRefs _ preFacts1.unscoped) c

/-- The run: every execution ends with the arguments as they were, every counter at zero, and the result at what the second call leaves. -/
theorem run (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v7) = outs hm 4 main_v7 c)
      ∧ r.2.sem = fun _ => 0) := by
  refine run_cond m emb₁ () Variants.none lvl (fun _ _ => (0 : ℕ)) (fun g hg => if_neg hg) g (outs hm) (adm hm) (pdats hm)
    (fun _ => 0) (fun _ => BI.emp) (initOf (Pipeline.cells (Pipeline.pin (pcfgs (F := F)) (adm hm)) (cellOf_inj (adm hm))) (Pipeline.launchToks (Pipeline.pin (pcfgs (F := F)) (adm hm)) (cellOf_inj (adm hm))))
    ?_ Rest ?_ ?_ (reg0 hm) ?_ ?_ (reg1 hm) ?_ ?_
  · iintro Hu
    ihave Hu' := (own_launch (adm hm)) $$ Hu
    imodintro
    isplitl [Hu']; · iexact Hu'
    iapply (show (BI.emp : sProp 𝕄) ⊢ bigSep Finset.univ (fun _ : Dev nD => (BI.emp : sProp 𝕄)) from by rw [BI.bigSep_emp_const])
    iempintro
  · refine Pipeline.initEach lvl (fun _ _ => (0 : ℕ)) fun c => ?_
    unfold Rest
    iintro ⟨⟨-, HO, -, -, -⟩, -⟩
    imodintro
    isplitl [HO]; · iexists ∅; iexact HO
    isplitl <;> iempintro
  · intro c
    unfold Rest
    iintro ⟨HO, -, -⟩
    iexact HO
  · exact pre0_eq hm
  · exact post0_eq hm
  · exact pre1_eq hm
  · exact post1_eq hm

end Cert.Experts

end
-- ==== Proof.RefRun.lean ====
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Claim

@[expose] public section

set_option maxRecDepth 16384

noncomputable section

namespace Cert.Experts.Ref

open Idealize.ShloMosaic Idealize.SL.Sem Cert.ReferenceIdeal StableHlo Cert.ReferenceIdeal.Facts₀ Cert.ReferenceIdeal.Facts

/-- The gated linear unit's first half: `x` times one over one plus `exp (-x)`. -/
def silu (x : FVec Ideal S40960x512 .f32) : FVec Ideal S40960x512 .f32 :=
  mulf x (Host.divf (broadcastInDim S40960x512 ![] bcast_S_S40960x512 (constant S_ .f32 0x3F800000#32))
    (addf (broadcastInDim S40960x512 ![] bcast_S_S40960x512 (constant S_ .f32 0x3F800000#32)) (Host.exp (Host.negf x))))

/-- One expert's contribution added to what the experts before it left: its weights and its column of gates are given
    as the slices that the reference takes. -/
def step (x : FVec Ideal S40960x2048 .f32) (wg : FVec Ideal S1x1x2048x1024 .f32) (wd : FVec Ideal S1x1x512x2048 .f32)
    (gate : FVec Ideal S40960x1 .f32) (acc : FVec Ideal S40960x2048 .f32) : FVec Ideal S40960x2048 .f32 :=
  addf acc (mulf (broadcastInDim S40960x2048 ![0, 1] bcast_S40960x1_S40960x2048_0_1 gate)
    (Host.dotGeneral dot_S40960x512_S512x2048_S40960x2048_1_0_0_1_n_n none
      (mulf (silu (extractStridedSlice S40960x512 ![0, 0]
          (Host.dotGeneral dot_S40960x2048_S2048x1024_S40960x1024_1_0_0_1_n_n none x
            (shapeCast S2048x1024 wg shapeCasts_S1x1x2048x1024_S2048x1024)) slices_S40960x1024_S40960x512_0_0))
        (extractStridedSlice S40960x512 ![0, 512]
          (Host.dotGeneral dot_S40960x2048_S2048x1024_S40960x1024_1_0_0_1_n_n none x
            (shapeCast S2048x1024 wg shapeCasts_S1x1x2048x1024_S2048x1024)) slices_S40960x1024_S40960x512_0_512))
      (shapeCast S512x2048 wd shapeCasts_S1x1x512x2048_S512x2048)))

/-- A table with one entry for each tile, spread over the rows. -/
def spread (t : IVec S80 32) : IVec S40960 32 :=
  shapeCast S40960 (broadcastInDim S80x512 ![0] bcast_S80_S80x512_0 t) shapeCasts_S80x512_S40960

/-- The gates: row `r`, expert `e` holds 1 where the row's tile is marked and names `e`, and 0 elsewhere. -/
def gates (te tv : IVec S80 32) : FVec Ideal S40960x16 .f32 :=
  select
    (broadcastInDim S40960x16 ![0, 1] bcast_S40960x1_S40960x16_0_1
      (cmpi .sgt (broadcastInDim S40960x1 ![0] bcast_S40960_S40960x1_0 (spread tv))
        (broadcastInDim S40960x1 ![] bcast_S_S40960x1 (constantI S_ 32 0#32))))
    (uitofp .f32 (cmpi .eq
      (broadcastInDim S40960x16 ![0, 1] bcast_S40960x1_S40960x16_0_1 (broadcastInDim S40960x1 ![0] bcast_S40960_S40960x1_0 (spread te)))
      (broadcastInDim S40960x16 ![0, 1] bcast_S1x16_S40960x16_0_1 (iotaInDim S1x16 32 1))))
    (broadcastInDim S40960x16 ![] bcast_S_S40960x16 (constant S_ .f32 0x00000000#32))

/-- The sum over the experts, in the reference's order. -/
def sumUp (x : FVec Ideal S40960x2048 .f32) (wg : FVec Ideal S2x16x2048x1024 .f32) (wd : FVec Ideal S2x16x512x2048 .f32)
    (gate : FVec Ideal S40960x16 .f32) : FVec Ideal S40960x2048 .f32 :=
  have zeros : FVec Ideal S40960x2048 .f32 := broadcastInDim S40960x2048 ![] bcast_S_S40960x2048 (constant S_ .f32 0x00000000#32)
  have y0 := step x (extractStridedSlice S1x1x2048x1024 ![0, 0, 0, 0] wg slices_S2x16x2048x1024_S1x1x2048x1024_0_0_0_0)
    (extractStridedSlice S1x1x512x2048 ![0, 0, 0, 0] wd slices_S2x16x512x2048_S1x1x512x2048_0_0_0_0)
    (extractStridedSlice S40960x1 ![0, 0] gate slices_S40960x16_S40960x1_0_0) zeros
  have y1 := step x (extractStridedSlice S1x1x2048x1024 ![0, 1, 0, 0] wg slices_S2x16x2048x1024_S1x1x2048x1024_0_1_0_0)
    (extractStridedSlice S1x1x512x2048 ![0, 1, 0, 0] wd slices_S2x16x512x2048_S1x1x512x2048_0_1_0_0)
    (extractStridedSlice S40960x1 ![0, 1] gate slices_S40960x16_S40960x1_0_1) y0
  have y2 := step x (extractStridedSlice S1x1x2048x1024 ![0, 2, 0, 0] wg slices_S2x16x2048x1024_S1x1x2048x1024_0_2_0_0)
    (extractStridedSlice S1x1x512x2048 ![0, 2, 0, 0] wd slices_S2x16x512x2048_S1x1x512x2048_0_2_0_0)
    (extractStridedSlice S40960x1 ![0, 2] gate slices_S40960x16_S40960x1_0_2) y1
  have y3 := step x (extractStridedSlice S1x1x2048x1024 ![0, 3, 0, 0] wg slices_S2x16x2048x1024_S1x1x2048x1024_0_3_0_0)
    (extractStridedSlice S1x1x512x2048 ![0, 3, 0, 0] wd slices_S2x16x512x2048_S1x1x512x2048_0_3_0_0)
    (extractStridedSlice S40960x1 ![0, 3] gate slices_S40960x16_S40960x1_0_3) y2
  have y4 := step x (extractStridedSlice S1x1x2048x1024 ![0, 4, 0, 0] wg slices_S2x16x2048x1024_S1x1x2048x1024_0_4_0_0)
    (extractStridedSlice S1x1x512x2048 ![0, 4, 0, 0] wd slices_S2x16x512x2048_S1x1x512x2048_0_4_0_0)
    (extractStridedSlice S40960x1 ![0, 4] gate slices_S40960x16_S40960x1_0_4) y3
  have y5 := step x (extractStridedSlice S1x1x2048x1024 ![0, 5, 0, 0] wg slices_S2x16x2048x1024_S1x1x2048x1024_0_5_0_0)
    (extractStridedSlice S1x1x512x2048 ![0, 5, 0, 0] wd slices_S2x16x512x2048_S1x1x512x2048_0_5_0_0)
    (extractStridedSlice S40960x1 ![0, 5] gate slices_S40960x16_S40960x1_0_5) y4
  have y6 := step x (extractStridedSlice S1x1x2048x1024 ![0, 6, 0, 0] wg slices_S2x16x2048x1024_S1x1x2048x1024_0_6_0_0)
    (extractStridedSlice S1x1x512x2048 ![0, 6, 0, 0] wd slices_S2x16x512x2048_S1x1x512x2048_0_6_0_0)
    (extractStridedSlice S40960x1 ![0, 6] gate slices_S40960x16_S40960x1_0_6) y5
  have y7 := step x (extractStridedSlice S1x1x2048x1024 ![0, 7, 0, 0] wg slices_S2x16x2048x1024_S1x1x2048x1024_0_7_0_0)
    (extractStridedSlice S1x1x512x2048 ![0, 7, 0, 0] wd slices_S2x16x512x2048_S1x1x512x2048_0_7_0_0)
    (extractStridedSlice S40960x1 ![0, 7] gate slices_S40960x16_S40960x1_0_7) y6
  have y8 := step x (extractStridedSlice S1x1x2048x1024 ![0, 8, 0, 0] wg slices_S2x16x2048x1024_S1x1x2048x1024_0_8_0_0)
    (extractStridedSlice S1x1x512x2048 ![0, 8, 0, 0] wd slices_S2x16x512x2048_S1x1x512x2048_0_8_0_0)
    (extractStridedSlice S40960x1 ![0, 8] gate slices_S40960x16_S40960x1_0_8) y7
  have y9 := step x (extractStridedSlice S1x1x2048x1024 ![0, 9, 0, 0] wg slices_S2x16x2048x1024_S1x1x2048x1024_0_9_0_0)
    (extractStridedSlice S1x1x512x2048 ![0, 9, 0, 0] wd slices_S2x16x512x2048_S1x1x512x2048_0_9_0_0)
    (extractStridedSlice S40960x1 ![0, 9] gate slices_S40960x16_S40960x1_0_9) y8
  have y10 := step x (extractStridedSlice S1x1x2048x1024 ![0, 10, 0, 0] wg slices_S2x16x2048x1024_S1x1x2048x1024_0_10_0_0)
    (extractStridedSlice S1x1x512x2048 ![0, 10, 0, 0] wd slices_S2x16x512x2048_S1x1x512x2048_0_10_0_0)
    (extractStridedSlice S40960x1 ![0, 10] gate slices_S40960x16_S40960x1_0_10) y9
  have y11 := step x (extractStridedSlice S1x1x2048x1024 ![0, 11, 0, 0] wg slices_S2x16x2048x1024_S1x1x2048x1024_0_11_0_0)
    (extractStridedSlice S1x1x512x2048 ![0, 11, 0, 0] wd slices_S2x16x512x2048_S1x1x512x2048_0_11_0_0)
    (extractStridedSlice S40960x1 ![0, 11] gate slices_S40960x16_S40960x1_0_11) y10
  have y12 := step x (extractStridedSlice S1x1x2048x1024 ![0, 12, 0, 0] wg slices_S2x16x2048x1024_S1x1x2048x1024_0_12_0_0)
    (extractStridedSlice S1x1x512x2048 ![0, 12, 0, 0] wd slices_S2x16x512x2048_S1x1x512x2048_0_12_0_0)
    (extractStridedSlice S40960x1 ![0, 12] gate slices_S40960x16_S40960x1_0_12) y11
  have y13 := step x (extractStridedSlice S1x1x2048x1024 ![0, 13, 0, 0] wg slices_S2x16x2048x1024_S1x1x2048x1024_0_13_0_0)
    (extractStridedSlice S1x1x512x2048 ![0, 13, 0, 0] wd slices_S2x16x512x2048_S1x1x512x2048_0_13_0_0)
    (extractStridedSlice S40960x1 ![0, 13] gate slices_S40960x16_S40960x1_0_13) y12
  have y14 := step x (extractStridedSlice S1x1x2048x1024 ![0, 14, 0, 0] wg slices_S2x16x2048x1024_S1x1x2048x1024_0_14_0_0)
    (extractStridedSlice S1x1x512x2048 ![0, 14, 0, 0] wd slices_S2x16x512x2048_S1x1x512x2048_0_14_0_0)
    (extractStridedSlice S40960x1 ![0, 14] gate slices_S40960x16_S40960x1_0_14) y13
  have y15 := step x (extractStridedSlice S1x1x2048x1024 ![0, 15, 0, 0] wg slices_S2x16x2048x1024_S1x1x2048x1024_0_15_0_0)
    (extractStridedSlice S1x1x512x2048 ![0, 15, 0, 0] wd slices_S2x16x512x2048_S1x1x512x2048_0_15_0_0)
    (extractStridedSlice S40960x1 ![0, 15] gate slices_S40960x16_S40960x1_0_15) y14
  y15

/-- The operations of the printed reference, read off its text. -/
def line : {ops : List (HloOp τ sig (Elt Ideal)) // ∀ d, IsSeq (main (F := Ideal) d) ops} := by
  apply Subtype.mk
  hlo_seq

theorem sub_bufs : line.1.Forall fun op => op.bufs ⊆ tcRefs τ sig := by
  unfold line; simp

theorem no_fresh : ∀ op ∈ line.1, op.fresh = ∅ := by
  unfold line
  intro _ h; (repeat (cases h with | head => rfl | tail _ h => ?_)); exact nomatch h

theorem keeps0 (V : Valuation τ sig (Elt Ideal)) : after line.1 V (Proc.devRef .tc main_arg0) = V (Proc.devRef .tc main_arg0) := by
  unfold line
  dsimp only
  after_reads_simp

theorem keeps1 (V : Valuation τ sig (Elt Ideal)) : after line.1 V (Proc.devRef .tc main_arg1) = V (Proc.devRef .tc main_arg1) := by
  unfold line
  dsimp only
  after_reads_simp

theorem keeps2 (V : Valuation τ sig (Elt Ideal)) : after line.1 V (Proc.devRef .tc main_arg2) = V (Proc.devRef .tc main_arg2) := by
  unfold line
  dsimp only
  after_reads_simp

theorem keeps3 (V : Valuation τ sig (Elt Ideal)) : after line.1 V (Proc.devRef .tc main_arg3) = V (Proc.devRef .tc main_arg3) := by
  unfold line
  dsimp only
  after_reads_simp

theorem keeps4 (V : Valuation τ sig (Elt Ideal)) : after line.1 V (Proc.devRef .tc main_arg4) = V (Proc.devRef .tc main_arg4) := by
  unfold line
  dsimp only
  after_reads_simp

set_option maxHeartbeats 2000000 in
theorem result (V : Valuation τ sig (Elt Ideal)) : after line.1 V (Proc.devRef .tc main_v235)
    = truncf .bf16 (sumUp (extf .f32 (V (Proc.devRef .tc main_arg0)) bitsLt_bf16_f32) (V (Proc.devRef .tc main_arg1)) (V (Proc.devRef .tc main_arg2))
        (gates (V (Proc.devRef .tc main_arg3)) (V (Proc.devRef .tc main_arg4)))) bitsLt_bf16_f32 := by
  unfold line
  dsimp only
  after_reads_simp
  simp -implicitDefEqProofs only [TRef.toBuf, TRef.ofBuf, cast_cast, cast_eq]
  delta sumUp step silu gates spread
  rfl

end Cert.Experts.Ref
end
-- ==== Proof.Values.lean ====
module

public import proofs.«01_k».proof.Proof.RefRun
public import proofs.«01_k».proof.Proof.Gen.KernelIdeal.Skeleton
public import Idealize.ShloMosaic.Lib.Pointwise.Tactic
public import Idealize.ShloMosaic.Lib.Pointwise.Contract
public import Idealize.ShloMosaic.Lib.Pointwise.Reshape
public import Idealize.ShloMosaic.Lib.IdealHost

@[expose] public section

set_option maxRecDepth 16384

noncomputable section

namespace Cert.Experts

open Idealize.ShloMosaic

/-- The hidden unit `f` of a row `x` under the weights `g`. -/
def hidden (x : Fin 2048 → EReal) (g : Fin 2048 → Fin 1024 → EReal) (f : Fin 1024) : EReal := ∑ d : Fin 2048, x d * g d f

/-- One column of the gated linear unit's output for one row. -/
def ffn (x : Fin 2048 → EReal) (g : Fin 2048 → Fin 1024 → EReal) (w : Fin 512 → EReal) : EReal :=
  ∑ f : Fin 512, hidden x g ⟨f.val, by have := f.isLt; omega⟩ * Ideal.logistic (hidden x g ⟨f.val, by have := f.isLt; omega⟩)
    * hidden x g ⟨512 + f.val, by have := f.isLt; omega⟩ * w f

open Cert.KernelIdeal in
theorem pay3_value (x : Vec Ideal S512x2048 .bf16) (g : Vec Ideal S2048x1024 .bf16) (w : Vec Ideal S512x2048 .bf16) (r : Fin 512) (j : Fin 2048) :
    Gen.k0_pay3 x g w (ix2 r j) = ffn (fun d => x (ix2 r d)) (fun d f => g (ix2 d f)) (fun f => w (ix2 f j)) := by
  unfold Gen.k0_pay3 ffn hidden
  pointwise

open Cert.ReferenceIdeal in
theorem step_value (x : FVec Ideal S40960x2048 .f32) (g : FVec Ideal S1x1x2048x1024 .f32) (w : FVec Ideal S1x1x512x2048 .f32)
    (gate : FVec Ideal S40960x1 .f32) (acc : FVec Ideal S40960x2048 .f32) (r : Fin 40960) (j : Fin 2048) :
    Ref.step x g w gate acc (ix2 r j) = acc (ix2 r j) + gate (ix2 r 0)
      * ffn (fun d => x (ix2 r d)) (fun d f => g (ix4 0 0 d f)) (fun f => w (ix4 0 0 f j)) := by
  unfold Ref.step Ref.silu ffn hidden
  pointwise
  rfl

open Cert.ReferenceIdeal in
/-- The gate of row `r` for expert `e`, read off the two tables at the row's tile. -/
theorem gates_value (te tv : IVec S80 32) (r : Fin 40960) (e : Fin 16) :
    Ref.gates te tv (ix2 r e) = Scalar.select (IntOp.cmpi CmpIPredicate.sgt (tv (ix1 ⟨r.val / 512, by have := r.isLt; omega⟩)) 0#32)
      (FloatOps.uitofp (F := Ideal) FTy.f32 (IntOp.cmpi CmpIPredicate.eq (te (ix1 ⟨r.val / 512, by have := r.isLt; omega⟩)) (BitVec.ofNat 32 e.val))) 0 := by
  unfold Ref.gates Ref.spread
  pointwise

theorem choose_off (b : BitVec 1) : Scalar.select (IntOp.cmpi CmpIPredicate.sgt (0#32) 0#32) (FloatOps.uitofp (F := Ideal) FTy.f32 b) (0 : EReal) = 0 := by
  have h : IntOp.cmpi CmpIPredicate.sgt (0#32) 0#32 = 0#1 := by decide
  rw [h]; rfl

theorem choose_on (b : BitVec 1) : Scalar.select (IntOp.cmpi CmpIPredicate.sgt (1#32) 0#32) (FloatOps.uitofp (F := Ideal) FTy.f32 b) (0 : EReal)
    = FloatOps.uitofp (F := Ideal) FTy.f32 b := by
  have h : IntOp.cmpi CmpIPredicate.sgt (1#32) 0#32 = 1#1 := by decide
  rw [h]; rfl

theorem hit : ∀ a b : Fin 16, IntOp.cmpi CmpIPredicate.eq (BitVec.ofNat 32 a.val) (BitVec.ofNat 32 b.val) = if a = b then 1#1 else 0#1 := by
  decide

theorem gate_one (a b : Fin 16) : FloatOps.uitofp (F := Ideal) FTy.f32 (if a = b then 1#1 else 0#1) = if a = b then (1 : EReal) else 0 := by
  split
  · show ((_ : ℝ) : EReal) = 1
    simp
  · show ((_ : ℝ) : EReal) = 0
    simp

open Cert.ReferenceIdeal in
/-- What expert `e` makes of row `r`, at column `j`. -/
def part (x : FVec Ideal S40960x2048 .f32) (wg : FVec Ideal S2x16x2048x1024 .f32) (wd : FVec Ideal S2x16x512x2048 .f32)
    (r : Fin 40960) (j : Fin 2048) (e : Fin 16) : EReal :=
  ffn (fun d => x (ix2 r d)) (fun d f => wg (ix4 0 e d f)) (fun f => wd (ix4 0 e f j))

/-- A weighted sum over the sixteen experts, from zero and in order. -/
def inOrder (g p : Fin 16 → EReal) : EReal :=
  0 + g 0 * p 0 + g 1 * p 1 + g 2 * p 2 + g 3 * p 3 + g 4 * p 4 + g 5 * p 5 + g 6 * p 6 + g 7 * p 7
    + g 8 * p 8 + g 9 * p 9 + g 10 * p 10 + g 11 * p 11 + g 12 * p 12 + g 13 * p 13 + g 14 * p 14 + g 15 * p 15

/-- Where every weight is zero nothing is left. -/
theorem inOrder_off (p : Fin 16 → EReal) : inOrder (fun _ => 0) p = 0 := by
  simp only [inOrder, zero_mul, add_zero]

/-- Where one expert has weight one and the others weight zero, that expert's value is left. -/
theorem inOrder_one (p : Fin 16 → EReal) (e : Fin 16) : inOrder (fun a => if e = a then 1 else 0) p = p e := by
  fin_cases e <;> simp [inOrder]

open Cert.ReferenceIdeal in
theorem sumUp_value (x : FVec Ideal S40960x2048 .f32) (wg : FVec Ideal S2x16x2048x1024 .f32) (wd : FVec Ideal S2x16x512x2048 .f32)
    (gate : FVec Ideal S40960x16 .f32) (r : Fin 40960) (j : Fin 2048) :
    Ref.sumUp x wg wd gate (ix2 r j) = inOrder (fun e => gate (ix2 r e)) (part x wg wd r j) := by
  unfold Ref.sumUp
  simp only [step_value, inOrder, part]
  pointwise
  done

open Cert.ReferenceIdeal in
/-- The reference's result at a row and a column: nothing where the row's tile is not marked. -/
theorem sumUp_off (x : FVec Ideal S40960x2048 .f32) (wg : FVec Ideal S2x16x2048x1024 .f32) (wd : FVec Ideal S2x16x512x2048 .f32)
    (te tv : IVec S80 32) (r : Fin 40960) (j : Fin 2048) (h : tv (ix1 ⟨r.val / 512, by have := r.isLt; omega⟩) = 0#32) :
    Ref.sumUp x wg wd (Ref.gates te tv) (ix2 r j) = 0 := by
  rw [sumUp_value]
  have hg : (fun e => Ref.gates te tv (ix2 r e)) = fun _ => (0 : EReal) := by
    funext e
    rw [gates_value, h, choose_off]
  exact (congrArg (fun g => inOrder g _) hg).trans (inOrder_off _)

open Cert.ReferenceIdeal in
/-- The reference's result at a row whose tile is marked: the part of the expert that the tile names. -/
theorem sumUp_on (x : FVec Ideal S40960x2048 .f32) (wg : FVec Ideal S2x16x2048x1024 .f32) (wd : FVec Ideal S2x16x512x2048 .f32)
    (te tv : IVec S80 32) (r : Fin 40960) (j : Fin 2048) (e : Fin 16) (h : tv (ix1 ⟨r.val / 512, by have := r.isLt; omega⟩) = 1#32)
    (he : te (ix1 ⟨r.val / 512, by have := r.isLt; omega⟩) = BitVec.ofNat 32 e.val) :
    Ref.sumUp x wg wd (Ref.gates te tv) (ix2 r j) = part x wg wd r j e := by
  rw [sumUp_value]
  have hg : (fun a => Ref.gates te tv (ix2 r a)) = fun a => if e = a then (1 : EReal) else 0 := by
    funext a
    rw [gates_value, h, he, choose_on, hit, gate_one]
  exact (congrArg (fun g => inOrder g _) hg).trans (inOrder_one _ e)

end Cert.Experts
end
-- ==== Proof.Result0.lean ====
/- What the expert kernel's call 0 leaves in its output array, row by row: the rows of a filled tile hold the gated
   linear unit of the tile's expert, and the rows of an empty tile hold zero. -/
module

public import proofs.«01_k».proof.Proof.Region0
public import proofs.«01_k».proof.Proof.Values
public import Idealize.ShloMosaic.Lib.Pipeline.ValueKit

@[expose] public section

set_option maxRecDepth 16384
set_option Elab.async false

noncomputable section

namespace Cert.Experts.Call0

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F]
variable (a0 : (pcfg0 (F := F)).Adm) (W : Dev nD → Valuation τ sig (Elt F))

theorem index0 : ∀ t : Fin grid0.N, cc0_transform_0 (grid0.coords t) = ![t.val, 0] := by decide +kernel
theorem index3 : ∀ t : Fin grid0.N, cc0_transform_3 (grid0.coords t) = ![t.val + 0, 0] := by decide +kernel
theorem flushes : ∀ t : Fin grid0.N, Window.flushOf grid0 true cc0_transform_3 t = true := by decide +kernel

/-- Every point writes its tile back. -/
theorem flush3 (t : Fin (cfgA a0).N) : ((cfgA a0).win (3 : Fin 4)).flush t = true :=
  (((cfgA a0).win (3 : Fin 4)).flush_eq_flushOf t).trans (flushes t)

theorem index3_inj : ∀ t t' : Fin grid0.N, cc0_transform_3 (grid0.coords t) = cc0_transform_3 (grid0.coords t') → t = t' := by
  intro t t' h
  rw [index3, index3] at h
  have := congrFun h 0
  exact Fin.ext (by simpa using this)

theorem apart : ∀ t t' : Fin (cfgA a0).N, ((cfgA a0).win (3 : Fin 4)).flush t = true → ((cfgA a0).win (3 : Fin 4)).flush t' = true → t ≠ t' →
    Disjoint (((cfgA a0).win (3 : Fin 4)).blk t).view.set (((cfgA a0).win (3 : Fin 4)).blk t').view.set :=
  Pipeline.Window.hdisj_of_index_inj _ fun t t' _ _ h => index3_inj t t' h

/-- The output array ends with point `t`'s tile on `t`'s rows. -/
theorem out_at (c : Dev nD) (t : Fin (cfgA a0).N) (p : S40960x2048.Idx) (y : S512x2048.Idx)
    (h0 : (p 0).val = (t.val + 0) * 512 + (y 0).val) (h1 : (p 1).val = (y 1).val) :
    ((dat a0 W c).arrAt (3 : Fin 4) (cfgA a0).N : S40960x2048.Idx → Elt F .bf16) p = tileOf a0 W c t y := by
  have e : (((cfgA a0).win (3 : Fin 4)).blk t).view.emb y = p := by
    refine funext fun b : Fin 2 => Fin.ext ?_
    have hb : ((((cfgA a0).win (3 : Fin 4)).blk t).view.emb y b).val = (cc0_transform_3 (grid0.coords t)) b * S512x2048.size b + 1 * (y b).val := rfl
    rw [hb, index3]
    match b with
    | 0 => rw [h0]; show (t.val + 0) * 512 + 1 * (y 0).val = _; omega
    | 1 => rw [h1]; show 0 * 2048 + 1 * (y 1).val = _; omega
  rw [← e]
  exact (dat a0 W c).arrAt_emb_eq_flushed (3 : Fin 4) (apart a0) t (flush3 a0 t) y

/-- Off the call's rows the output array keeps what it held. -/
theorem out_off (c : Dev nD) (p : S40960x2048.Idx) (h : (p 0).val < 0 * 512 ∨ (0 + 40) * 512 ≤ (p 0).val) :
    ((dat a0 W c).arrAt (3 : Fin 4) (cfgA a0).N : S40960x2048.Idx → Elt F .bf16) p = W c (Proc.devRef .tc main_v3) p := by
  refine (dat a0 W c).arrAt_apply_of_forall_not_mem (3 : Fin 4) (cfgA a0).N p fun t _ _ hp => ?_
  obtain ⟨y, -, e⟩ := Finset.mem_map.mp hp
  have hb : (p 0).val = (cc0_transform_3 (grid0.coords t)) 0 * 512 + 1 * ((y : S512x2048.Idx) 0).val := by rw [← e]; rfl
  rw [index3] at hb
  have hb' : (p 0).val = (t.val + 0) * 512 + 1 * ((y : S512x2048.Idx) 0).val := hb
  have hy : ((y : S512x2048.Idx) 0).val < 512 := ((y : S512x2048.Idx) 0).isLt
  have ht : t.val < 40 := t.isLt
  omega

/-- The element of the rows' array that a block's element is. -/
theorem blk0_at (c : Dev nD) (t : Fin (cfgA a0).N) (p : S20480x2048.Idx) (y : S512x2048.Idx)
    (h0 : (p 0).val = t.val * 512 + (y 0).val) (h1 : (p 1).val = (y 1).val) :
    blkOf a0 W c (0 : Fin 4) t y = W c (Proc.devRef .tc main_v0) p := by
  have e : (((cfgA a0).win (0 : Fin 4)).rect t).emb y = p := by
    refine funext fun b : Fin 2 => Fin.ext ?_
    have hb : ((((cfgA a0).win (0 : Fin 4)).rect t).emb y b).val = (cc0_transform_0 (grid0.coords t)) b * S512x2048.size b + 1 * (y b).val := rfl
    rw [hb, index0]
    match b with
    | 0 => rw [h0]; show t.val * 512 + 1 * (y 0).val = _; omega
    | 1 => rw [h1]; show 0 * 2048 + 1 * (y 1).val = _; omega
  rw [← e]; rfl

theorem at_crd (t : Fin (cfgA a0).N) : at40 (crd a0 t 0) = at40 t := congrArg at40 (Fin.ext (coords_val t))

end

variable (a0 : (pcfg0 (F := Ideal)).Adm) (W : Dev nD → Valuation τ sig (Elt Ideal))

/-- The gate and up weights of the tile's expert, as the point holds them. -/
theorem wG_at (c : Dev nD) (t : Fin (cfgA a0).N) (e : Fin 16) (he : (TE a0 (at40 t)).toNat = e.val) (d : Fin 2048) (f : Fin 1024) :
    wG a0 W c t (ix2 d f) = (W c (Proc.devRef .tc main_arg1) : S2x16x2048x1024.Idx → EReal) (ix4 0 e d f) := by
  have h1 : wG a0 W c t (ix2 d f) = (blkOf a0 W c (1 : Fin 4) t : S1x1x2048x1024.Idx → EReal) (ix4 0 0 d f) := by
    unfold wG k0_pay1; pointwise
  rw [h1]
  obtain ⟨p, e1, hp⟩ := blk1_at a0 W c t (ix4 0 0 d f)
  rw [at_crd, he] at hp
  refine e1.trans (congrArg _ (funext fun b : Fin 4 => Fin.ext ?_))
  rw [hp]
  match b with
  | 0 => rfl
  | 1 => show e.val * 1 + 1 * 0 = e.val; omega
  | 2 => show 0 * 2048 + 1 * d.val = d.val; omega
  | 3 => show 0 * 1024 + 1 * f.val = f.val; omega

/-- The down weights likewise. -/
theorem wD_at (c : Dev nD) (t : Fin (cfgA a0).N) (e : Fin 16) (he : (TE a0 (at40 t)).toNat = e.val) (f : Fin 512) (j : Fin 2048) :
    wD a0 W c t (ix2 f j) = (W c (Proc.devRef .tc main_arg2) : S2x16x512x2048.Idx → EReal) (ix4 0 e f j) := by
  have h1 : wD a0 W c t (ix2 f j) = (blkOf a0 W c (2 : Fin 4) t : S1x1x512x2048.Idx → EReal) (ix4 0 0 f j) := by
    unfold wD k0_pay2; pointwise
  rw [h1]
  obtain ⟨p, e1, hp⟩ := blk2_at a0 W c t (ix4 0 0 f j)
  rw [at_crd, he] at hp
  refine e1.trans (congrArg _ (funext fun b : Fin 4 => Fin.ext ?_))
  rw [hp]
  match b with
  | 0 => rfl
  | 1 => show e.val * 1 + 1 * 0 = e.val; omega
  | 2 => show 0 * 512 + 1 * f.val = f.val; omega
  | 3 => show 0 * 2048 + 1 * j.val = j.val; omega

/-- A filled tile's rows end holding the gated linear unit of the tile's expert. -/
theorem out_on (c : Dev nD) (t : Fin 40) (r : Fin 512) (j : Fin 2048) (e : Fin 16) (hv : TV a0 (at40 t) = 1#32) (he : (TE a0 (at40 t)).toNat = e.val) :
    ((dat a0 W c).arrAt (3 : Fin 4) (cfgA a0).N : S40960x2048.Idx → EReal) (ix2 ⟨(t.val + 0) * 512 + r.val, by omega⟩ j)
      = ffn (fun d => (W c (Proc.devRef .tc main_v0) : S20480x2048.Idx → EReal) (ix2 ⟨t.val * 512 + r.val, by omega⟩ d))
          (fun d f => (W c (Proc.devRef .tc main_arg1) : S2x16x2048x1024.Idx → EReal) (ix4 0 e d f))
          (fun f => (W c (Proc.devRef .tc main_arg2) : S2x16x512x2048.Idx → EReal) (ix4 0 e f j)) := by
  refine (out_at a0 W c t (ix2 ⟨(t.val + 0) * 512 + r.val, by omega⟩ j) (ix2 r j) rfl rfl).trans ?_
  unfold tileOf tile
  rw [if_pos ((computes_iff (crd a0 t)).mpr ((congrArg (fun x => k0_cond2 (TV a0 x)) (at_crd a0 t)).trans ((congrArg k0_cond2 hv).trans cond2_one)))]
  refine (pay3_value _ _ _ r j).trans ?_
  have hx : (fun d => (blkOf a0 W c (0 : Fin 4) t : S512x2048.Idx → EReal) (ix2 r d))
      = fun d => (W c (Proc.devRef .tc main_v0) : S20480x2048.Idx → EReal) (ix2 ⟨t.val * 512 + r.val, by omega⟩ d) :=
    funext fun d => blk0_at a0 W c t (ix2 ⟨t.val * 512 + r.val, by omega⟩ d) (ix2 r d) rfl rfl
  have hg : (fun d f => wG a0 W c t (ix2 d f)) = fun d f => (W c (Proc.devRef .tc main_arg1) : S2x16x2048x1024.Idx → EReal) (ix4 0 e d f) :=
    funext fun d => funext fun f => wG_at a0 W c t e he d f
  have hw : (fun f => wD a0 W c t (ix2 f j)) = fun f => (W c (Proc.devRef .tc main_arg2) : S2x16x512x2048.Idx → EReal) (ix4 0 e f j) :=
    funext fun f => wD_at a0 W c t e he f j
  exact congr (congr (congrArg ffn hx) hg) hw

/-- An empty tile's rows end holding zero. -/
theorem out_zero (c : Dev nD) (t : Fin 40) (r : Fin 512) (j : Fin 2048) (hv : TV a0 (at40 t) = 0#32) :
    ((dat a0 W c).arrAt (3 : Fin 4) (cfgA a0).N : S40960x2048.Idx → EReal) (ix2 ⟨(t.val + 0) * 512 + r.val, by omega⟩ j) = (0 : EReal) := by
  refine (out_at a0 W c t (ix2 ⟨(t.val + 0) * 512 + r.val, by omega⟩ j) (ix2 r j) rfl rfl).trans ?_
  unfold tileOf tile
  rw [if_neg (fun h => by
    have h' := ((congrArg (fun x => k0_cond2 (TV a0 x)) (at_crd a0 t)).trans ((congrArg k0_cond2 hv).trans cond2_zero)).symm.trans
      ((computes_iff (crd a0 t)).mp h)
    exact absurd h' (by decide))]
  unfold k0_pay4
  pointwise

end Cert.Experts.Call0

end
-- ==== Proof.Result1.lean ====
/- What the expert kernel's call 1 leaves in its output array, row by row: the rows of a filled tile hold the gated
   linear unit of the tile's expert, and the rows of an empty tile hold zero. -/
module

public import proofs.«01_k».proof.Proof.Region1
public import proofs.«01_k».proof.Proof.Values
public import Idealize.ShloMosaic.Lib.Pipeline.ValueKit

@[expose] public section

set_option maxRecDepth 16384
set_option Elab.async false

noncomputable section

namespace Cert.Experts.Call1

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F]
variable (a1 : (pcfg1 (F := F)).Adm) (W : Dev nD → Valuation τ sig (Elt F))

theorem index0 : ∀ t : Fin grid1.N, cc1_transform_0 (grid1.coords t) = ![t.val, 0] := by decide +kernel
theorem index3 : ∀ t : Fin grid1.N, cc1_transform_4 (grid1.coords t) = ![t.val + 40, 0] := by decide +kernel
theorem flushes : ∀ t : Fin grid1.N, Window.flushOf grid1 true cc1_transform_4 t = true := by decide +kernel

/-- Every point writes its tile back. -/
theorem flush3 (t : Fin (cfgA a1).N) : ((cfgA a1).win (3 : Fin 4)).flush t = true :=
  (((cfgA a1).win (3 : Fin 4)).flush_eq_flushOf t).trans (flushes t)

theorem index3_inj : ∀ t t' : Fin grid1.N, cc1_transform_4 (grid1.coords t) = cc1_transform_4 (grid1.coords t') → t = t' := by
  intro t t' h
  rw [index3, index3] at h
  have := congrFun h 0
  exact Fin.ext (by simpa using this)

theorem apart : ∀ t t' : Fin (cfgA a1).N, ((cfgA a1).win (3 : Fin 4)).flush t = true → ((cfgA a1).win (3 : Fin 4)).flush t' = true → t ≠ t' →
    Disjoint (((cfgA a1).win (3 : Fin 4)).blk t).view.set (((cfgA a1).win (3 : Fin 4)).blk t').view.set :=
  Pipeline.Window.hdisj_of_index_inj _ fun t t' _ _ h => index3_inj t t' h

/-- The output array ends with point `t`'s tile on `t`'s rows. -/
theorem out_at (c : Dev nD) (t : Fin (cfgA a1).N) (p : S40960x2048.Idx) (y : S512x2048.Idx)
    (h0 : (p 0).val = (t.val + 40) * 512 + (y 0).val) (h1 : (p 1).val = (y 1).val) :
    ((dat a1 W c).arrAt (3 : Fin 4) (cfgA a1).N : S40960x2048.Idx → Elt F .bf16) p = tileOf a1 W c t y := by
  have e : (((cfgA a1).win (3 : Fin 4)).blk t).view.emb y = p := by
    refine funext fun b : Fin 2 => Fin.ext ?_
    have hb : ((((cfgA a1).win (3 : Fin 4)).blk t).view.emb y b).val = (cc1_transform_4 (grid1.coords t)) b * S512x2048.size b + 1 * (y b).val := rfl
    rw [hb, index3]
    match b with
    | 0 => rw [h0]; show (t.val + 40) * 512 + 1 * (y 0).val = _; omega
    | 1 => rw [h1]; show 0 * 2048 + 1 * (y 1).val = _; omega
  rw [← e]
  exact (dat a1 W c).arrAt_emb_eq_flushed (3 : Fin 4) (apart a1) t (flush3 a1 t) y

/-- Off the call's rows the output array keeps what it held. -/
theorem out_off (c : Dev nD) (p : S40960x2048.Idx) (h : (p 0).val < 40 * 512 ∨ (40 + 40) * 512 ≤ (p 0).val) :
    ((dat a1 W c).arrAt (3 : Fin 4) (cfgA a1).N : S40960x2048.Idx → Elt F .bf16) p = W c (Proc.devRef .tc main_v7) p := by
  refine (dat a1 W c).arrAt_apply_of_forall_not_mem (3 : Fin 4) (cfgA a1).N p fun t _ _ hp => ?_
  obtain ⟨y, -, e⟩ := Finset.mem_map.mp hp
  have hb : (p 0).val = (cc1_transform_4 (grid1.coords t)) 0 * 512 + 1 * ((y : S512x2048.Idx) 0).val := by rw [← e]; rfl
  rw [index3] at hb
  have hb' : (p 0).val = (t.val + 40) * 512 + 1 * ((y : S512x2048.Idx) 0).val := hb
  have hy : ((y : S512x2048.Idx) 0).val < 512 := ((y : S512x2048.Idx) 0).isLt
  have ht : t.val < 40 := t.isLt
  omega

/-- The element of the rows' array that a block's element is. -/
theorem blk0_at (c : Dev nD) (t : Fin (cfgA a1).N) (p : S20480x2048.Idx) (y : S512x2048.Idx)
    (h0 : (p 0).val = t.val * 512 + (y 0).val) (h1 : (p 1).val = (y 1).val) :
    blkOf a1 W c (0 : Fin 4) t y = W c (Proc.devRef .tc main_v4) p := by
  have e : (((cfgA a1).win (0 : Fin 4)).rect t).emb y = p := by
    refine funext fun b : Fin 2 => Fin.ext ?_
    have hb : ((((cfgA a1).win (0 : Fin 4)).rect t).emb y b).val = (cc1_transform_0 (grid1.coords t)) b * S512x2048.size b + 1 * (y b).val := rfl
    rw [hb, index0]
    match b with
    | 0 => rw [h0]; show t.val * 512 + 1 * (y 0).val = _; omega
    | 1 => rw [h1]; show 0 * 2048 + 1 * (y 1).val = _; omega
  rw [← e]; rfl

theorem at_crd (t : Fin (cfgA a1).N) : at40 (crd a1 t 0) = at40 t := congrArg at40 (Fin.ext (coords_val t))

end

variable (a1 : (pcfg1 (F := Ideal)).Adm) (W : Dev nD → Valuation τ sig (Elt Ideal))

/-- The gate and up weights of the tile's expert, as the point holds them. -/
theorem wG_at (c : Dev nD) (t : Fin (cfgA a1).N) (e : Fin 16) (he : (TE a1 (at40 t)).toNat = e.val) (d : Fin 2048) (f : Fin 1024) :
    wG a1 W c t (ix2 d f) = (W c (Proc.devRef .tc main_arg1) : S2x16x2048x1024.Idx → EReal) (ix4 0 e d f) := by
  have h1 : wG a1 W c t (ix2 d f) = (blkOf a1 W c (1 : Fin 4) t : S1x1x2048x1024.Idx → EReal) (ix4 0 0 d f) := by
    unfold wG k1_pay1; pointwise
  rw [h1]
  obtain ⟨p, e1, hp⟩ := blk1_at a1 W c t (ix4 0 0 d f)
  rw [at_crd, he] at hp
  refine e1.trans (congrArg _ (funext fun b : Fin 4 => Fin.ext ?_))
  rw [hp]
  match b with
  | 0 => rfl
  | 1 => show e.val * 1 + 1 * 0 = e.val; omega
  | 2 => show 0 * 2048 + 1 * d.val = d.val; omega
  | 3 => show 0 * 1024 + 1 * f.val = f.val; omega

/-- The down weights likewise. -/
theorem wD_at (c : Dev nD) (t : Fin (cfgA a1).N) (e : Fin 16) (he : (TE a1 (at40 t)).toNat = e.val) (f : Fin 512) (j : Fin 2048) :
    wD a1 W c t (ix2 f j) = (W c (Proc.devRef .tc main_arg2) : S2x16x512x2048.Idx → EReal) (ix4 0 e f j) := by
  have h1 : wD a1 W c t (ix2 f j) = (blkOf a1 W c (2 : Fin 4) t : S1x1x512x2048.Idx → EReal) (ix4 0 0 f j) := by
    unfold wD k1_pay2; pointwise
  rw [h1]
  obtain ⟨p, e1, hp⟩ := blk2_at a1 W c t (ix4 0 0 f j)
  rw [at_crd, he] at hp
  refine e1.trans (congrArg _ (funext fun b : Fin 4 => Fin.ext ?_))
  rw [hp]
  match b with
  | 0 => rfl
  | 1 => show e.val * 1 + 1 * 0 = e.val; omega
  | 2 => show 0 * 512 + 1 * f.val = f.val; omega
  | 3 => show 0 * 2048 + 1 * j.val = j.val; omega

/-- A filled tile's rows end holding the gated linear unit of the tile's expert. -/
theorem out_on (c : Dev nD) (t : Fin 40) (r : Fin 512) (j : Fin 2048) (e : Fin 16) (hv : TV a1 (at40 t) = 1#32) (he : (TE a1 (at40 t)).toNat = e.val) :
    ((dat a1 W c).arrAt (3 : Fin 4) (cfgA a1).N : S40960x2048.Idx → EReal) (ix2 ⟨(t.val + 40) * 512 + r.val, by omega⟩ j)
      = ffn (fun d => (W c (Proc.devRef .tc main_v4) : S20480x2048.Idx → EReal) (ix2 ⟨t.val * 512 + r.val, by omega⟩ d))
          (fun d f => (W c (Proc.devRef .tc main_arg1) : S2x16x2048x1024.Idx → EReal) (ix4 0 e d f))
          (fun f => (W c (Proc.devRef .tc main_arg2) : S2x16x512x2048.Idx → EReal) (ix4 0 e f j)) := by
  refine (out_at a1 W c t (ix2 ⟨(t.val + 40) * 512 + r.val, by omega⟩ j) (ix2 r j) rfl rfl).trans ?_
  unfold tileOf tile
  rw [if_pos ((computes_iff (crd a1 t)).mpr ((congrArg (fun x => k1_cond2 (TV a1 x)) (at_crd a1 t)).trans ((congrArg k1_cond2 hv).trans cond2_one)))]
  refine (pay3_value _ _ _ r j).trans ?_
  have hx : (fun d => (blkOf a1 W c (0 : Fin 4) t : S512x2048.Idx → EReal) (ix2 r d))
      = fun d => (W c (Proc.devRef .tc main_v4) : S20480x2048.Idx → EReal) (ix2 ⟨t.val * 512 + r.val, by omega⟩ d) :=
    funext fun d => blk0_at a1 W c t (ix2 ⟨t.val * 512 + r.val, by omega⟩ d) (ix2 r d) rfl rfl
  have hg : (fun d f => wG a1 W c t (ix2 d f)) = fun d f => (W c (Proc.devRef .tc main_arg1) : S2x16x2048x1024.Idx → EReal) (ix4 0 e d f) :=
    funext fun d => funext fun f => wG_at a1 W c t e he d f
  have hw : (fun f => wD a1 W c t (ix2 f j)) = fun f => (W c (Proc.devRef .tc main_arg2) : S2x16x512x2048.Idx → EReal) (ix4 0 e f j) :=
    funext fun f => wD_at a1 W c t e he f j
  exact congr (congr (congrArg ffn hx) hg) hw

/-- An empty tile's rows end holding zero. -/
theorem out_zero (c : Dev nD) (t : Fin 40) (r : Fin 512) (j : Fin 2048) (hv : TV a1 (at40 t) = 0#32) :
    ((dat a1 W c).arrAt (3 : Fin 4) (cfgA a1).N : S40960x2048.Idx → EReal) (ix2 ⟨(t.val + 40) * 512 + r.val, by omega⟩ j) = (0 : EReal) := by
  refine (out_at a1 W c t (ix2 ⟨(t.val + 40) * 512 + r.val, by omega⟩ j) (ix2 r j) rfl rfl).trans ?_
  unfold tileOf tile
  rw [if_neg (fun h => by
    have h' := ((congrArg (fun x => k1_cond2 (TV a1 x)) (at_crd a1 t)).trans ((congrArg k1_cond2 hv).trans cond2_zero)).symm.trans
      ((computes_iff (crd a1 t)).mp h)
    exact absurd h' (by decide))]
  unfold k1_pay4
  pointwise

end Cert.Experts.Call1

end
-- ==== Proof.Meet.lean ====
/- The kernel's result is the reference's: element by element, by the call that writes the row and by the tile's mark. -/
module

public import proofs.«01_k».proof.Proof.Run
public import proofs.«01_k».proof.Proof.Result0
public import proofs.«01_k».proof.Proof.Result1

@[expose] public section

set_option maxRecDepth 16384
set_option Elab.async false

noncomputable section

namespace Cert.Experts

open Cert.KernelIdeal Cert.KernelIdeal.Gen
open Idealize.ShloMosaic Idealize.ShloMosaic.TcCoe
open Idealize.SL.Sem
open Idealize.ShloMosaic.Pipeline (Dat)

variable {m : (ℓ : Loc nD τ sig) → Buf (Elt Ideal) ℓ} (hm : Ranged m) (c : Dev nD)

/-- The arguments of the program, at their types. -/
def rows (m : (ℓ : Loc nD τ sig) → Buf (Elt Ideal) ℓ) (c : Dev nD) : FVec Ideal S40960x2048 .bf16 := m ((c : Thread nD τ).loc main_arg0)
def gateUp (m : (ℓ : Loc nD τ sig) → Buf (Elt Ideal) ℓ) (c : Dev nD) : FVec Ideal S2x16x2048x1024 .f32 := m ((c : Thread nD τ).loc main_arg1)
def down (m : (ℓ : Loc nD τ sig) → Buf (Elt Ideal) ℓ) (c : Dev nD) : FVec Ideal S2x16x512x2048 .f32 := m ((c : Thread nD τ).loc main_arg2)
def expertOf (m : (ℓ : Loc nD τ sig) → Buf (Elt Ideal) ℓ) (c : Dev nD) : IVec S80 32 := m ((c : Thread nD τ).loc main_arg3)
def markOf (m : (ℓ : Loc nD τ sig) → Buf (Elt Ideal) ℓ) (c : Dev nD) : IVec S80 32 := m ((c : Thread nD τ).loc main_arg4)

theorem at40_eq (t : Fin 40) : (Call0.at40 t : S40.Idx) = Idealize.ShloMosaic.ix1 t := by
  refine funext fun b => Fin.ext ?_
  obtain rfl : b = (0 : Fin 1) := Subsingleton.elim _ _
  rfl

theorem lo40 (x : IVec S80 32) (t : Fin 40) : extractStridedSlice S40 ![0] x slices_S80_S40_0 (Idealize.ShloMosaic.ix1 t) = x (Idealize.ShloMosaic.ix1 ⟨t.val, by omega⟩) := by
  pointwise
theorem hi40 (x : IVec S80 32) (t : Fin 40) : extractStridedSlice S40 ![40] x slices_S80_S40_40 (Idealize.ShloMosaic.ix1 t) = x (Idealize.ShloMosaic.ix1 ⟨t.val + 40, by omega⟩) := by
  pointwise
  exact congrArg x (congrArg Idealize.ShloMosaic.ix1 (Fin.ext (Nat.add_comm _ _)))

theorem loRows (x : FVec Ideal S40960x2048 .bf16) (r : Fin 20480) (d : Fin 2048) :
    extractStridedSlice S20480x2048 ![0, 0] x slices_S40960x2048_S20480x2048_0_0 (ix2 r d) = x (ix2 ⟨r.val, by omega⟩ d) := by
  pointwise
theorem hiRows (x : FVec Ideal S40960x2048 .bf16) (r : Fin 20480) (d : Fin 2048) :
    extractStridedSlice S20480x2048 ![20480, 0] x slices_S40960x2048_S20480x2048_20480_0 (ix2 r d) = x (ix2 ⟨r.val + 20480, by omega⟩ d) := by
  pointwise
  exact congrArg (fun a => x (ix2 a d)) (Fin.ext (Nat.add_comm _ _))

theorem te0 (t : Fin 40) : Call0.TE (adm0 hm) (Call0.at40 t) = expertOf m 0 (Idealize.ShloMosaic.ix1 ⟨t.val, by omega⟩) :=
  show extractStridedSlice S40 ![0] (expertOf m 0) slices_S80_S40_0 (Call0.at40 t) = _ from (congrArg _ (at40_eq t)).trans (lo40 _ t)
theorem tv0 (t : Fin 40) : Call0.TV (adm0 hm) (Call0.at40 t) = markOf m 0 (Idealize.ShloMosaic.ix1 ⟨t.val, by omega⟩) :=
  show extractStridedSlice S40 ![0] (markOf m 0) slices_S80_S40_0 (Call0.at40 t) = _ from (congrArg _ (at40_eq t)).trans (lo40 _ t)
theorem te1 (t : Fin 40) : Call1.TE (adm1 hm) (Call1.at40 t) = expertOf m 0 (Idealize.ShloMosaic.ix1 ⟨t.val + 40, by omega⟩) :=
  show extractStridedSlice S40 ![40] (expertOf m 0) slices_S80_S40_40 (Call0.at40 t) = _ from (congrArg _ (at40_eq t)).trans (hi40 _ t)
theorem tv1 (t : Fin 40) : Call1.TV (adm1 hm) (Call1.at40 t) = markOf m 0 (Idealize.ShloMosaic.ix1 ⟨t.val + 40, by omega⟩) :=
  show extractStridedSlice S40 ![40] (markOf m 0) slices_S80_S40_40 (Call0.at40 t) = _ from (congrArg _ (at40_eq t)).trans (hi40 _ t)

/-- What a row of a tile has to end holding. -/
def Holds (m : (ℓ : Loc nD τ sig) → Buf (Elt Ideal) ℓ) (c : Dev nD) (n : Fin 80) (v : EReal) (r : Fin 40960) (j : Fin 2048) : Prop :=
  (markOf m 0 (Idealize.ShloMosaic.ix1 n) = 0#32 → v = 0)
  ∧ ∀ e : Fin 16, markOf m 0 (Idealize.ShloMosaic.ix1 n) = 1#32 → (expertOf m 0 (Idealize.ShloMosaic.ix1 n)).toNat = e.val →
      v = ffn (fun d => rows m c (ix2 r d)) (fun d f => gateUp m c (ix4 0 e d f)) (fun f => down m c (ix4 0 e f j))

theorem res0_holds (t : Fin 40) (q : Fin 512) (j : Fin 2048) :
    Holds m c ⟨t.val, by omega⟩ ((res0 hm c : S40960x2048.Idx → EReal) (ix2 ⟨t.val * 512 + q.val, by omega⟩ j)) ⟨t.val * 512 + q.val, by omega⟩ j := by
  refine ⟨fun hv => ?_, fun e hv he => ?_⟩
  · exact Call0.out_zero (adm0 hm) (V1 m) c t q j ((tv0 hm t).trans hv)
  · refine (Call0.out_on (adm0 hm) (V1 m) c t q j e ((tv0 hm t).trans hv) ((congrArg BitVec.toNat (te0 hm t)).trans he)).trans ?_
    have hx : (fun d => (V1 m c (Proc.devRef .tc main_v0) : S20480x2048.Idx → EReal) (ix2 ⟨t.val * 512 + q.val, by omega⟩ d))
        = fun d => rows m c (ix2 ⟨t.val * 512 + q.val, by omega⟩ d) := funext fun d => loRows (rows m c) ⟨t.val * 512 + q.val, by omega⟩ d
    exact congrArg (fun f => ffn f _ _) hx

theorem res1_holds (t : Fin 40) (q : Fin 512) (j : Fin 2048) :
    Holds m c ⟨t.val + 40, by omega⟩ ((res1 hm c : S40960x2048.Idx → EReal) (ix2 ⟨(t.val + 40) * 512 + q.val, by omega⟩ j)) ⟨(t.val + 40) * 512 + q.val, by omega⟩ j := by
  refine ⟨fun hv => ?_, fun e hv he => ?_⟩
  · exact Call1.out_zero (adm1 hm) (V3 m (outs0 hm)) c t q j ((tv1 hm t).trans hv)
  · refine (Call1.out_on (adm1 hm) (V3 m (outs0 hm)) c t q j e ((tv1 hm t).trans hv) ((congrArg BitVec.toNat (te1 hm t)).trans he)).trans ?_
    have hx : (fun d => (V3 m (outs0 hm) c (Proc.devRef .tc main_v4) : S20480x2048.Idx → EReal) (ix2 ⟨t.val * 512 + q.val, by omega⟩ d))
        = fun d => rows m c (ix2 ⟨(t.val + 40) * 512 + q.val, by omega⟩ d) := funext fun d =>
      (hiRows (rows m c) ⟨t.val * 512 + q.val, by omega⟩ d).trans (congrArg (fun a => rows m c (ix2 a d)) (Fin.ext (by
        show t.val * 512 + q.val + 20480 = (t.val + 40) * 512 + q.val
        omega)))
    exact congrArg (fun f => ffn f _ _) hx

/-- Between the calls the first call's result is copied to the second call's output array. -/
theorem copied (V : Valuation τ sig (Elt Ideal)) : StableHlo.after hostOps1 V (Proc.devRef .tc main_v7) = V (Proc.devRef .tc main_v3) := rfl

/-- The second call keeps the first call's rows. -/
theorem res1_low (p : S40960x2048.Idx) (h : (p 0).val < 20480) : (res1 hm c : S40960x2048.Idx → EReal) p = (res0 hm c : S40960x2048.Idx → EReal) p := by
  refine (Call1.out_off (adm1 hm) (V3 m (outs0 hm)) c p (.inl h)).trans ?_
  have e : V3 m (outs0 hm) c (Proc.devRef .tc main_v7) = V2 m (outs0 hm) c (Proc.devRef .tc main_v3) := copied _
  have e2 : V2 m (outs0 hm) c (Proc.devRef .tc main_v3) = res0 hm c := (V2_v3 m (outs0 hm) c).trans (by simp only [outs0, Function.update_self])
  exact congrFun (e.trans e2) p

/-- Every row of the result, by its tile. -/
theorem holds (n : Fin 80) (q : Fin 512) (j : Fin 2048) :
    Holds m c n ((res1 hm c : S40960x2048.Idx → EReal) (ix2 ⟨n.val * 512 + q.val, by omega⟩ j)) ⟨n.val * 512 + q.val, by omega⟩ j := by
  by_cases h : n.val < 40
  · rw [res1_low hm c (ix2 ⟨n.val * 512 + q.val, by omega⟩ j) (show n.val * 512 + q.val < 20480 by omega)]
    exact res0_holds hm c ⟨n.val, h⟩ q j
  · have hk : n = ⟨(⟨n.val - 40, by omega⟩ : Fin 40).val + 40, by show n.val - 40 + 40 < 80; omega⟩ := Fin.ext (by show n.val = n.val - 40 + 40; omega)
    rw [hk]
    exact res1_holds hm c ⟨n.val - 40, by omega⟩ q j

/-- The reference's result as a function of the arguments. -/
def spec (m : (ℓ : Loc nD τ sig) → Buf (Elt Ideal) ℓ) (c : Dev nD) : FVec Ideal S40960x2048 .bf16 :=
  truncf .bf16 (Ref.sumUp (extf .f32 (rows m c) bitsLt_bf16_f32) (gateUp m c) (down m c) (Ref.gates (expertOf m c) (markOf m c))) bitsLt_bf16_f32

include hm in
/-- What holds of a row is what the reference computes. -/
theorem spec_of_holds (n : Fin 80) (r : Fin 40960) (hr : r.val / 512 = n.val) (j : Fin 2048) (v : EReal) (h : Holds m 0 n v r j) :
    v = (spec m 0 : S40960x2048.Idx → EReal) (ix2 r j) := by
  have hn : (⟨r.val / 512, by have := r.isLt; omega⟩ : Fin 80) = n := Fin.ext hr
  have hmn : markOf m 0 (Idealize.ShloMosaic.ix1 n) = 0#32 ∨ markOf m 0 (Idealize.ShloMosaic.ix1 n) = 1#32 := (hm 0 (Idealize.ShloMosaic.ix1 n)).2
  have hen : (expertOf m 0 (Idealize.ShloMosaic.ix1 n)).toNat < 16 := (hm 0 (Idealize.ShloMosaic.ix1 n)).1
  rcases hmn with hv | hv
  · rw [h.1 hv]
    exact (sumUp_off (extf .f32 (rows m 0) bitsLt_bf16_f32) (gateUp m 0) (down m 0) (expertOf m 0) (markOf m 0) r j (by rw [hn]; exact hv)).symm
  · rw [h.2 ⟨_, hen⟩ hv rfl]
    exact (sumUp_on (extf .f32 (rows m 0) bitsLt_bf16_f32) (gateUp m 0) (down m 0) (expertOf m 0) (markOf m 0) r j ⟨_, hen⟩ (by rw [hn]; exact hv)
      (by rw [hn]; exact BitVec.eq_of_toNat_eq (by rw [BitVec.toNat_ofNat]; exact (Nat.mod_eq_of_lt (by omega)).symm))).symm

/-- The kernel's result is the reference's. -/
theorem meets : (outs hm 4 main_v7 c : S40960x2048.Idx → EReal) = spec m c := by
  obtain rfl : c = 0 := dev_eq c
  rw [outs_4]
  funext p
  obtain ⟨r, j, rfl⟩ : ∃ (r : Fin 40960) (j : Fin 2048), p = ix2 r j := ⟨p 0, p 1, eq_ix2 p⟩
  have hrl := r.isLt
  have hr : r = ⟨(⟨r.val / 512, by omega⟩ : Fin 80).val * 512 + (⟨r.val % 512, by omega⟩ : Fin 512).val, by show r.val / 512 * 512 + r.val % 512 < 40960; omega⟩ :=
    Fin.ext (by show r.val = r.val / 512 * 512 + r.val % 512; omega)
  have h := holds hm 0 ⟨r.val / 512, by omega⟩ ⟨r.val % 512, by omega⟩ j
  rw [← hr] at h
  exact spec_of_holds hm _ r rfl j _ h

end Cert.Experts

end
-- ==== Proof.Product2.lean ====
/- The first layer's input projection over the extended reals: each tile of the kernel's output is the product of a
   band of rows and a band of columns, the band of weights read once per run of sixteen points and kept between them. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384
set_option Elab.async false

noncomputable section

namespace Cert.Projection.Even

open Idealize.ShloMosaic Idealize.ShloMosaic.TcCoe Idealize.ShloMosaic.Tactic

section Reference
open Cert.Reference2Ideal

/-- The reference's term at the given rows and weights. -/
def term (x : FVec Ideal S16384x2048 .f32) (w : FVec Ideal S2048x6144 .f32) : FVec Ideal S16384x6144 .bf16 :=
  truncf .bf16 (Host.dotGeneral dot_S16384x2048_S2048x6144_S16384x6144_1_0_0_1_n_n none x w) Facts₀.bitsLt_bf16_f32

theorem reference_at (x : FVec Ideal S16384x2048 .f32) (w : FVec Ideal S2048x6144 .f32) (p : Fin 16384) (q : Fin 6144) :
    (term x w : S16384x6144.Idx → EReal) (ix2 p q) = ∑ d : Fin 2048, (x (ix2 p d) : EReal) * w (ix2 d q) := by
  unfold term; pointwise

end Reference

open Cert.Kernel2Ideal Cert.Kernel2Ideal.Gen
open Idealize.ShloMosaic Idealize.ShloMosaic.TcCoe Idealize.ShloMosaic.Tactic
open Idealize.SL.Sem

theorem base : (![0, 0] : Fin 2 → Nat) = fun _ => 0 := funext fun a => by fin_cases a <;> rfl

section Tiles

variable {F : FTy → Type} [FloatOps F]
variable (c : Dev nD) (i : grid0.Coords) (a2 : Memref sig .tc .vmem S1024x2048 .f32) (h2 : a2.IsWhole)
  (a3 : Memref sig .tc .vmem S2048x1024 .f32) (h3 : a3.IsWhole) (a4 : Memref sig .tc .vmem S1024x1024 .bf16) (h4 : a4.IsWhole)
  (a5 : Memref sig .tc .vmem S2048x1024 .bf16) (h5 : a5.IsWhole)
  (x : Vec F S1024x2048 .f32) (w : Vec F S2048x1024 .f32) (s : Vec F S2048x1024 .bf16)

/-- The first point of a run keeps the weights' band it was given. -/
theorem kept_first (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero base]
  simp only [View.readAt_eq_ld, h3.read_unread, View.ld_unit_zero (S := S2048x1024) base]

/-- Its tile is the product with that band. -/
theorem tile_first (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero base, View.readCov_unit_zero (S := S2048x1024) _ base]
  simp only [View.readAt_eq_ld, h2.read_unread, h3.read_unread, View.ld_unit_zero (S := S2048x1024) base, View.ld_unit_zero (S := S1024x2048) base]

/-- Every other point's tile is the product with the band kept. -/
theorem tile_next (hc : ¬cond0_0 i) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero base]
  simp only [View.readAt_eq_ld, h2.read_unread, h5.read_unread, View.ld_unit_zero (S := S2048x1024) base, View.ld_unit_zero (S := S1024x2048) base]

end Tiles

theorem points : cfg0.N = 96 := N_0
theorem below (t : Fin cfg0.N) : t.val < 96 := lt_of_lt_of_eq t.isLt points
theorem rows_at : ∀ t : Fin grid0.N, cc0_transform_0 (grid0.coords t) = ![t.val % 16, 0] := by decide +kernel
theorem cols_at : ∀ t : Fin grid0.N, cc0_transform_1 (grid0.coords t) = ![0, t.val / 16] := by decide +kernel

variable (m : (ℓ : Loc nD τ sig) → Buf (Elt Ideal) ℓ) (c : Dev nD)

/-- The rows and the weights as the program was given them. -/
abbrev rows : S16384x2048.Idx → EReal := m ((c : Thread nD τ).loc main_arg0)
abbrev weights : S2048x6144.Idx → EReal := m ((c : Thread nD τ).loc main_arg1)

theorem row_block (t : Fin cfg0.N) (r : Fin 1024) (d : Fin 2048) :
    (iblk m c 0 t : S1024x2048.Idx → EReal) (ix2 r d) = rows m c (ix2 ⟨1024 * (t.val % 16) + r.val, by omega⟩ d) := by
  have e : ((cfg0.win 0).blk t).view.emb (ix2 r d : S1024x2048.Idx) = (ix2 ⟨1024 * (t.val % 16) + r.val, by omega⟩ d : S16384x2048.Idx) := by
    refine funext fun b : Fin 2 => Fin.ext ?_
    have hb : (((cfg0.win 0).blk t).view.emb (ix2 r d : S1024x2048.Idx) b).val
        = (cc0_transform_0 (grid0.coords t)) b * S1024x2048.size b + 1 * ((ix2 r d : S1024x2048.Idx) b).val := rfl
    rw [hb, rows_at]
    match b with
    | 0 => show t.val % 16 * 1024 + 1 * r.val = 1024 * (t.val % 16) + r.val; omega
    | 1 => show 0 * 2048 + 1 * d.val = d.val; omega
  refine Eq.trans (b := (V m c main_arg0 : S16384x2048.Idx → EReal) (((cfg0.win 0).blk t).view.emb (ix2 r d : S1024x2048.Idx))) rfl ?_
  rw [e]

theorem weight_block (t : Fin cfg0.N) (d : Fin 2048) (s : Fin 1024) :
    (iblk m c 1 t : S2048x1024.Idx → EReal) (ix2 d s) = weights m c (ix2 d ⟨1024 * (t.val / 16) + s.val, by have := below t; omega⟩) := by
  have e : ((cfg0.win 1).blk t).view.emb (ix2 d s : S2048x1024.Idx)
      = (ix2 d ⟨1024 * (t.val / 16) + s.val, by have := below t; omega⟩ : S2048x6144.Idx) := by
    refine funext fun b : Fin 2 => Fin.ext ?_
    have hb : (((cfg0.win 1).blk t).view.emb (ix2 d s : S2048x1024.Idx) b).val
        = (cc0_transform_1 (grid0.coords t)) b * S2048x1024.size b + 1 * ((ix2 d s : S2048x1024.Idx) b).val := rfl
    rw [hb, cols_at]
    match b with
    | 0 => show 0 * 2048 + 1 * d.val = d.val; omega
    | 1 => show t.val / 16 * 1024 + 1 * s.val = 1024 * (t.val / 16) + s.val; omega
  refine Eq.trans (b := (V m c main_arg1 : S2048x6144.Idx → EReal) (((cfg0.win 1).blk t).view.emb (ix2 d s : S2048x1024.Idx))) rfl ?_
  rw [e]

theorem pay1_value (w : Vec Ideal S2048x1024 .f32) (d : Fin 2048) (s : Fin 1024) : (k0_pay1 w : S2048x1024.Idx → EReal) (ix2 d s) = w (ix2 d s) := by
  unfold k0_pay1; pointwise

theorem pay2_value (x : Vec Ideal S1024x2048 .f32) (w : Vec Ideal S2048x1024 .bf16) (r : Fin 1024) (s : Fin 1024) :
    (k0_pay2 x w : S1024x1024.Idx → EReal) (ix2 r s) = ∑ d : Fin 2048, (x (ix2 r d) : EReal) * w (ix2 d s) := by
  unfold k0_pay2; pointwise

/-- After any point the band kept is the one of the point's run. -/
theorem kept_at : ∀ (n : ℕ) (h : n < cfg0.N) (d : Fin 2048) (s : Fin 1024),
    ((outsAt0 m c n h).2 : S2048x1024.Idx → EReal) (ix2 d s) = weights m c (ix2 d ⟨1024 * (n / 16) + s.val, by rw [points] at h; omega⟩) := by
  intro n
  induction n with
  | zero =>
    intro h d s
    rw [outsAt0_A m c ⟨0, h⟩ rfl, kept_first]
    exact (pay1_value _ d s).trans (weight_block m c ⟨0, h⟩ d s)
  | succ n ih =>
    intro h d s
    by_cases h0 : (n + 1) % 16 = 0
    · rw [outsAt0_A m c ⟨n + 1, h⟩ h0, kept_first]
      exact (pay1_value _ d s).trans (weight_block m c ⟨n + 1, h⟩ d s)
    · rw [outsAt0_B m c ⟨n + 1, h⟩ h0]
      refine (ih (Nat.lt_of_succ_lt h) d s).trans (congrArg _ ?_)
      have hd : n / 16 = (n + 1) / 16 := by omega
      exact congrArg (fun k : Fin 6144 => (ix2 d k : S2048x6144.Idx)) (Fin.ext (by show 1024 * (n / 16) + s.val = _; rw [hd]))

/-- After any point the output's tile is the product of the point's two bands. -/
theorem tile_at (t : Fin cfg0.N) (r s : Fin 1024) :
    ((outsAt0 m c t.val t.isLt).1 : S1024x1024.Idx → EReal) (ix2 r s)
      = ∑ d : Fin 2048, rows m c (ix2 ⟨1024 * (t.val % 16) + r.val, by omega⟩ d)
          * weights m c (ix2 d ⟨1024 * (t.val / 16) + s.val, by have := below t; omega⟩) := by
  have hk := kept_at m c t.val t.isLt
  by_cases h0 : t.val % 16 = 0
  · rw [outsAt0_A m c t h0, kept_first] at hk
    rw [outsAt0_A m c t h0, tile_first]
    refine (pay2_value _ _ r s).trans (Finset.sum_congr rfl fun d _ => ?_)
    rw [row_block]; exact congrArg _ (hk d s)
  · rw [outsAt0_B m c t h0] at hk
    rw [outsAt0_B m c t h0, tile_next]
    refine (pay2_value _ _ r s).trans (Finset.sum_congr rfl fun d _ => ?_)
    rw [row_block]; exact congrArg _ (hk d s)

/-- The kernel's result, element by element. -/
theorem result_at (p : Fin 16384) (q : Fin 6144) :
    (Cert.Kernel2Ideal.Value.G2 m c : S16384x6144.Idx → EReal) (ix2 p q) = ∑ d : Fin 2048, rows m c (ix2 p d) * weights m c (ix2 d q) := by
  have hp := p.isLt
  have hq := q.isLt
  have hn : p.val / 1024 + 16 * (q.val / 1024) < cfg0.N := by rw [points]; omega
  have e : Cert.Kernel2Ideal.Value.pt2Of (ix2 p q : S16384x6144.Idx) = p.val / 1024 + 16 * (q.val / 1024) := by
    show 1 * (p.val / 1024 - 0) + 16 * (q.val / 1024 - 0) = _; omega
  have l : Cert.Kernel2Ideal.Value.loc2Of (ix2 p q : S16384x6144.Idx) = (ix2 ⟨p.val % 1024, by omega⟩ ⟨q.val % 1024, by omega⟩ : S1024x1024.Idx) :=
    funext fun b : Fin 2 => by match b with | 0 => rfl | 1 => rfl
  unfold Cert.Kernel2Ideal.Value.G2
  rw [dif_pos (by rw [e]; exact hn), l, Cert.Kernel2Ideal.Value.fold0_congr m c _ _ _ (by rw [Nat.zero_add]; exact hn) e, ← Cert.Kernel2Ideal.Value.outsAt0_sweep m c _ hn]
  refine (tile_at m c ⟨_, hn⟩ _ _).trans (Finset.sum_congr rfl fun d _ => ?_)
  refine congr (congrArg _ (congrArg (rows m c) ?_)) (congrArg (weights m c) ?_)
  · exact congrArg (fun k : Fin 16384 => (ix2 k d : S16384x2048.Idx)) (Fin.ext (by
      show 1024 * ((p.val / 1024 + 16 * (q.val / 1024)) % 16) + p.val % 1024 = p.val; omega))
  · exact congrArg (fun k : Fin 6144 => (ix2 d k : S2048x6144.Idx)) (Fin.ext (by
      show 1024 * ((p.val / 1024 + 16 * (q.val / 1024)) / 16) + q.val % 1024 = q.val; omega))

/-- The kernel's result is the reference's term of the same two arrays. -/
theorem meets : (Cert.Kernel2Ideal.Value.G2 m c : S16384x6144.Idx → EReal) = (term (rows m c) (weights m c) : S16384x6144.Idx → EReal) :=
  funext fun i => by
    rw [eq_ix2 i]
    exact (result_at m c _ _).trans (reference_at _ _ _ _).symm

end Cert.Projection.Even

end
-- ==== Proof.Product3.lean ====
/- The second layer's input projection, its first 4096 columns, over the extended reals: each tile of the kernel's output is the product of a
   band of rows and a band of columns, the band of weights read once per run of sixteen points and kept between them. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384
set_option Elab.async false

noncomputable section

namespace Cert.Projection.Odd

open Idealize.ShloMosaic Idealize.ShloMosaic.TcCoe Idealize.ShloMosaic.Tactic

section Reference
open Cert.Reference3Ideal

/-- The reference's term at the given rows and weights. -/
def term (x : FVec Ideal S16384x2048 .bf16) (w : FVec Ideal S2048x4176 .f32) : FVec Ideal S16384x4096 .bf16 :=
  truncf .bf16 (extractStridedSlice S16384x4096 ![0, 0] (Host.dotGeneral dot_S16384x2048_S2048x4176_S16384x4176_1_0_0_1_n_n none
    (extf .f32 x Facts₀.bitsLt_bf16_f32) w) Facts₀.slices_S16384x4176_S16384x4096_0_0) Facts₀.bitsLt_bf16_f32

theorem reference_at (x : FVec Ideal S16384x2048 .bf16) (w : FVec Ideal S2048x4176 .f32) (p : Fin 16384) (q : Fin 4096) :
    (term x w : S16384x4096.Idx → EReal) (ix2 p q) = ∑ d : Fin 2048, (x (ix2 p d) : EReal) * w (ix2 d ⟨q.val, by omega⟩) := by
  unfold term; pointwise

end Reference

open Cert.Kernel3Ideal Cert.Kernel3Ideal.Gen
open Idealize.ShloMosaic Idealize.ShloMosaic.TcCoe Idealize.ShloMosaic.Tactic
open Idealize.SL.Sem

theorem base : (![0, 0] : Fin 2 → Nat) = fun _ => 0 := funext fun a => by fin_cases a <;> rfl

section Tiles

variable {F : FTy → Type} [FloatOps F]
variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .bf16) (h4 : a4.IsWhole)
  (a5 : Memref sig .tc .vmem S1024x2048 .bf16) (h5 : a5.IsWhole)
  (x : Vec F S1024x2048 .bf16) (w : Vec F S1024x2048 .f32) (s : Vec F S1024x2048 .bf16)

/-- The first point of a run keeps the weights' band it was given. -/
theorem kept_first (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero base]
  simp only [View.readAt_eq_ld, h3.read_unread, View.ld_unit_zero (S := S1024x2048) base]

/-- Its tile is the product with that band. -/
theorem tile_first (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero base, View.readCov_unit_zero (S := S1024x2048) _ base]
  simp only [View.readAt_eq_ld, h2.read_unread, h3.read_unread, View.ld_unit_zero (S := S1024x2048) base]

/-- Every other point's tile is the product with the band kept. -/
theorem tile_next (hc : ¬cond0_0 i) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero base]
  simp only [View.readAt_eq_ld, h2.read_unread, h5.read_unread, View.ld_unit_zero (S := S1024x2048) base]

end Tiles

theorem points : cfg0.N = 64 := N_0
theorem below (t : Fin cfg0.N) : t.val < 64 := lt_of_lt_of_eq t.isLt points
theorem rows_at : ∀ t : Fin grid0.N, cc0_transform_0 (grid0.coords t) = ![t.val % 16, 0] := by decide +kernel
theorem cols_at : ∀ t : Fin grid0.N, cc0_transform_1 (grid0.coords t) = ![t.val / 16, 0] := by decide +kernel

variable (m : (ℓ : Loc nD τ sig) → Buf (Elt Ideal) ℓ) (c : Dev nD)

/-- The rows and the weights as the program was given them. -/
abbrev rows : S16384x2048.Idx → EReal := m ((c : Thread nD τ).loc main_arg0)
abbrev weights : S2048x4176.Idx → EReal := m ((c : Thread nD τ).loc main_arg1)

theorem row_block (t : Fin cfg0.N) (r : Fin 1024) (d : Fin 2048) :
    (iblk m c 0 t : S1024x2048.Idx → EReal) (ix2 r d) = rows m c (ix2 ⟨1024 * (t.val % 16) + r.val, by omega⟩ d) := by
  have e : ((cfg0.win 0).blk t).view.emb (ix2 r d : S1024x2048.Idx) = (ix2 ⟨1024 * (t.val % 16) + r.val, by omega⟩ d : S16384x2048.Idx) := by
    refine funext fun b : Fin 2 => Fin.ext ?_
    have hb : (((cfg0.win 0).blk t).view.emb (ix2 r d : S1024x2048.Idx) b).val
        = (cc0_transform_0 (grid0.coords t)) b * S1024x2048.size b + 1 * ((ix2 r d : S1024x2048.Idx) b).val := rfl
    rw [hb, rows_at]
    match b with
    | 0 => show t.val % 16 * 1024 + 1 * r.val = 1024 * (t.val % 16) + r.val; omega
    | 1 => show 0 * 2048 + 1 * d.val = d.val; omega
  refine Eq.trans (b := (V m c main_arg0 : S16384x2048.Idx → EReal) (((cfg0.win 0).blk t).view.emb (ix2 r d : S1024x2048.Idx))) rfl ?_
  rw [e]; exact congrFun (V_main_arg0 m c) _

/-- The region finds the weights transposed. -/
theorem turned : (V m c main_v0 : FVec Ideal S4176x2048 .f32)
    = transpose S4176x2048 [1, 0] (weights m c : FVec Ideal S2048x4176 .f32) Facts₀.transposes_S2048x4176_S4176x2048_1_0 := by
  show StableHlo.after hostOps0 (fun b => m (c, b)) main_v0 = _
  after_results

theorem turned_at (q : Fin 4176) (d : Fin 2048) : (V m c main_v0 : S4176x2048.Idx → EReal) (ix2 q d) = weights m c (ix2 d q) := by
  rw [turned]; pointwise

theorem weight_block (t : Fin cfg0.N) (s : Fin 1024) (d : Fin 2048) :
    (X0_1 m c t : S1024x2048.Idx → EReal) (ix2 s d) = weights m c (ix2 d ⟨1024 * (t.val / 16) + s.val, by have := below t; omega⟩) := by
  unfold X0_1 Pipeline.Window.fill
  rw [dif_pos (moved0_1 t _)]
  refine Eq.trans (b := (V m c main_v0 : S4176x2048.Idx → EReal) (ix2 ⟨1024 * (t.val / 16) + s.val, by have := below t; omega⟩ d)) ?_ (turned_at m c _ d)
  refine congrArg (V m c main_v0 : S4176x2048.Idx → EReal) ?_
  refine funext fun b : Fin 2 => Fin.ext ?_
  refine Eq.trans (b := (cc0_transform_1 (grid0.coords t)) b * S1024x2048.size b + 1 * ((ix2 s d : S1024x2048.Idx) b).val) rfl ?_
  rw [cols_at]
  match b with
  | 0 => show t.val / 16 * 1024 + 1 * s.val = 1024 * (t.val / 16) + s.val; omega
  | 1 => show 0 * 2048 + 1 * d.val = d.val; omega

theorem pay1_value (w : Vec Ideal S1024x2048 .f32) (s : Fin 1024) (d : Fin 2048) : (k0_pay1 w : S1024x2048.Idx → EReal) (ix2 s d) = w (ix2 s d) := by
  unfold k0_pay1; pointwise

/-- The band a run keeps, as its first point reads it. -/
theorem band (t : Fin cfg0.N) (s : Fin 1024) (d : Fin 2048) :
    (k0_pay1 (F := Ideal) (X0_1 m c t) : S1024x2048.Idx → EReal) (ix2 s d) = weights m c (ix2 d ⟨1024 * (t.val / 16) + s.val, by have := below t; omega⟩) := by
  rw [← weight_block]
  exact pay1_value (X0_1 m c t) s d

theorem pay2_value (x : Vec Ideal S1024x2048 .bf16) (w : Vec Ideal S1024x2048 .bf16) (r : Fin 1024) (s : Fin 1024) :
    (k0_pay2 x w : S1024x1024.Idx → EReal) (ix2 r s) = ∑ d : Fin 2048, (x (ix2 r d) : EReal) * w (ix2 s d) := by
  unfold k0_pay2; pointwise

/-- After any point the band kept is the one of the point's run. -/
theorem kept_at : ∀ (n : ℕ) (h : n < cfg0.N) (s : Fin 1024) (d : Fin 2048),
    ((outsAt0 m c n h).2 : S1024x2048.Idx → EReal) (ix2 s d) = weights m c (ix2 d ⟨1024 * (n / 16) + s.val, by rw [points] at h; omega⟩) := by
  intro n
  induction n with
  | zero =>
    intro h s d
    rw [outsAt0_A m c ⟨0, h⟩ rfl, kept_first]
    exact band m c ⟨0, h⟩ s d
  | succ n ih =>
    intro h s d
    by_cases h0 : (n + 1) % 16 = 0
    · rw [outsAt0_A m c ⟨n + 1, h⟩ h0, kept_first]
      exact band m c ⟨n + 1, h⟩ s d
    · rw [outsAt0_B m c ⟨n + 1, h⟩ h0]
      refine (ih (Nat.lt_of_succ_lt h) s d).trans (congrArg (weights m c) ?_)
      have hd : n / 16 = (n + 1) / 16 := by omega
      exact congrArg (fun k : Fin 4176 => (ix2 d k : S2048x4176.Idx)) (Fin.ext (by show 1024 * (n / 16) + s.val = _; rw [hd]))

/-- After any point the output's tile is the product of the point's two bands. -/
theorem tile_at (t : Fin cfg0.N) (r s : Fin 1024) :
    ((outsAt0 m c t.val t.isLt).1 : S1024x1024.Idx → EReal) (ix2 r s)
      = ∑ d : Fin 2048, rows m c (ix2 ⟨1024 * (t.val % 16) + r.val, by omega⟩ d)
          * weights m c (ix2 d ⟨1024 * (t.val / 16) + s.val, by have := below t; omega⟩) := by
  have hk := kept_at m c t.val t.isLt
  by_cases h0 : t.val % 16 = 0
  · rw [outsAt0_A m c t h0, kept_first] at hk
    rw [outsAt0_A m c t h0, tile_first]
    refine (pay2_value _ _ r s).trans (Finset.sum_congr rfl fun d _ => ?_)
    rw [row_block]; exact congrArg _ (hk s d)
  · rw [outsAt0_B m c t h0] at hk
    rw [outsAt0_B m c t h0, tile_next]
    refine (pay2_value _ _ r s).trans (Finset.sum_congr rfl fun d _ => ?_)
    rw [row_block]; exact congrArg _ (hk s d)

/-- The kernel's result, element by element. -/
theorem result_at (p : Fin 16384) (q : Fin 4096) :
    (Cert.Kernel3Ideal.Value.G2 m c : S16384x4096.Idx → EReal) (ix2 p q) = ∑ d : Fin 2048, rows m c (ix2 p d) * weights m c (ix2 d ⟨q.val, by omega⟩) := by
  have hp := p.isLt
  have hq := q.isLt
  have hn : p.val / 1024 + 16 * (q.val / 1024) < cfg0.N := by rw [points]; omega
  have e : Cert.Kernel3Ideal.Value.pt2Of (ix2 p q : S16384x4096.Idx) = p.val / 1024 + 16 * (q.val / 1024) := by
    show 1 * (p.val / 1024 - 0) + 16 * (q.val / 1024 - 0) = _; omega
  have l : Cert.Kernel3Ideal.Value.loc2Of (ix2 p q : S16384x4096.Idx) = (ix2 ⟨p.val % 1024, by omega⟩ ⟨q.val % 1024, by omega⟩ : S1024x1024.Idx) :=
    funext fun b : Fin 2 => by match b with | 0 => rfl | 1 => rfl
  unfold Cert.Kernel3Ideal.Value.G2
  rw [dif_pos (by rw [e]; exact hn), l, Cert.Kernel3Ideal.Value.fold0_congr m c _ _ _ (by rw [Nat.zero_add]; exact hn) e, ← Cert.Kernel3Ideal.Value.outsAt0_sweep m c _ hn]
  refine (tile_at m c ⟨_, hn⟩ _ _).trans (Finset.sum_congr rfl fun d _ => ?_)
  refine congr (congrArg _ (congrArg (rows m c) ?_)) (congrArg (weights m c) ?_)
  · exact congrArg (fun k : Fin 16384 => (ix2 k d : S16384x2048.Idx)) (Fin.ext (by
      show 1024 * ((p.val / 1024 + 16 * (q.val / 1024)) % 16) + p.val % 1024 = p.val; omega))
  · exact congrArg (fun k : Fin 4176 => (ix2 d k : S2048x4176.Idx)) (Fin.ext (by
      show 1024 * ((p.val / 1024 + 16 * (q.val / 1024)) / 16) + q.val % 1024 = q.val; omega))

/-- The kernel's result is the reference's term of the same two arrays. -/
theorem meets : (Cert.Kernel3Ideal.Value.G2 m c : S16384x4096.Idx → EReal) = (term (rows m c) (weights m c) : S16384x4096.Idx → EReal) :=
  funext fun i => by
    rw [eq_ix2 i]
    exact (result_at m c _ _).trans (reference_at _ _ _ _).symm

end Cert.Projection.Odd

end
-- ==== Proof.Norm4.lean ====
/- The output projection with the residual norm, over the extended reals: each tile of the kernel's two results is the
   normalised sum of the scaled residual rows and the product of the mixed rows with the weights, as the reference has it. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384
set_option Elab.async false

noncomputable section

namespace Cert.Projection.Out

open Idealize.ShloMosaic Idealize.ShloMosaic.TcCoe Idealize.ShloMosaic.Tactic

/-- The mean of a row of 2048 numbers. -/
def mean (z : Fin 2048 → EReal) : EReal := Ideal.div (∑ d, z d) (Ideal.ofBits .f32 0x45000000#32)

/-- Entry `q` of a row normalised, scaled by `g` and shifted by `b`. -/
def norm (z : Fin 2048 → EReal) (g b : EReal) (q : Fin 2048) : EReal :=
  (z q - mean z) * Ideal.rsqrt (Ideal.div (∑ d, (z d - mean z) * (z d - mean z)) (Ideal.ofBits .f32 0x45000000#32)
    + Ideal.ofBits .f32 0x3727C5AC#32) * g + b

/-- A row before the norm: the scaled residual plus the mixed row's product with the weights. -/
def mix (a h : Fin 2048 → EReal) (w : Fin 2048 → Fin 2048 → EReal) (d : Fin 2048) : EReal :=
  Ideal.ofBits .f32 0x3FB504F3#32 * h d + ∑ k : Fin 2048, a k * w k d

section Reference
open Cert.Reference4Ideal Cert.Reference4Ideal.Gen

/-- The reference's rows before the norm. -/
def pre (a : FVec Ideal S16384x2048 .bf16) (w : FVec Ideal S2048x2048 .f32) (h : FVec Ideal S16384x2048 .f32) : FVec Ideal S16384x2048 .f32 :=
  addf (mulf (broadcastInDim S16384x2048 ![] Facts₀.bcast_S_S16384x2048 (constant S_ .f32 0x3FB504F3#32)) h)
    (Host.dotGeneral dot_S16384x2048_S2048x2048_S16384x2048_1_0_0_1_n_n none (extf .f32 a Facts₀.bitsLt_bf16_f32) w)

/-- The sum of every row, divided by its length. -/
def avg (x : FVec Ideal S16384x2048 .f32) : FVec Ideal S16384x1 .f32 :=
  Host.divf (broadcastInDim S16384x1 ![0] Facts₀.bcast_S16384_S16384x1_0 (Host.reduceAdd x (constant S_ .f32 0x00000000#32) Facts₀.reducesTo_S16384x2048_S16384_d1 Facts₀.h_S_))
    (broadcastInDim S16384x1 ![] Facts₀.bcast_S_S16384x1 (constant S_ .f32 0x45000000#32))

def centred (z : FVec Ideal S16384x2048 .f32) : FVec Ideal S16384x2048 .f32 :=
  subf z (broadcastInDim S16384x2048 ![0, 1] Facts₀.bcast_S16384x1_S16384x2048_0_1 (avg z))

def normed (z : FVec Ideal S16384x2048 .f32) (g b : FVec Ideal S2048 .f32) : FVec Ideal S16384x2048 .f32 :=
  addf (mulf (mulf (centred z) (broadcastInDim S16384x2048 ![0, 1] Facts₀.bcast_S16384x1_S16384x2048_0_1
      (Host.rsqrt (addf (avg (mulf (centred z) (centred z))) (broadcastInDim S16384x1 ![] Facts₀.bcast_S_S16384x1 (constant S_ .f32 0x3727C5AC#32))))))
    (broadcastInDim S16384x2048 ![0, 1] Facts₀.bcast_S1x2048_S16384x2048_0_1 (broadcastInDim S1x2048 ![1] Facts₀.bcast_S2048_S1x2048_1 g)))
    (broadcastInDim S16384x2048 ![0, 1] Facts₀.bcast_S1x2048_S16384x2048_0_1 (broadcastInDim S1x2048 ![1] Facts₀.bcast_S2048_S1x2048_1 b))

theorem pre_at (a : FVec Ideal S16384x2048 .bf16) (w : FVec Ideal S2048x2048 .f32) (h : FVec Ideal S16384x2048 .f32) (p : Fin 16384) (d : Fin 2048) :
    (pre a w h : S16384x2048.Idx → EReal) (ix2 p d) = mix (fun k => a (ix2 p k)) (fun k => h (ix2 p k)) (fun k j => w (ix2 k j)) d := by
  unfold pre mix; pointwise

theorem avg_at (x : FVec Ideal S16384x2048 .f32) (p : Fin 16384) (u : Fin 1) :
    (avg x : S16384x1.Idx → EReal) (ix2 p u) = mean fun d => x (ix2 p d) := by
  unfold avg mean; pointwise

theorem normed_at (z : FVec Ideal S16384x2048 .f32) (g b : FVec Ideal S2048 .f32) (p : Fin 16384) (q : Fin 2048) :
    (normed z g b : S16384x2048.Idx → EReal) (ix2 p q) = norm (fun d => z (ix2 p d)) (g (ix1 q)) (b (ix1 q)) q := by
  unfold normed centred avg norm mean; pointwise

end Reference

open Cert.Kernel4Ideal Cert.Kernel4Ideal.Gen
open Idealize.SL.Sem

theorem pay6_value (a : Vec Ideal S512x2048 .bf16) (w : Vec Ideal S2048x2048 .bf16) (h : Vec Ideal S512x2048 .f32) (g b : Vec Ideal S1x2048 .f32)
    (r : Fin 512) (q : Fin 2048) :
    (k0_pay6 a w h g b : S512x2048.Idx → EReal) (ix2 r q)
      = norm (mix (fun k => a (ix2 r k)) (fun k => h (ix2 r k)) (fun k j => w (ix2 k j))) (g (ix2 0 q)) (b (ix2 0 q)) q := by
  unfold k0_pay6 norm mean mix; pointwise

theorem base : (![0, 0] : Fin 2 → Nat) = fun _ => 0 := funext fun a => by fin_cases a <;> rfl

/-- The first result's tile is the norm, the second's the same tile rounded. -/
theorem tile7 (a : Vec Ideal S512x2048 .bf16) (w : Vec Ideal S2048x2048 .bf16) (h : Vec Ideal S512x2048 .f32) (g b : Vec Ideal S1x2048 .f32)
    (u : Vec Ideal S4096x128 .bf16) (v : Vec Ideal S16x1 .f32) : out0_7 a w h g b u v = k0_pay6 a w h g b := by
  unfold out0_7
  rw [View.canon_unit_zero base]
  simp only [View.ld_unit_zero (S := S512x2048) base, View.ld_unit_zero (S := S2048x2048) base, View.ld_unit_zero (S := S1x2048) base]

theorem tile8 (a : Vec Ideal S512x2048 .bf16) (w : Vec Ideal S2048x2048 .bf16) (h : Vec Ideal S512x2048 .f32) (g b : Vec Ideal S1x2048 .f32)
    (u : Vec Ideal S4096x128 .bf16) (v : Vec Ideal S16x1 .f32) : out0_8 a w h g b u v = k0_pay7 a w h g b := by
  unfold out0_8
  rw [View.canon_unit_zero base]
  simp only [View.ld_unit_zero (S := S512x2048) base, View.ld_unit_zero (S := S2048x2048) base, View.ld_unit_zero (S := S1x2048) base]

theorem pay7_value (a : Vec Ideal S512x2048 .bf16) (w : Vec Ideal S2048x2048 .bf16) (h : Vec Ideal S512x2048 .f32) (g b : Vec Ideal S1x2048 .f32)
    (y : S512x2048.Idx) : (k0_pay7 a w h g b : S512x2048.Idx → EReal) y = (k0_pay6 a w h g b : S512x2048.Idx → EReal) y := rfl

theorem points : cfg0.N = 32 := N_0
theorem below (t : Fin cfg0.N) : t.val < 32 := lt_of_lt_of_eq t.isLt points
theorem at0 : ∀ t : Fin grid0.N, cc0_transform_0 (grid0.coords t) = ![t.val, 0] := by decide +kernel
theorem at2 : ∀ t : Fin grid0.N, cc0_transform_2 (grid0.coords t) = ![t.val, 0] := by decide +kernel
theorem at7 : ∀ t : Fin grid0.N, cc0_transform_7 (grid0.coords t) = ![t.val, 0] := by decide +kernel
theorem at8 : ∀ t : Fin grid0.N, cc0_transform_8 (grid0.coords t) = ![t.val, 0] := by decide +kernel

variable (m : (ℓ : Loc nD τ sig) → Buf (Elt Ideal) ℓ) (c : Dev nD)

/-- The arrays as the program was given them. -/
abbrev mixed : S16384x2048.Idx → EReal := m ((c : Thread nD τ).loc main_arg0)
abbrev weights : S2048x2048.Idx → EReal := m ((c : Thread nD τ).loc main_arg1)
abbrev residual : S16384x2048.Idx → EReal := m ((c : Thread nD τ).loc main_arg2)
abbrev gain : S2048.Idx → EReal := m ((c : Thread nD τ).loc main_arg3)
abbrev shift : S2048.Idx → EReal := m ((c : Thread nD τ).loc main_arg4)

/-- The region finds the weights cast and the norm's two vectors as rows. -/
theorem cast_weights : (V m c main_v0 : FVec Ideal S2048x2048 .bf16) = (truncf .bf16 (weights m c : FVec Ideal S2048x2048 .f32) Facts₀.bitsLt_bf16_f32 : FVec Ideal S2048x2048 .bf16) := by
  show StableHlo.after hostOps0 (fun b => m (c, b)) main_v0 = _
  after_results

theorem gain_row : (V m c main_v10 : FVec Ideal S1x2048 .f32) = shapeCast S1x2048 (gain m c : FVec Ideal S2048 .f32) Facts₀.shapeCasts_S2048_S1x2048 := by
  show StableHlo.after hostOps0 (fun b => m (c, b)) main_v10 = _
  after_results
  rfl

theorem shift_row : (V m c main_v11 : FVec Ideal S1x2048 .f32) = shapeCast S1x2048 (shift m c : FVec Ideal S2048 .f32) Facts₀.shapeCasts_S2048_S1x2048 := by
  show StableHlo.after hostOps0 (fun b => m (c, b)) main_v11 = _
  after_results
  rfl

theorem gain_at (q : Fin 2048) : (V m c main_v10 : S1x2048.Idx → EReal) (ix2 0 q) = gain m c (ix1 q) := by rw [gain_row]; pointwise
theorem shift_at (q : Fin 2048) : (V m c main_v11 : S1x2048.Idx → EReal) (ix2 0 q) = shift m c (ix1 q) := by rw [shift_row]; pointwise

theorem mixed_block (t : Fin cfg0.N) (r : Fin 512) (d : Fin 2048) :
    (iblk m c 0 t : S512x2048.Idx → EReal) (ix2 r d) = mixed m c (ix2 ⟨512 * t.val + r.val, by have := below t; omega⟩ d) := by
  have e : ((cfg0.win 0).blk t).view.emb (ix2 r d : S512x2048.Idx) = (ix2 ⟨512 * t.val + r.val, by have := below t; omega⟩ d : S16384x2048.Idx) := by
    refine funext fun b : Fin 2 => Fin.ext ?_
    refine Eq.trans (b := (cc0_transform_0 (grid0.coords t)) b * S512x2048.size b + 1 * ((ix2 r d : S512x2048.Idx) b).val) rfl ?_
    rw [at0]
    match b with
    | 0 => show t.val * 512 + 1 * r.val = 512 * t.val + r.val; omega
    | 1 => show 0 * 2048 + 1 * d.val = d.val; omega
  refine Eq.trans (b := (V m c main_arg0 : S16384x2048.Idx → EReal) (((cfg0.win 0).blk t).view.emb (ix2 r d : S512x2048.Idx))) rfl ?_
  rw [e]; exact congrFun (V_main_arg0 m c) _

theorem residual_block (t : Fin cfg0.N) (r : Fin 512) (d : Fin 2048) :
    (iblk m c 2 t : S512x2048.Idx → EReal) (ix2 r d) = residual m c (ix2 ⟨512 * t.val + r.val, by have := below t; omega⟩ d) := by
  have e : ((cfg0.win 2).blk t).view.emb (ix2 r d : S512x2048.Idx) = (ix2 ⟨512 * t.val + r.val, by have := below t; omega⟩ d : S16384x2048.Idx) := by
    refine funext fun b : Fin 2 => Fin.ext ?_
    refine Eq.trans (b := (cc0_transform_2 (grid0.coords t)) b * S512x2048.size b + 1 * ((ix2 r d : S512x2048.Idx) b).val) rfl ?_
    rw [at2]
    match b with
    | 0 => show t.val * 512 + 1 * r.val = 512 * t.val + r.val; omega
    | 1 => show 0 * 2048 + 1 * d.val = d.val; omega
  refine Eq.trans (b := (V m c main_arg2 : S16384x2048.Idx → EReal) (((cfg0.win 2).blk t).view.emb (ix2 r d : S512x2048.Idx))) rfl ?_
  rw [e]; exact congrFun (V_main_arg2 m c) _

/-- Every point reads the whole of the weights and of the norm's two rows. -/
theorem weight_block (t : Fin cfg0.N) (k j : Fin 2048) :
    (iblk m c 1 t : S2048x2048.Idx → EReal) (ix2 k j) = weights m c (ix2 k j) := by
  have e : ((cfg0.win 1).blk t).view.emb (ix2 k j : S2048x2048.Idx) = (ix2 k j : S2048x2048.Idx) := by
    refine funext fun b : Fin 2 => Fin.ext ?_
    refine Eq.trans (b := (cc0_transform_1 (grid0.coords t)) b * S2048x2048.size b + 1 * ((ix2 k j : S2048x2048.Idx) b).val) rfl ?_
    match b with
    | 0 => show 0 * 2048 + 1 * k.val = k.val; omega
    | 1 => show 0 * 2048 + 1 * j.val = j.val; omega
  refine Eq.trans (b := (V m c main_v0 : S2048x2048.Idx → EReal) (((cfg0.win 1).blk t).view.emb (ix2 k j : S2048x2048.Idx))) rfl ?_
  rw [e, cast_weights]; rfl

theorem gain_block (t : Fin cfg0.N) (q : Fin 2048) : (iblk m c 3 t : S1x2048.Idx → EReal) (ix2 0 q) = gain m c (ix1 q) := by
  have e : ((cfg0.win 3).blk t).view.emb (ix2 0 q : S1x2048.Idx) = (ix2 0 q : S1x2048.Idx) := by
    refine funext fun b : Fin 2 => Fin.ext ?_
    refine Eq.trans (b := (cc0_transform_3 (grid0.coords t)) b * S1x2048.size b + 1 * ((ix2 0 q : S1x2048.Idx) b).val) rfl ?_
    match b with
    | 0 => rfl
    | 1 => show 0 * 2048 + 1 * q.val = q.val; omega
  refine Eq.trans (b := (V m c main_v10 : S1x2048.Idx → EReal) (((cfg0.win 3).blk t).view.emb (ix2 0 q : S1x2048.Idx))) rfl ?_
  rw [e]; exact gain_at m c q

theorem shift_block (t : Fin cfg0.N) (q : Fin 2048) : (iblk m c 4 t : S1x2048.Idx → EReal) (ix2 0 q) = shift m c (ix1 q) := by
  have e : ((cfg0.win 4).blk t).view.emb (ix2 0 q : S1x2048.Idx) = (ix2 0 q : S1x2048.Idx) := by
    refine funext fun b : Fin 2 => Fin.ext ?_
    refine Eq.trans (b := (cc0_transform_4 (grid0.coords t)) b * S1x2048.size b + 1 * ((ix2 0 q : S1x2048.Idx) b).val) rfl ?_
    match b with
    | 0 => rfl
    | 1 => show 0 * 2048 + 1 * q.val = q.val; omega
  refine Eq.trans (b := (V m c main_v11 : S1x2048.Idx → EReal) (((cfg0.win 4).blk t).view.emb (ix2 0 q : S1x2048.Idx))) rfl ?_
  rw [e]; exact shift_at m c q

/-- Entry `(p, q)` of both results. -/
def entry (p : Fin 16384) (q : Fin 2048) : EReal :=
  norm (mix (fun k => mixed m c (ix2 p k)) (fun k => residual m c (ix2 p k)) (fun k j => weights m c (ix2 k j))) (gain m c (ix1 q)) (shift m c (ix1 q)) q

/-- A point's tile, entry by entry. -/
theorem tile_at (t : Fin cfg0.N) (r : Fin 512) (q : Fin 2048) :
    (k0_pay6 (F := Ideal) (iblk m c 0 t) (iblk m c 1 t) (iblk m c 2 t) (iblk m c 3 t) (iblk m c 4 t) : S512x2048.Idx → EReal) (ix2 r q)
      = entry m c ⟨512 * t.val + r.val, by have := below t; omega⟩ q := by
  refine (pay6_value (iblk m c 0 t) (iblk m c 1 t) (iblk m c 2 t) (iblk m c 3 t) (iblk m c 4 t) r q).trans ?_
  rw [gain_block, shift_block, funext fun k => mixed_block m c t r k, funext fun k => residual_block m c t r k,
    funext fun k => funext fun j => weight_block m c t k j]
  rfl

/-- The point and the row of its tile a row falls in. -/
theorem split (p : Fin 16384) : 512 * (p.val / 512) + p.val % 512 = p.val := by omega

theorem result7 (p : Fin 16384) (q : Fin 2048) : ((dats m 0 c).arrAt 7 cfg0.N : S16384x2048.Idx → EReal) (ix2 p q) = entry m c p q := by
  have hp := p.isLt
  have ht : p.val / 512 < cfg0.N := by rw [points]; omega
  have e : ((cfg0.win 7).blk ⟨p.val / 512, ht⟩).view.emb (ix2 ⟨p.val % 512, by omega⟩ q : S512x2048.Idx) = (ix2 p q : S16384x2048.Idx) := by
    refine funext fun b : Fin 2 => Fin.ext ?_
    refine Eq.trans (b := (cc0_transform_7 (grid0.coords ⟨p.val / 512, ht⟩)) b * S512x2048.size b + 1 * ((ix2 ⟨p.val % 512, by omega⟩ q : S512x2048.Idx) b).val) rfl ?_
    rw [at7]
    match b with
    | 0 => show p.val / 512 * 512 + 1 * (p.val % 512) = p.val; omega
    | 1 => show 0 * 2048 + 1 * q.val = q.val; omega
  rw [← e]
  refine ((dats m 0 c).arrAt_emb_eq_flushed 7 Cert.Kernel4Ideal.Value.disjoint7 ⟨p.val / 512, ht⟩ (flush0_7 _) (ix2 ⟨p.val % 512, by omega⟩ q : S512x2048.Idx)).trans ?_
  rw [Cert.Kernel4Ideal.Value.flushed7, tile7]
  refine (tile_at m c ⟨p.val / 512, ht⟩ ⟨p.val % 512, by omega⟩ q).trans ?_
  exact congrArg (fun k => entry m c k q) (Fin.ext (split p))

theorem result8 (p : Fin 16384) (q : Fin 2048) : ((dats m 0 c).arrAt 8 cfg0.N : S16384x2048.Idx → EReal) (ix2 p q) = entry m c p q := by
  have hp := p.isLt
  have ht : p.val / 512 < cfg0.N := by rw [points]; omega
  have e : ((cfg0.win 8).blk ⟨p.val / 512, ht⟩).view.emb (ix2 ⟨p.val % 512, by omega⟩ q : S512x2048.Idx) = (ix2 p q : S16384x2048.Idx) := by
    refine funext fun b : Fin 2 => Fin.ext ?_
    refine Eq.trans (b := (cc0_transform_8 (grid0.coords ⟨p.val / 512, ht⟩)) b * S512x2048.size b + 1 * ((ix2 ⟨p.val % 512, by omega⟩ q : S512x2048.Idx) b).val) rfl ?_
    rw [at8]
    match b with
    | 0 => show p.val / 512 * 512 + 1 * (p.val % 512) = p.val; omega
    | 1 => show 0 * 2048 + 1 * q.val = q.val; omega
  rw [← e]
  refine ((dats m 0 c).arrAt_emb_eq_flushed 8 Cert.Kernel4Ideal.Value.disjoint8 ⟨p.val / 512, ht⟩ (flush0_8 _) (ix2 ⟨p.val % 512, by omega⟩ q : S512x2048.Idx)).trans ?_
  rw [Cert.Kernel4Ideal.Value.flushed8, tile8]
  refine (tile_at m c ⟨p.val / 512, ht⟩ ⟨p.val % 512, by omega⟩ q).trans ?_
  exact congrArg (fun k => entry m c k q) (Fin.ext (split p))

/-- The reference's first result at the kernel's arrays. -/
abbrev expected : FVec Ideal S16384x2048 .f32 := normed (pre (mixed m c) (weights m c) (residual m c)) (gain m c) (shift m c)

theorem expected_at (p : Fin 16384) (q : Fin 2048) : (expected m c : S16384x2048.Idx → EReal) (ix2 p q) = entry m c p q := by
  refine (normed_at _ _ _ p q).trans ?_
  rw [funext fun d => pre_at (mixed m c) (weights m c) (residual m c) p d]
  rfl

/-- Both results are the reference's. -/
theorem meets7 : ((dats m 0 c).arrAt 7 cfg0.N : S16384x2048.Idx → EReal) = (expected m c : S16384x2048.Idx → EReal) :=
  funext fun i => by
    rw [eq_ix2 i]
    exact (result7 m c _ _).trans (expected_at m c _ _).symm

theorem meets8 : ((dats m 0 c).arrAt 8 cfg0.N : S16384x2048.Idx → EReal)
    = (truncf .bf16 (expected m c) Facts₀.bitsLt_bf16_f32 : FVec Ideal S16384x2048 .bf16) :=
  funext fun i => by
    rw [eq_ix2 i]
    exact (result8 m c _ _).trans (expected_at m c _ _).symm

end Cert.Projection.Out

end
-- ==== Proof.Norm5.lean ====
/- The combination of the two experts of each token with the residual norm, over the extended reals: each tile of the
   kernel's two results is the normalised sum of the scaled residual rows and the two weighted rows. -/
module

public import proofs.«01_k».proof.Proof.Gen.Kernel5Ideal.Value
public import proofs.«01_k».proof.Proof.Gen.Reference5Ideal.Run
public import proofs.«01_k».proof.Proof.Norm4

@[expose] public section

set_option maxRecDepth 16384
set_option Elab.async false

noncomputable section

namespace Cert.Combination

open Idealize.ShloMosaic Idealize.ShloMosaic.TcCoe Idealize.ShloMosaic.Tactic
open Cert.Projection.Out (mean normed normed_at)

/-- A row before the norm: the scaled residual plus the two experts' rows, each by its weight. -/
def blend (h y z : Fin 2048 → EReal) (u v : EReal) (d : Fin 2048) : EReal :=
  Ideal.ofBits .f32 0x3FB504F3#32 * h d + (u * y d + v * z d)

section Reference
open Cert.Reference5Ideal Cert.Reference5Ideal.Gen

/-- One token's weight at every entry of its row. -/
def spread (w : FVec Ideal S1x16384 .f32) : FVec Ideal S16384x2048 .f32 :=
  broadcastInDim S16384x2048 ![0, 1] Facts₀.bcast_S16384x1_S16384x2048_0_1 (broadcastInDim S16384x1 ![0] Facts₀.bcast_S16384_S16384x1_0
    (shapeCast _ w Facts₀.shapeCasts_S1x16384_S16384))

/-- The reference's rows before the norm. -/
def pre (h : FVec Ideal S16384x2048 .f32) (y : FVec Ideal S32768x2048 .bf16) (w : FVec Ideal S2x16384 .f32) : FVec Ideal S16384x2048 .f32 :=
  addf (mulf (broadcastInDim S16384x2048 ![] Facts₀.bcast_S_S16384x2048 (constant S_ .f32 0x3FB504F3#32)) h)
    (addf (mulf (spread (extractStridedSlice S1x16384 ![0, 0] w Facts₀.slices_S2x16384_S1x16384_0_0))
        (extf .f32 (extractStridedSlice S16384x2048 ![0, 0] y Facts₀.slices_S32768x2048_S16384x2048_0_0) Facts₀.bitsLt_bf16_f32))
      (mulf (spread (extractStridedSlice S1x16384 ![1, 0] w Facts₀.slices_S2x16384_S1x16384_1_0))
        (extf .f32 (extractStridedSlice S16384x2048 ![16384, 0] y Facts₀.slices_S32768x2048_S16384x2048_16384_0) Facts₀.bitsLt_bf16_f32)))

theorem pre_at (h : FVec Ideal S16384x2048 .f32) (y : FVec Ideal S32768x2048 .bf16) (w : FVec Ideal S2x16384 .f32) (p : Fin 16384) (d : Fin 2048) :
    (pre h y w : S16384x2048.Idx → EReal) (ix2 p d)
      = blend (fun k => h (ix2 p k)) (fun k => y (ix2 ⟨p.val, by omega⟩ k)) (fun k => y (ix2 ⟨16384 + p.val, by omega⟩ k)) (w (ix2 0 p)) (w (ix2 1 p)) d := by
  unfold pre spread blend; pointwise

end Reference

open Cert.Kernel5Ideal Cert.Kernel5Ideal.Gen
open Idealize.SL.Sem

theorem pay1_value (h : Vec Ideal S512x2048 .f32) (y z : Vec Ideal S512x2048 .bf16) (u v : Vec Ideal S512x1 .f32) (g b : Vec Ideal S1x2048 .f32)
    (r : Fin 512) (q : Fin 2048) :
    (k0_pay1 (k0_pay3 b) (k0_pay4 u y v z h g) : S512x2048.Idx → EReal) (ix2 r q)
      = Cert.Projection.Out.norm (blend (fun k => h (ix2 r k)) (fun k => y (ix2 r k)) (fun k => z (ix2 r k)) (u (ix2 r 0)) (v (ix2 r 0))) (g (ix2 0 q)) (b (ix2 0 q)) q := by
  unfold k0_pay1 k0_pay3 k0_pay4 Cert.Projection.Out.norm mean blend; pointwise

theorem base : (![0, 0] : Fin 2 → Nat) = fun _ => 0 := funext fun a => by fin_cases a <;> rfl

section Tiles
variable (h : Vec Ideal S512x2048 .f32) (y z : Vec Ideal S512x2048 .bf16) (u v : Vec Ideal S512x1 .f32) (g b : Vec Ideal S1x2048 .f32)

/-- The first result's tile is the norm, the second's the same tile rounded. -/
theorem tile7 : out0_7 h y z u v g b = k0_pay1 (k0_pay3 b) (k0_pay4 u y v z h g) := by
  unfold out0_7 k0_pay5 k0_pay6
  rw [View.canon_unit_zero base]
  simp only [View.ld_unit_zero (S := S512x2048) base, View.ld_unit_zero (S := S512x1) base, View.ld_unit_zero (S := S1x2048) base]

theorem tile8 : out0_8 h y z u v g b = k0_pay2 (k0_pay3 b) (k0_pay4 u y v z h g) := by
  unfold out0_8 k0_pay5 k0_pay6
  rw [View.canon_unit_zero base]
  simp only [View.ld_unit_zero (S := S512x2048) base, View.ld_unit_zero (S := S512x1) base, View.ld_unit_zero (S := S1x2048) base]

end Tiles

theorem points : cfg0.N = 32 := N_0
theorem below (t : Fin cfg0.N) : t.val < 32 := lt_of_lt_of_eq t.isLt points
theorem at0 : ∀ t : Fin grid0.N, cc0_transform_0 (grid0.coords t) = ![t.val, 0] := by decide +kernel
theorem at2 : ∀ t : Fin grid0.N, cc0_transform_2 (grid0.coords t) = ![t.val + 32, 0] := by decide +kernel

/-- An index of two axes from its two coordinates. -/
theorem placed {A B : Nat} (e : (⟨2, ![A, B]⟩ : Shape).Idx) (r : Fin A) (d : Fin B) (h0 : (e 0).val = r.val) (h1 : (e 1).val = d.val) : e = ix2 r d :=
  funext fun b : Fin 2 => Fin.ext (by match b with | 0 => exact h0 | 1 => exact h1)

variable (m : (ℓ : Loc nD τ sig) → Buf (Elt Ideal) ℓ) (c : Dev nD)

/-- The arrays as the program was given them. -/
abbrev residual : S16384x2048.Idx → EReal := m ((c : Thread nD τ).loc main_arg0)
abbrev chosen : S32768x2048.Idx → EReal := m ((c : Thread nD τ).loc main_arg1)
abbrev gates : S2x16384.Idx → EReal := m ((c : Thread nD τ).loc main_arg2)
abbrev gain : S2048.Idx → EReal := m ((c : Thread nD τ).loc main_arg3)
abbrev shift : S2048.Idx → EReal := m ((c : Thread nD τ).loc main_arg4)

/-- The region finds the two rows of weights as columns and the norm's two vectors as rows. -/
theorem first_column : (V m c main_v2 : FVec Ideal S16384x1 .f32) = (shapeCast S16384x1 (shapeCast S16384
    (extractStridedSlice S1x16384 ![0, 0] (gates m c : FVec Ideal S2x16384 .f32) Facts₀.slices_S2x16384_S1x16384_0_0 : FVec Ideal S1x16384 .f32)
    Facts₀.shapeCasts_S1x16384_S16384 : FVec Ideal S16384 .f32) Facts₀.shapeCasts_S16384_S16384x1 : FVec Ideal S16384x1 .f32) := by
  show StableHlo.after hostOps0 (fun b => m (c, b)) main_v2 = _
  after_results
  rfl

theorem second_column : (V m c main_v5 : FVec Ideal S16384x1 .f32) = (shapeCast S16384x1 (shapeCast S16384
    (extractStridedSlice S1x16384 ![1, 0] (gates m c : FVec Ideal S2x16384 .f32) Facts₀.slices_S2x16384_S1x16384_1_0 : FVec Ideal S1x16384 .f32)
    Facts₀.shapeCasts_S1x16384_S16384 : FVec Ideal S16384 .f32) Facts₀.shapeCasts_S16384_S16384x1 : FVec Ideal S16384x1 .f32) := by
  show StableHlo.after hostOps0 (fun b => m (c, b)) main_v5 = _
  after_results
  rfl

theorem gain_row : (V m c main_v6 : FVec Ideal S1x2048 .f32) = shapeCast S1x2048 (gain m c : FVec Ideal S2048 .f32) Facts₀.shapeCasts_S2048_S1x2048 := by
  show StableHlo.after hostOps0 (fun b => m (c, b)) main_v6 = _
  after_results
  rfl

theorem shift_row : (V m c main_v7 : FVec Ideal S1x2048 .f32) = shapeCast S1x2048 (shift m c : FVec Ideal S2048 .f32) Facts₀.shapeCasts_S2048_S1x2048 := by
  show StableHlo.after hostOps0 (fun b => m (c, b)) main_v7 = _
  after_results
  rfl

theorem first_at (p : Fin 16384) : (V m c main_v2 : S16384x1.Idx → EReal) (ix2 p 0) = gates m c (ix2 0 p) := by rw [first_column]; pointwise
theorem second_at (p : Fin 16384) : (V m c main_v5 : S16384x1.Idx → EReal) (ix2 p 0) = gates m c (ix2 1 p) := by rw [second_column]; pointwise
theorem gain_at (q : Fin 2048) : (V m c main_v6 : S1x2048.Idx → EReal) (ix2 0 q) = gain m c (ix1 q) := by rw [gain_row]; pointwise
theorem shift_at (q : Fin 2048) : (V m c main_v7 : S1x2048.Idx → EReal) (ix2 0 q) = shift m c (ix1 q) := by rw [shift_row]; pointwise

/-- Row `r` of point `t`'s tiles. -/
abbrev row (t : Fin cfg0.N) (r : Fin 512) : Fin 16384 := ⟨512 * t.val + r.val, by have := below t; omega⟩

/-- Coordinates of an entry of a tile of rows: `i` is the tile's place in its array. -/
theorem down (i : Fin 2 → Nat) (n : Nat) (h : i = ![n, 0]) (r : Nat) : i 0 * 512 + 1 * r = 512 * n + r := by
  rw [h]; show n * 512 + 1 * r = _; omega
theorem across (i : Fin 2 → Nat) (n : Nat) (h : i = ![n, 0]) (k d : Nat) : i 1 * k + 1 * d = d := by
  rw [h]; show 0 * k + 1 * d = _; omega

theorem residual_block (t : Fin cfg0.N) (r : Fin 512) (d : Fin 2048) :
    (iblk m c 0 t : S512x2048.Idx → EReal) (ix2 r d) = residual m c (ix2 (row t r) d) := by
  have e : ((cfg0.win 0).blk t).view.emb (ix2 r d : S512x2048.Idx) = (ix2 (row t r) d : S16384x2048.Idx) :=
    placed _ _ _ (down _ _ (at0 t) r.val) (across _ _ (at0 t) 2048 d.val)
  refine Eq.trans (b := (V m c main_arg0 : S16384x2048.Idx → EReal) (((cfg0.win 0).blk t).view.emb (ix2 r d : S512x2048.Idx))) rfl ?_
  rw [e]; exact congrFun (V_main_arg0 m c) _

/-- The two halves of the experts' rows. -/
theorem first_block (t : Fin cfg0.N) (r : Fin 512) (d : Fin 2048) :
    (iblk m c 1 t : S512x2048.Idx → EReal) (ix2 r d) = chosen m c (ix2 ⟨(row t r).val, by omega⟩ d) := by
  have e : ((cfg0.win 1).blk t).view.emb (ix2 r d : S512x2048.Idx) = (ix2 ⟨(row t r).val, by omega⟩ d : S32768x2048.Idx) :=
    placed _ _ _ (down _ _ (at0 t) r.val) (across _ _ (at0 t) 2048 d.val)
  refine Eq.trans (b := (V m c main_arg1 : S32768x2048.Idx → EReal) (((cfg0.win 1).blk t).view.emb (ix2 r d : S512x2048.Idx))) rfl ?_
  rw [e]; exact congrFun (V_main_arg1 m c) _

theorem second_block (t : Fin cfg0.N) (r : Fin 512) (d : Fin 2048) :
    (iblk m c 2 t : S512x2048.Idx → EReal) (ix2 r d) = chosen m c (ix2 ⟨16384 + (row t r).val, by omega⟩ d) := by
  have e : ((cfg0.win 2).blk t).view.emb (ix2 r d : S512x2048.Idx) = (ix2 ⟨16384 + (row t r).val, by omega⟩ d : S32768x2048.Idx) :=
    placed _ _ _ ((down _ _ (at2 t) r.val).trans (by show 512 * (t.val + 32) + r.val = 16384 + (512 * t.val + r.val); omega)) (across _ _ (at2 t) 2048 d.val)
  refine Eq.trans (b := (V m c main_arg1 : S32768x2048.Idx → EReal) (((cfg0.win 2).blk t).view.emb (ix2 r d : S512x2048.Idx))) rfl ?_
  rw [e]; exact congrFun (V_main_arg1 m c) _

/-- The two columns of weights. -/
theorem first_gate (t : Fin cfg0.N) (r : Fin 512) : (iblk m c 3 t : S512x1.Idx → EReal) (ix2 r 0) = gates m c (ix2 0 (row t r)) := by
  have e : ((cfg0.win 3).blk t).view.emb (ix2 r 0 : S512x1.Idx) = (ix2 (row t r) 0 : S16384x1.Idx) :=
    placed _ _ _ (down _ _ (at0 t) r.val) (across _ _ (at0 t) 1 0)
  refine Eq.trans (b := (V m c main_v2 : S16384x1.Idx → EReal) (((cfg0.win 3).blk t).view.emb (ix2 r 0 : S512x1.Idx))) rfl ?_
  rw [e]; exact first_at m c _

theorem second_gate (t : Fin cfg0.N) (r : Fin 512) : (iblk m c 4 t : S512x1.Idx → EReal) (ix2 r 0) = gates m c (ix2 1 (row t r)) := by
  have e : ((cfg0.win 4).blk t).view.emb (ix2 r 0 : S512x1.Idx) = (ix2 (row t r) 0 : S16384x1.Idx) :=
    placed _ _ _ (down _ _ (at0 t) r.val) (across _ _ (at0 t) 1 0)
  refine Eq.trans (b := (V m c main_v5 : S16384x1.Idx → EReal) (((cfg0.win 4).blk t).view.emb (ix2 r 0 : S512x1.Idx))) rfl ?_
  rw [e]; exact second_at m c _

/-- Every point reads the whole of the norm's two rows. -/
theorem gain_block (t : Fin cfg0.N) (q : Fin 2048) : (iblk m c 5 t : S1x2048.Idx → EReal) (ix2 0 q) = gain m c (ix1 q) := by
  have e : ((cfg0.win 5).blk t).view.emb (ix2 0 q : S1x2048.Idx) = (ix2 0 q : S1x2048.Idx) :=
    placed _ _ _ rfl (across (cc0_transform_5 (grid0.coords t)) 0 rfl 2048 q.val)
  refine Eq.trans (b := (V m c main_v6 : S1x2048.Idx → EReal) (((cfg0.win 5).blk t).view.emb (ix2 0 q : S1x2048.Idx))) rfl ?_
  rw [e]; exact gain_at m c q

theorem shift_block (t : Fin cfg0.N) (q : Fin 2048) : (iblk m c 6 t : S1x2048.Idx → EReal) (ix2 0 q) = shift m c (ix1 q) := by
  have e : ((cfg0.win 6).blk t).view.emb (ix2 0 q : S1x2048.Idx) = (ix2 0 q : S1x2048.Idx) :=
    placed _ _ _ rfl (across (cc0_transform_6 (grid0.coords t)) 0 rfl 2048 q.val)
  refine Eq.trans (b := (V m c main_v7 : S1x2048.Idx → EReal) (((cfg0.win 6).blk t).view.emb (ix2 0 q : S1x2048.Idx))) rfl ?_
  rw [e]; exact shift_at m c q

/-- Entry `(p, q)` of both results. -/
def entry (p : Fin 16384) (q : Fin 2048) : EReal :=
  Cert.Projection.Out.norm (blend (fun k => residual m c (ix2 p k)) (fun k => chosen m c (ix2 ⟨p.val, by omega⟩ k)) (fun k => chosen m c (ix2 ⟨16384 + p.val, by omega⟩ k))
    (gates m c (ix2 0 p)) (gates m c (ix2 1 p))) (gain m c (ix1 q)) (shift m c (ix1 q)) q

/-- A point's tile, entry by entry. -/
theorem tile_at (t : Fin cfg0.N) (r : Fin 512) (q : Fin 2048) :
    (k0_pay1 (F := Ideal) (k0_pay3 (iblk m c 6 t)) (k0_pay4 (iblk m c 3 t) (iblk m c 1 t) (iblk m c 4 t) (iblk m c 2 t) (iblk m c 0 t) (iblk m c 5 t)) : S512x2048.Idx → EReal) (ix2 r q)
      = entry m c (row t r) q := by
  refine (pay1_value (iblk m c 0 t) (iblk m c 1 t) (iblk m c 2 t) (iblk m c 3 t) (iblk m c 4 t) (iblk m c 5 t) (iblk m c 6 t) r q).trans ?_
  rw [gain_block, shift_block, first_gate, second_gate, funext fun k => residual_block m c t r k, funext fun k => first_block m c t r k,
    funext fun k => second_block m c t r k]
  rfl

/-- The point and the row of its tile a row falls in. -/
abbrev point (p : Fin 16384) : Fin cfg0.N := ⟨p.val / 512, by rw [points]; omega⟩
abbrev within (p : Fin 16384) : Fin 512 := ⟨p.val % 512, by omega⟩
theorem split (p : Fin 16384) : row (point p) (within p) = p := Fin.ext (by show 512 * (p.val / 512) + p.val % 512 = p.val; omega)

theorem result7 (p : Fin 16384) (q : Fin 2048) : ((dats m 0 c).arrAt 7 cfg0.N : S16384x2048.Idx → EReal) (ix2 p q) = entry m c p q := by
  have e : ((cfg0.win 7).blk (point p)).view.emb (ix2 (within p) q : S512x2048.Idx) = (ix2 (row (point p) (within p)) q : S16384x2048.Idx) :=
    placed _ _ _ (down _ _ (at0 (point p)) (within p).val) (across _ _ (at0 (point p)) 2048 q.val)
  rw [← split p, ← e]
  refine ((dats m 0 c).arrAt_emb_eq_flushed 7 Cert.Kernel5Ideal.Value.disjoint7 (point p) (flush0_7 _) (ix2 (within p) q : S512x2048.Idx)).trans ?_
  rw [Cert.Kernel5Ideal.Value.flushed7, tile7]
  exact (tile_at m c (point p) (within p) q).trans (congrArg (fun k => entry m c k q) rfl)

theorem result8 (p : Fin 16384) (q : Fin 2048) : ((dats m 0 c).arrAt 8 cfg0.N : S16384x2048.Idx → EReal) (ix2 p q) = entry m c p q := by
  have e : ((cfg0.win 8).blk (point p)).view.emb (ix2 (within p) q : S512x2048.Idx) = (ix2 (row (point p) (within p)) q : S16384x2048.Idx) :=
    placed _ _ _ (down _ _ (at0 (point p)) (within p).val) (across _ _ (at0 (point p)) 2048 q.val)
  rw [← split p, ← e]
  refine ((dats m 0 c).arrAt_emb_eq_flushed 8 Cert.Kernel5Ideal.Value.disjoint8 (point p) (flush0_8 _) (ix2 (within p) q : S512x2048.Idx)).trans ?_
  rw [Cert.Kernel5Ideal.Value.flushed8, tile8]
  exact (tile_at m c (point p) (within p) q).trans (congrArg (fun k => entry m c k q) rfl)

/-- The reference's first result at the kernel's arrays. -/
abbrev expected : FVec Ideal S16384x2048 .f32 := normed (pre (residual m c) (chosen m c) (gates m c)) (gain m c) (shift m c)

theorem expected_at (p : Fin 16384) (q : Fin 2048) : (expected m c : S16384x2048.Idx → EReal) (ix2 p q) = entry m c p q := by
  refine (normed_at _ _ _ p q).trans ?_
  rw [funext fun d => pre_at (residual m c) (chosen m c) (gates m c) p d]
  rfl

/-- Both results are the reference's. -/
theorem meets7 : ((dats m 0 c).arrAt 7 cfg0.N : S16384x2048.Idx → EReal) = (expected m c : S16384x2048.Idx → EReal) :=
  funext fun i => by
    rw [eq_ix2 i]
    exact (result7 m c _ _).trans (expected_at m c _ _).symm

theorem meets8 : ((dats m 0 c).arrAt 8 cfg0.N : S16384x2048.Idx → EReal)
    = (truncf .bf16 (expected m c) Facts₀.bitsLt_bf16_f32 : FVec Ideal S16384x2048 .bf16) :=
  funext fun i => by
    rw [eq_ix2 i]
    exact (result8 m c _ _).trans (expected_at m c _ _).symm

end Cert.Combination

end
-- ==== Proof.Tail6.lean ====
/- The second layer's input projection past its first 4096 columns: what one grid point leaves, and the run. The weights' block
   is cut at the array's end, so its last 48 rows in the staging buffer are words nothing names; the body masks them before keeping
   the block in its scratch. -/
module

public import proofs.«01_k».proof.Defs
public import proofs.«01_k».proof.Proof.Gen.Kernel6
public import proofs.«01_k».proof.Proof.Gen.Kernel6Ideal.Skeleton
public import proofs.«01_k».proof.Proof.Gen.Kernel6Ideal.Frame
public import Idealize.ShloMosaic.Lib.Pipeline.TableIdle
public import Idealize.ShloMosaic.Lib.VecWindow
public import Idealize.ShloMosaic.Lib.Tactic
public import Idealize.ShloMosaic.Lib.Pipeline.ValueKit

@[expose] public section

set_option maxRecDepth 16384
set_option Elab.async false

noncomputable section

namespace Cert.Projection.Tail

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The scratch the masked block of weights is kept in. -/
abbrev scW : Memref sig .tc .vmem S128x2048 .bf16 := Memref.whole cc0_scratch0

/-- Whether the point masks and keeps its block of weights. -/
abbrev Keeps (i : grid0.Coords) : Prop :=
  Scalar.cmpi .ne (Scalar.extui (Scalar.cmpi .eq (BitVec.ofNat 32 (i 1).val) 0#32) : BitVec 32) 0#32 = 1#1

theorem keeps_iff : ∀ t : Fin grid0.N, Keeps (grid0.coords t) ↔ t.val = 0 := by decide +kernel

open Classical in
/-- What the scratch holds after the point. -/
def next (i : grid0.Coords) (x1 : S128x2048.Idx → Elt F .f32) (g : S128x2048.Idx → Elt F .bf16) : S128x2048.Idx → Elt F .bf16 :=
  if Keeps i then k0_pay1 x1 else g

set_option backward.proofsInPublic true in
set_option maxHeartbeats 4000000 in
/-- The body at any point, over whatever its buffers hold. -/
theorem body_runs (c : Dev nD) (i : grid0.Coords)
    (arg2 : Memref sig .tc .vmem S1024x2048 .bf16) (harg2 : arg2.IsWhole)
    (arg3 : Memref sig .tc .vmem S128x2048 .f32) (harg3 : arg3.IsWhole)
    (arg4 : Memref sig .tc .vmem S1024x128 .f32) (harg4 : arg4.IsWhole)
    (x0 : S1024x2048.Idx → Elt F .bf16) (x1 : S128x2048.Idx → Elt F .f32) (g : S128x2048.Idx → Elt F .bf16) (K : PUnit → sProp 𝕄) :
    iprop(owns (c : Thread nD τ) arg2 fullShare x0
      ∗ owns (c : Thread nD τ) arg3 fullShare x1
      ∗ (∃ y, owns (c : Thread nD τ) arg4 fullShare y)
      ∗ owns (c : Thread nD τ) scW fullShare g
      ∗ (iprop(owns (c : Thread nD τ) arg2 fullShare x0
          ∗ owns (c : Thread nD τ) arg3 fullShare x1
          ∗ owns (c : Thread nD τ) arg4 fullShare (k0_pay2 x0 (next i x1 g))
          ∗ owns (c : Thread nD τ) scW fullShare (next i x1 g)) -∗ K ⟨⟩))
      ⊢ wp frame (wpE (defs₀ (F := F)) Variants.none c none) Set.univ
          (cc0_matmul_nt i arg2 harg2 arg3 harg3 arg4 harg4 scW (Memref.isWhole_whole _)) K := by
  rw [cc0_matmul_nt_eq_skeleton]; unfold cc0_matmul_nt_skel
  have hS0 : scW.IsWhole := Memref.isWhole_whole _
  conv =>
    lhs
    rw [owns_eq_rep (c : Thread nD τ) arg2, owns_eq_rep (c : Thread nD τ) arg3, owns_eq_rep (c : Thread nD τ) scW _ g]
    unfold owns
  iintro ⟨H0, H1, ⟨%d3, %f3, -, HO⟩, HS, Hk⟩
  by_cases hR : Keeps i <;>
  sl_exec! (disch := first | (guard_target = Scalar.cmpi _ _ _ = _; exact hR) | (guard_target = ¬(Scalar.cmpi _ _ _ = _); exact hR)) <;>
  sl_step
  all_goals
    iapply Hk
    isplitl [H0]; · iexact H0
    isplitl [H1]; · iexact H1
    isplitl [HO]
    · iexists _
      isplitr [HO]
      rotate_left
      · iexact HO
      · ipureintro
        unfold next
        first | rw [if_pos hR] | rw [if_neg hR]
        all_goals sl_unfold_run_names
        all_goals rw [View.read_writes_full]
        all_goals (have hR' := hR; unfold Keeps at hR')
        all_goals first | rw [dif_pos hR'] | rw [dif_neg hR'] | skip
        all_goals first | rw [View.readAt_writes_full, View.readAt_rep_full, View.readAt_rep_full] | rw [View.readCov_full, View.readAt_rep_full, View.readAt_rep_full] | rw [View.readAt_rep_full, View.readAt_rep_full] | skip
    · iexists _
      isplitr [HS]
      rotate_left
      · iexact HS
      · ipureintro
        unfold next
        first | rw [if_pos hR] | rw [if_neg hR]
        all_goals sl_unfold_run_names
        all_goals (have hR' := hR; unfold Keeps at hR')
        all_goals first | rw [dif_pos hR'] | rw [dif_neg hR'] | skip
        first | rw [View.read_writes_full, View.readAt_rep_full] | rw [View.read_rep]

theorem mask_past : ∀ r : Fin 128, ¬ r.val < 80 → IntOp.cmpi .slt (BitVec.ofNat 32 r.val) 80#32 = 0#1 := by decide +kernel

/-- The masked block depends on its first 80 rows alone. -/
theorem masked_congr (v v' : S128x2048.Idx → Elt F .f32) (h : ∀ (r : Fin 128) (d : Fin 2048), r.val < 80 → v (ix2 r d) = v' (ix2 r d)) :
    k0_pay1 v = k0_pay1 v' := by
  funext j
  rw [eq_ix2 j]
  generalize hr : (j 0 : Fin 128) = r
  generalize hd : (j 1 : Fin 2048) = d
  by_cases hlt : r.val < 80
  · unfold k0_pay1
    pointwise
    rw [h r d hlt]
  · unfold k0_pay1
    pointwise
    have e := mask_past r hlt
    rw [e]; rfl

/-- The part of the weights' block inside the array, at every point: 80 rows of 128. -/
theorem inside : ∀ (t : Fin grid0.N) (a : Fin 2), (cfg0.win 1).xsize (grid0.coords t) a = (![80, 2048] : Fin 2 → Nat) a := by decide +kernel
theorem cols_at : ∀ t : Fin grid0.N, cc0_transform_1 (grid0.coords t) = ![32, 0] := by decide +kernel

variable (m : (ℓ : Loc nD τ sig) → Buf (Elt F) ℓ) (ρ : Dev nD → PrngReg)

/-- What a fetch of the weights' block leaves in its first 80 rows, whatever the staging buffer held. -/
theorem fetched_at (c : Dev nD) (t : Fin cfg0.N) (z : S128x2048.Idx → Elt F .f32) (r : Fin 128) (d : Fin 2048) (hr : r.val < 80) :
    (cfg0.win 1).fill (cfg0.grid.coords t) z (iblk m c 1 t) (ix2 r d : S128x2048.Idx)
      = (V m c main_v0 : S4176x2048.Idx → Elt F .f32) (ix2 ⟨4096 + r.val, by omega⟩ d) := by
  have hm : (cfg0.win 1).moved (cfg0.grid.coords t) (ix2 r d : S128x2048.Idx) = true :=
    ((cfg0.win 1).moved_iff _ _).mpr fun a : Fin 2 => by
      rw [inside t a]
      match a with
      | 0 => exact hr
      | 1 => exact d.isLt
  unfold Pipeline.Window.fill
  rw [dif_pos hm]
  refine congrArg (V m c main_v0 : S4176x2048.Idx → Elt F .f32) ?_
  refine funext fun b : Fin 2 => Fin.ext ?_
  refine Eq.trans (b := (cc0_transform_1 (grid0.coords t)) b * S128x2048.size b + 1 * ((ix2 r d : S128x2048.Idx) b).val) rfl ?_
  rw [cols_at]
  match b with
  | 0 => show 32 * 128 + 1 * r.val = 4096 + r.val; omega
  | 1 => show 0 * 2048 + 1 * d.val = d.val; omega

/-- The weights' block filled out with zeros past the array's end. -/
def wBlock (c : Dev nD) (t : Fin cfg0.N) : S128x2048.Idx → Elt F .f32 :=
  (cfg0.win 1).fill (cfg0.grid.coords t) (fun _ => Scalar.ofBits .f32 0#32) (iblk m c 1 t)

/-- The masked block of weights, as the first point keeps it. -/
def wKept (c : Dev nD) : S128x2048.Idx → Elt F .bf16 := k0_pay1 (wBlock m c t0_0)

/-- Every point's masked block is the one kept. -/
theorem masked_eq (c : Dev nD) (t : Fin cfg0.N) (z : S128x2048.Idx → Elt F .f32) :
    k0_pay1 ((cfg0.win 1).fill (cfg0.grid.coords t) z (iblk m c 1 t)) = wKept m c :=
  masked_congr _ _ fun r d hr => (fetched_at m c t z r d hr).trans (fetched_at m c t0_0 _ r d hr).symm

/-- Between two points: past the first the scratch holds the masked block. -/
def Phi (c : Dev nD) (n : ℕ) : sProp 𝕄 :=
  iprop((∃ g, ⌜n ≠ 0 → g = wKept m c⌝ ∗ owns (c : Thread nD τ) scW fullShare g) ∗ (∃ r, prngReg c r))

/-- The call's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wBlock m c t
    | ⟨2, _⟩ => k0_pay2 (iblk m c 0 t) (wKept m c)
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = wBlock m c t := by dsimp only [dats]
theorem after_2 (c : Dev nD) (t : Fin cfg0.N) : (dats m 0 c).after 2 t = k0_pay2 (iblk m c 0 t) (wKept m c) := by dsimp only [dats]

theorem before_0 (c : Dev nD) (t : Fin cfg0.N) (d) : (dats m 0 c).before 0 t d = iblk m c 0 t :=
  before0_0_of m (dats m 0 c) (A_eq m c 0) (after_0 m c) t d
/-- The staging buffer of the weights holds their block inside the array and anything past it. -/
theorem before_1 (c : Dev nD) (t : Fin cfg0.N) (d) : (dats m 0 c).before 1 t d = (cfg0.win 1).fill (cfg0.grid.coords t) d (iblk m c 1 t) :=
  ((dats m 0 c).before_in_eq_fetched 1 rfl (fun _ => rfl)
      (fun t t' h => funext fun a => congrArg (fun n => Pipeline.Clip.of n ((cfg0.win 1).size a) (S4176x2048.size a)) (congrFun h a))
      (fun t => by rw [after_1]; unfold wBlock; rw [Pipeline.Window.cut_fill]; unfold Dat.blockOf iblk; rw [A_eq m c 1]; try rfl) t d).trans
    (by unfold Dat.fetched Dat.blockOf iblk; rw [A_eq m c 1]; try rfl)

theorem next_eq (c : Dev nD) (t : Fin cfg0.N) (z : S128x2048.Idx → Elt F .f32) (g : S128x2048.Idx → Elt F .bf16) (h : t.val ≠ 0 → g = wKept m c) :
    next (grid0.coords t) ((cfg0.win 1).fill (cfg0.grid.coords t) z (iblk m c 1 t)) g = wKept m c := by
  unfold next
  by_cases hk : Keeps (grid0.coords t)
  · rw [if_pos hk]; exact masked_eq m c t z
  · rw [if_neg hk]; exact h fun h0 => hk ((keeps_iff t).mpr h0)

theorem row_of_table (t : Fin cfg0.N) : defs₀ (F := F) .tc cfg0.body (cfg0.bodyArgs t (cfg0.slots t)) = bodyAt0 t := by
  unfold defs₀; rw [Defs.onTc_tc]

set_option maxHeartbeats 4000000 in
/-- The body at a generic point. -/
theorem body_obligation (c : Dev nD) : BodyObligationLoose (dats m 0 c) (defs₀ (F := F)) Variants.none () Set.univ := fun t => by
  rw [bigSep_W0, bigSep_W0, row_of_table]
  simp only [before_0, before_1, after_0, after_1, after_2]
  rw [show (dats m 0 c).Φ t.castSucc = Phi m c t.val from rfl, show (dats m 0 c).Φ t.succ = Phi m c (t.val + 1) from rfl,
    show (dats m 0 c).owesAt () t.succ = (dats m 0 c).owesAt () t.castSucc from rfl]
  unfold Phi bodyAt0
  iintro ⟨⟨⟨%g, %hg, HS⟩, HR⟩, Ho, ⟨%d0, H0⟩, ⟨%d1, H1⟩, ⟨%d2, H2⟩⟩
  have e := next_eq m c t d1 g hg
  iapply (body_runs c (grid0.coords t) _ _ _ _ _ _ (iblk m c 0 t) ((cfg0.win 1).fill (cfg0.grid.coords t) d1 (iblk m c 1 t)) g _)
  rw [e]
  isplitl [H0]; · iexact H0
  isplitl [H1]; · iexact H1
  isplitl [H2]; · iexists _; iexact H2
  isplitl [HS]; · iexact HS
  iintro ⟨H0, H1, H2, HS⟩
  isplitl [HS HR]
  · isplitl [HS]
    · iexists _; isplitr; swap
      · iexact HS
      · ipureintro; intro _; rfl
    iexact HR
  isplitl [Ho]; · iexact Ho
  isplitl [H0]; · iexact H0
  isplitl [H1]
  · iexists d1
    rw [show (cfg0.win 1).cut (cfg0.grid.coords t) (wBlock m c t) = iblk m c 1 t from (cfg0.win 1).cut_fill _ _ _]
    iexact H1
  iexact H2

theorem phi_in (c : Dev nD) : Pipeline.ΦA spec0 c ⊢ (dats m 0 c).Φ 0 := by
  rw [show (dats m 0 c).Φ 0 = Phi m c 0 from rfl]
  unfold Phi Pipeline.ΦA
  rw [scopedRest0_eq]
  iintro ⟨⟨%g, HS⟩, HR⟩
  isplitl [HS]
  · iexists g
    isplitr
    · ipureintro; intro h; exact absurd rfl h
    rw [owns_whole (c : Thread nD τ) cc0_scratch0]; iexact HS
  iexact HR

theorem phi_out (c : Dev nD) : (dats m 0 c).Φ (Fin.last cfg0.N) ⊢ Pipeline.ΦA spec0 c := by
  rw [show (dats m 0 c).Φ (Fin.last cfg0.N) = Phi m c cfg0.N from rfl]
  unfold Phi Pipeline.ΦA
  rw [scopedRest0_eq]
  iintro ⟨⟨%g, -, HS⟩, HR⟩
  isplitl [HS]
  · iexists g; rw [← owns_whole (c : Thread nD τ) cc0_scratch0]; iexact HS
  iexact HR

set_option backward.isDefEq.respectTransparency.types false in
/-- The run: every execution ends, the call's arrays at what the proof data computes, every counter at zero. -/
theorem run_call : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := phi_in m) (hout := phi_out m)

/-- The run with the result's array, the arguments as they were and every counter at zero. -/
theorem run : θ_run defs (onTc (τ := τ) (main (F := F))) ⟨m, fun _ => 0, ρ⟩ (fun r => (∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_call m ρ)

/-- The frame claim at any float semantics. -/
def FrameAt (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frameAt (F : FTy → Type) [FloatOps F] : FrameAt F := fun m g _ =>
  (θ_run defs _ _).mono (fun r h => ⟨fun c => (h.1 c).2, h.2⟩) (run m g)

theorem kernel_frame_eq : Cert.quiescent_Kernel6 = FrameAt Bits := by sl_kernel_rfl
theorem kernelIdeal_frame : Cert.quiescent_Kernel6Ideal := fun m g _ => frameAt Ideal m g trivial

end Cert.Projection.Tail

end
-- ==== Proof.TailValue6.lean ====
/- The second layer's input projection past its first 4096 columns, over the extended reals: 80 columns of the product, then 48 of zeros. -/
module

public import proofs.«01_k».proof.Proof.Tail6
public import proofs.«01_k».proof.Proof.Gen.Reference6Ideal.Run
public import Idealize.ShloMosaic.Lib.Pipeline.ValueKit

@[expose] public section

set_option maxRecDepth 16384
set_option Elab.async false

noncomputable section

namespace Cert.Projection.Tail

open Idealize.ShloMosaic Idealize.ShloMosaic.TcCoe Idealize.ShloMosaic.Tactic

/-- An entry of the tail: a product of a row and a column past the first 4096, or zero past the weights' last column. -/
def entry (x : Fin 2048 → EReal) (w : Fin 2048 → Fin 4176 → EReal) (q : Fin 128) : EReal :=
  if h : q.val < 80 then ∑ d : Fin 2048, x d * w d ⟨4096 + q.val, by omega⟩ else 0

section Reference
open Cert.Reference6Ideal

/-- The reference's term at the given rows and weights. -/
def term (x : FVec Ideal S16384x2048 .bf16) (w : FVec Ideal S2048x4176 .f32) : FVec Ideal S16384x128 .f32 :=
  concatenate S16384x128 1 [⟨S16384x80, (extractStridedSlice S16384x80 ![0, 4096] (Host.dotGeneral dot_S16384x2048_S2048x4176_S16384x4176_1_0_0_1_n_n none
      (extf .f32 x Facts₀.bitsLt_bf16_f32) w) Facts₀.slices_S16384x4176_S16384x80_0_4096 : FVec Ideal S16384x80 .f32)⟩,
    ⟨S16384x48, (broadcastInDim S16384x48 ![] Facts₀.bcast_S_S16384x48 (constant S_ .f32 0x00000000#32) : FVec Ideal S16384x48 .f32)⟩]
    Facts₀.concatenates_S16384x80_S16384x48_S16384x128_d1

theorem reference_at (x : FVec Ideal S16384x2048 .bf16) (w : FVec Ideal S2048x4176 .f32) (p : Fin 16384) (q : Fin 128) :
    (term x w : S16384x128.Idx → EReal) (ix2 p q) = entry (fun d => x (ix2 p d)) (fun d k => w (ix2 d k)) q := by
  unfold entry
  by_cases h : q.val < 80
  · rw [dif_pos h]; unfold term; pointwise
    exact dif_pos h
  · rw [dif_neg h]; unfold term; pointwise
    exact dif_neg h

end Reference

open Cert.Kernel6Ideal Cert.Kernel6Ideal.Gen
open Idealize.SL.Sem

theorem points : cfg0.N = 16 := N_0
theorem below (t : Fin cfg0.N) : t.val < 16 := lt_of_lt_of_eq t.isLt points
theorem rows_at : ∀ t : Fin grid0.N, cc0_transform_0 (grid0.coords t) = ![t.val, 0] := by decide +kernel
theorem tile_place : ∀ t : Fin grid0.N, cc0_transform_2 (grid0.coords t) = ![t.val, 0] := by decide +kernel
theorem mask_inside : ∀ r : Fin 128, r.val < 80 → IntOp.cmpi .slt (BitVec.ofNat 32 r.val) 80#32 = 1#1 := by decide +kernel
theorem place_inj : ∀ t t' : Fin cfg0.N, (cfg0.win 2).index t = (cfg0.win 2).index t' → t = t' :=
  (by decide +kernel : ∀ t t' : Fin grid0.N, win0_2.index t = win0_2.index t' → t = t')
/-- No two points' tiles meet. -/
theorem apart : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (place_inj t t' h)

/-- The masked block: the given rows, then zeros. -/
theorem pay1_value (w : Vec Ideal S128x2048 .f32) (s : Fin 128) (d : Fin 2048) :
    (k0_pay1 w : S128x2048.Idx → EReal) (ix2 s d) = if s.val < 80 then (w (ix2 s d) : EReal) else 0 := by
  by_cases h : s.val < 80
  · rw [if_pos h]; unfold k0_pay1; pointwise
    rw [mask_inside s h]; rfl
  · rw [if_neg h]; unfold k0_pay1; pointwise
    rw [mask_past s h]
    rfl

theorem pay2_value (x : Vec Ideal S1024x2048 .bf16) (w : Vec Ideal S128x2048 .bf16) (r : Fin 1024) (s : Fin 128) :
    (k0_pay2 x w : S1024x128.Idx → EReal) (ix2 r s) = ∑ d : Fin 2048, (x (ix2 r d) : EReal) * w (ix2 s d) := by
  unfold k0_pay2; pointwise

variable (m : (ℓ : Loc nD τ sig) → Buf (Elt Ideal) ℓ) (c : Dev nD)

/-- The rows and the weights as the program was given them. -/
abbrev rows : S16384x2048.Idx → EReal := m ((c : Thread nD τ).loc main_arg0)
abbrev weights : S2048x4176.Idx → EReal := m ((c : Thread nD τ).loc main_arg1)

theorem row_block (t : Fin cfg0.N) (r : Fin 1024) (d : Fin 2048) :
    (iblk m c 0 t : S1024x2048.Idx → EReal) (ix2 r d) = rows m c (ix2 ⟨1024 * t.val + r.val, by have := below t; omega⟩ d) := by
  have e : ((cfg0.win 0).blk t).view.emb (ix2 r d : S1024x2048.Idx) = (ix2 ⟨1024 * t.val + r.val, by have := below t; omega⟩ d : S16384x2048.Idx) := by
    refine funext fun b : Fin 2 => Fin.ext ?_
    refine Eq.trans (b := (cc0_transform_0 (grid0.coords t)) b * S1024x2048.size b + 1 * ((ix2 r d : S1024x2048.Idx) b).val) rfl ?_
    rw [rows_at]
    match b with
    | 0 => show t.val * 1024 + 1 * r.val = 1024 * t.val + r.val; omega
    | 1 => show 0 * 2048 + 1 * d.val = d.val; omega
  refine Eq.trans (b := (V m c main_arg0 : S16384x2048.Idx → EReal) (((cfg0.win 0).blk t).view.emb (ix2 r d : S1024x2048.Idx))) rfl ?_
  rw [e]; exact congrFun (V_main_arg0 m c) _

/-- The call finds the weights transposed. -/
theorem turned : (V m c main_v0 : FVec Ideal S4176x2048 .f32)
    = transpose S4176x2048 [1, 0] (weights m c : FVec Ideal S2048x4176 .f32) Facts₀.transposes_S2048x4176_S4176x2048_1_0 := by
  show StableHlo.after hostOps0 (fun b => m (c, b)) main_v0 = _
  after_results

theorem turned_at (q : Fin 4176) (d : Fin 2048) : (V m c main_v0 : S4176x2048.Idx → EReal) (ix2 q d) = weights m c (ix2 d q) := by
  rw [turned]; pointwise

/-- The block kept: the last 80 columns of the weights, then zeros. -/
theorem kept_at (s : Fin 128) (d : Fin 2048) :
    (wKept m c : S128x2048.Idx → EReal) (ix2 s d) = if h : s.val < 80 then weights m c (ix2 d ⟨4096 + s.val, by omega⟩) else 0 := by
  unfold wKept
  refine (pay1_value _ s d).trans ?_
  by_cases h : s.val < 80
  · rw [if_pos h, dif_pos h]
    exact (fetched_at m c t0_0 _ s d h).trans (turned_at m c _ d)
  · rw [if_neg h, dif_neg h]

/-- A point's tile. -/
theorem tile_at (t : Fin cfg0.N) (r : Fin 1024) (q : Fin 128) :
    (k0_pay2 (F := Ideal) (iblk m c 0 t) (wKept m c) : S1024x128.Idx → EReal) (ix2 r q)
      = entry (fun d => rows m c (ix2 ⟨1024 * t.val + r.val, by have := below t; omega⟩ d)) (fun d k => weights m c (ix2 d k)) q := by
  refine (pay2_value _ _ r q).trans ?_
  unfold entry
  by_cases h : q.val < 80
  · rw [dif_pos h]
    refine Finset.sum_congr rfl fun d _ => ?_
    rw [row_block, kept_at, dif_pos h]
  · rw [dif_neg h]
    refine Finset.sum_eq_zero fun d _ => ?_
    rw [kept_at, dif_neg h, mul_zero]

/-- The kernel's result, element by element. -/
theorem result_at (p : Fin 16384) (q : Fin 128) :
    ((dats m 0 c).arrAt 2 cfg0.N : S16384x128.Idx → EReal) (ix2 p q)
      = entry (fun d => rows m c (ix2 p d)) (fun d k => weights m c (ix2 d k)) q := by
  have hp := p.isLt
  have ht : p.val / 1024 < cfg0.N := by rw [points]; omega
  have e : ((cfg0.win 2).blk ⟨p.val / 1024, ht⟩).view.emb (ix2 ⟨p.val % 1024, by omega⟩ q : S1024x128.Idx) = (ix2 p q : S16384x128.Idx) := by
    refine funext fun b : Fin 2 => Fin.ext ?_
    refine Eq.trans (b := (cc0_transform_2 (grid0.coords ⟨p.val / 1024, ht⟩)) b * S1024x128.size b + 1 * ((ix2 ⟨p.val % 1024, by omega⟩ q : S1024x128.Idx) b).val) rfl ?_
    rw [tile_place]
    match b with
    | 0 => show p.val / 1024 * 1024 + 1 * (p.val % 1024) = p.val; omega
    | 1 => show 0 * 128 + 1 * q.val = q.val; omega
  rw [← e]
  refine ((dats m 0 c).arrAt_emb_eq_flushed 2 apart ⟨p.val / 1024, ht⟩ (flush0_2 _) (ix2 ⟨p.val % 1024, by omega⟩ q : S1024x128.Idx)).trans ?_
  refine Eq.trans (b := (k0_pay2 (F := Ideal) (iblk m c 0 ⟨p.val / 1024, ht⟩) (wKept m c) : S1024x128.Idx → EReal) (ix2 ⟨p.val % 1024, by omega⟩ q)) rfl ?_
  refine (tile_at m c ⟨p.val / 1024, ht⟩ ⟨p.val % 1024, by omega⟩ q).trans ?_
  exact congrArg (fun k : Fin 16384 => entry (fun d => rows m c (ix2 k d)) (fun d k => weights m c (ix2 d k)) q)
    (Fin.ext (by show 1024 * (p.val / 1024) + p.val % 1024 = p.val; omega))

/-- The kernel's result is the reference's term of the same two arrays. -/
theorem meets : ((dats m 0 c).arrAt 2 cfg0.N : S16384x128.Idx → EReal) = (term (rows m c) (weights m c) : S16384x128.Idx → EReal) :=
  funext fun i => by
    rw [eq_ix2 i]
    exact (result_at m c _ _).trans (reference_at _ _ _ _).symm

end Cert.Projection.Tail

end
-- ==== Proof.Rope7.lean ====
/- The rotary embedding in front of the second layer's attention, over the extended reals. -/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384
set_option Elab.async false

noncomputable section

namespace Cert.Rope

open Idealize.ShloMosaic Idealize.ShloMosaic.TcCoe Idealize.ShloMosaic.Tactic

/-- Entry `l` of a row of 128 numbers turned by the angles whose cosines and sines are given. -/
def turn (x : Fin 128 → EReal) (c s : Fin 64 → EReal) (l : Fin 128) : EReal :=
  if h : l.val < 64 then x l * c ⟨l.val, h⟩ - x ⟨64 + l.val, by omega⟩ * s ⟨l.val, h⟩
  else x ⟨64 + (l.val - 64), by omega⟩ * c ⟨l.val - 64, by omega⟩ + x ⟨l.val - 64, by omega⟩ * s ⟨l.val - 64, by omega⟩

section Reference
open Cert.Reference7Ideal Cert.Reference7Ideal.Gen

/-- The queries' columns, cut into sixteen heads. -/
def heads (x : FVec Ideal S4x4096x4096 .bf16) : FVec Ideal S4x4096x16x128 .f32 :=
  shapeCast S4x4096x16x128 (extractStridedSlice S4x4096x2048 ![0, 0, 0] (extf .f32 x Facts₀.bitsLt_bf16_f32)
    Facts₀.slices_S4x4096x4096_S4x4096x2048_0_0_0) Facts₀.shapeCasts_S4x4096x2048_S4x4096x16x128

/-- A table, one row for every head. -/
def table (c : FVec Ideal S4096x64 .f32) : FVec Ideal S4x4096x16x64 .f32 :=
  broadcastInDim S4x4096x16x64 ![0, 1, 2, 3] Facts₀.bcast_S1x4096x1x64_S4x4096x16x64_0_1_2_3 (broadcastInDim S1x4096x1x64 ![1, 3] Facts₀.bcast_S4096x64_S1x4096x1x64_1_3 c)

/-- Every head turned. -/
def turned (y : FVec Ideal S4x4096x16x128 .f32) (c s : FVec Ideal S4096x64 .f32) : FVec Ideal S4x4096x16x128 .f32 :=
  concatenate S4x4096x16x128 3 [
    ⟨S4x4096x16x64, (subf (mulf (extractStridedSlice S4x4096x16x64 ![0, 0, 0, 0] y Facts₀.slices_S4x4096x16x128_S4x4096x16x64_0_0_0_0) (table c))
      (mulf (extractStridedSlice S4x4096x16x64 ![0, 0, 0, 64] y Facts₀.slices_S4x4096x16x128_S4x4096x16x64_0_0_0_64) (table s)) : FVec Ideal S4x4096x16x64 .f32)⟩,
    ⟨S4x4096x16x64, (addf (mulf (extractStridedSlice S4x4096x16x64 ![0, 0, 0, 64] y Facts₀.slices_S4x4096x16x128_S4x4096x16x64_0_0_0_64) (table c))
      (mulf (extractStridedSlice S4x4096x16x64 ![0, 0, 0, 0] y Facts₀.slices_S4x4096x16x128_S4x4096x16x64_0_0_0_0) (table s)) : FVec Ideal S4x4096x16x64 .f32)⟩]
    Facts₀.concatenates_S4x4096x16x64_S4x4096x16x64_S4x4096x16x128_d3

/-- The heads side by side again, scaled. -/
def scaled (y : FVec Ideal S4x4096x16x128 .f32) : FVec Ideal S4x4096x2048 .bf16 :=
  truncf .bf16 (mulf (shapeCast S4x4096x2048 y Facts₀.shapeCasts_S4x4096x16x128_S4x4096x2048)
    (broadcastInDim S4x4096x2048 ![] Facts₀.bcast_S_S4x4096x2048 (constant S_ .f32 0x3E0293EE#32))) Facts₀.bitsLt_bf16_f32

theorem heads_at (x : FVec Ideal S4x4096x4096 .bf16) (b : Fin 4) (t : Fin 4096) (h : Fin 16) (l : Fin 128) :
    (heads x : S4x4096x16x128.Idx → EReal) (ix4 b t h l) = x (ix3 b t ⟨h.val * 128 + l.val, by omega⟩) := by
  unfold heads; pointwise

theorem turned_at (y : FVec Ideal S4x4096x16x128 .f32) (c s : FVec Ideal S4096x64 .f32) (b : Fin 4) (t : Fin 4096) (h : Fin 16) (l : Fin 128) :
    (turned y c s : S4x4096x16x128.Idx → EReal) (ix4 b t h l) = turn (fun l => y (ix4 b t h l)) (fun l => c (ix2 t l)) (fun l => s (ix2 t l)) l := by
  unfold turned table turn; pointwise

theorem scaled_at (y : FVec Ideal S4x4096x16x128 .f32) (b : Fin 4) (t : Fin 4096) (q : Fin 2048) :
    (scaled y : S4x4096x2048.Idx → EReal) (ix3 b t q)
      = y (ix4 b t ⟨q.val / 128, by omega⟩ ⟨q.val % 128, by omega⟩) * Ideal.ofBits .f32 0x3E0293EE#32 := by
  unfold scaled; pointwise

/-- The keys' four heads likewise. -/
def keyHeads (x : FVec Ideal S4x4096x4096 .bf16) : FVec Ideal S4x4096x4x128 .f32 :=
  shapeCast S4x4096x4x128 (extractStridedSlice S4x4096x512 ![0, 0, 2048] (extf .f32 x Facts₀.bitsLt_bf16_f32)
    Facts₀.slices_S4x4096x4096_S4x4096x512_0_0_2048) Facts₀.shapeCasts_S4x4096x512_S4x4096x4x128

def keyTable (c : FVec Ideal S4096x64 .f32) : FVec Ideal S4x4096x4x64 .f32 :=
  broadcastInDim S4x4096x4x64 ![0, 1, 2, 3] Facts₀.bcast_S1x4096x1x64_S4x4096x4x64_0_1_2_3 (broadcastInDim S1x4096x1x64 ![1, 3] Facts₀.bcast_S4096x64_S1x4096x1x64_1_3 c)

def keyTurned (y : FVec Ideal S4x4096x4x128 .f32) (c s : FVec Ideal S4096x64 .f32) : FVec Ideal S4x4096x4x128 .f32 :=
  concatenate S4x4096x4x128 3 [
    ⟨S4x4096x4x64, (subf (mulf (extractStridedSlice S4x4096x4x64 ![0, 0, 0, 0] y Facts₀.slices_S4x4096x4x128_S4x4096x4x64_0_0_0_0) (keyTable c))
      (mulf (extractStridedSlice S4x4096x4x64 ![0, 0, 0, 64] y Facts₀.slices_S4x4096x4x128_S4x4096x4x64_0_0_0_64) (keyTable s)) : FVec Ideal S4x4096x4x64 .f32)⟩,
    ⟨S4x4096x4x64, (addf (mulf (extractStridedSlice S4x4096x4x64 ![0, 0, 0, 64] y Facts₀.slices_S4x4096x4x128_S4x4096x4x64_0_0_0_64) (keyTable c))
      (mulf (extractStridedSlice S4x4096x4x64 ![0, 0, 0, 0] y Facts₀.slices_S4x4096x4x128_S4x4096x4x64_0_0_0_0) (keyTable s)) : FVec Ideal S4x4096x4x64 .f32)⟩]
    Facts₀.concatenates_S4x4096x4x64_S4x4096x4x64_S4x4096x4x128_d3

def joined (y : FVec Ideal S4x4096x4x128 .f32) : FVec Ideal S4x4096x512 .bf16 :=
  truncf .bf16 (shapeCast S4x4096x512 y Facts₀.shapeCasts_S4x4096x4x128_S4x4096x512) Facts₀.bitsLt_bf16_f32

theorem keyHeads_at (x : FVec Ideal S4x4096x4096 .bf16) (b : Fin 4) (t : Fin 4096) (h : Fin 4) (l : Fin 128) :
    (keyHeads x : S4x4096x4x128.Idx → EReal) (ix4 b t h l) = x (ix3 b t ⟨2048 + (h.val * 128 + l.val), by omega⟩) := by
  unfold keyHeads; pointwise

theorem keyTurned_at (y : FVec Ideal S4x4096x4x128 .f32) (c s : FVec Ideal S4096x64 .f32) (b : Fin 4) (t : Fin 4096) (h : Fin 4) (l : Fin 128) :
    (keyTurned y c s : S4x4096x4x128.Idx → EReal) (ix4 b t h l) = turn (fun l => y (ix4 b t h l)) (fun l => c (ix2 t l)) (fun l => s (ix2 t l)) l := by
  unfold keyTurned keyTable turn; pointwise

theorem joined_at (y : FVec Ideal S4x4096x4x128 .f32) (b : Fin 4) (t : Fin 4096) (q : Fin 512) :
    (joined y : S4x4096x512.Idx → EReal) (ix3 b t q) = y (ix4 b t ⟨q.val / 128, by omega⟩ ⟨q.val % 128, by omega⟩) := by
  unfold joined; pointwise

/-- The values: the last columns, copied. -/
def copied (x : FVec Ideal S4x4096x4096 .bf16) : FVec Ideal S4x4096x512 .bf16 :=
  truncf .bf16 (extractStridedSlice S4x4096x512 ![0, 0, 2560] (extf .f32 x Facts₀.bitsLt_bf16_f32)
    Facts₀.slices_S4x4096x4096_S4x4096x512_0_0_2560) Facts₀.bitsLt_bf16_f32

theorem copied_at (x : FVec Ideal S4x4096x4096 .bf16) (b : Fin 4) (t : Fin 4096) (q : Fin 512) :
    (copied x : S4x4096x512.Idx → EReal) (ix3 b t q) = x (ix3 b t ⟨2560 + q.val, by omega⟩) := by
  unfold copied; pointwise

end Reference

end Cert.Rope
end
-- ==== Proof.Turn7.lean ====
/- The rotary embedding's kernel over the extended reals: what each of its stores writes. -/
module

public import proofs.«01_k».proof.Proof.Gen.Kernel7Ideal.Value
public import proofs.«01_k».proof.Proof.Rope7
public import Idealize.ShloMosaic.Lib.Pipeline.ValueKit

@[expose] public section

set_option maxRecDepth 16384
set_option Elab.async false

noncomputable section

namespace Cert.Rope

open Idealize.ShloMosaic Idealize.ShloMosaic.TcCoe Idealize.ShloMosaic.Tactic
open Cert.Kernel7Ideal Cert.Kernel7Ideal.Gen

/-- The entry half a head's width away, in the same head. -/
abbrev across (l : Fin 128) : Fin 128 := ⟨(l.val + 128 - 64) % 128, by omega⟩

/-- One head of the queries: the store of its columns. -/
theorem query_head (c s : FVec Ideal S256x128 .f32) (y : Vec Ideal S1x256x128 .bf16) (r : Fin 256) (l : Fin 128) :
    (k0_pay9 c s y : S1x256x128.Idx → EReal) (ix3 0 r l)
      = (y (ix3 0 r l) * c (ix2 r l) + y (ix3 0 r (across l)) * s (ix2 r l)) * Ideal.ofBits .f32 0x3E0293EE#32 := by
  unfold k0_pay9 across; pointwise

/-- One head of the keys. -/
theorem key_head (c s : FVec Ideal S256x128 .f32) (y : Vec Ideal S1x256x128 .bf16) (r : Fin 256) (l : Fin 128) :
    (k0_pay28 c s y : S1x256x128.Idx → EReal) (ix3 0 r l)
      = y (ix3 0 r l) * c (ix2 r l) + y (ix3 0 r (across l)) * s (ix2 r l) := by
  unfold k0_pay28 across; pointwise

/-- One head of the values, which is copied. -/
theorem value_head (y : Vec Ideal S1x256x128 .bf16) (r : Fin 256) (l : Fin 128) :
    (k0_pay29 y : S1x256x128.Idx → EReal) (ix3 0 r l) = y (ix3 0 r l) := by
  unfold k0_pay29; pointwise

/-- A tile of turned heads: entry `(r, q)` from the tile's rows and the two tables' blocks, the first head's columns
    starting at column `o` of the rows. -/
def turnedTile (o n : Nat) (h : o + n ≤ 4096) (hn : n % 128 = 0) (x : Vec Ideal S1x256x4096 .bf16) (c s : Vec Ideal S256x128 .f32) (r : Fin 256) (q : Fin n) : EReal :=
  x (ix3 0 r ⟨o + (q.val / 128 * 128 + q.val % 128), by omega⟩) * c (ix2 r ⟨q.val % 128, by omega⟩)
    + x (ix3 0 r ⟨o + (q.val / 128 * 128 + (across ⟨q.val % 128, by omega⟩).val), by have := (across ⟨q.val % 128, by omega⟩).isLt; omega⟩) * s (ix2 r ⟨q.val % 128, by omega⟩)

/-- The head that starts at column `p` of such a tile. -/
theorem turnedTile_head (o n : Nat) (h : o + n ≤ 4096) (hn : n % 128 = 0) (x : Vec Ideal S1x256x4096 .bf16) (c s : Vec Ideal S256x128 .f32) (r : Fin 256)
    (p : Nat) (hp : p % 128 = 0) (hpn : p + 128 ≤ n) (l : Fin 128) :
    turnedTile o n h hn x c s r ⟨p + l.val, by omega⟩
      = x (ix3 0 r ⟨o + p + l.val, by omega⟩) * c (ix2 r l)
        + x (ix3 0 r ⟨o + p + (across l).val, by have := (across l).isLt; omega⟩) * s (ix2 r l) := by
  have e : (⟨(p + l.val) % 128, by omega⟩ : Fin 128) = l := Fin.ext (by show (p + l.val) % 128 = l.val; omega)
  have d : (p + l.val) / 128 * 128 = p := by omega
  have f : ∀ k k' : Fin 4096, k.val = k'.val → x (ix3 0 r k) = x (ix3 0 r k') := fun k k' hk => by rw [Fin.ext hk]
  have g : ∀ z : Vec Ideal S256x128 .f32, z (ix2 r ⟨(p + l.val) % 128, by omega⟩) = z (ix2 r l) := fun z => by rw [e]
  exact congrArg₂ (· + ·)
    (congrArg₂ (· * ·) (f _ _ (by show o + ((p + l.val) / 128 * 128 + (p + l.val) % 128) = o + p + l.val; omega)) (g c))
    (congrArg₂ (· * ·) (f _ _ (by
      show o + ((p + l.val) / 128 * 128 + ((p + l.val) % 128 + 128 - 64) % 128) = o + p + (l.val + 128 - 64) % 128; omega)) (g s))

theorem load_at (x : Vec Ideal S1x256x4096 .bf16) (o : Nat) (inb : ∀ a, (![0, 0, o] : Fin 3 → Nat) a + S1x256x128.size a ≤ S1x256x4096.size a) (r : Fin 256) (l : Fin 128)
    (h : o + l.val < 4096) :
    (View.ld x (Rect.unit ![0, 0, o] S1x256x128.size inb) : S1x256x128.Idx → EReal) (ix3 0 r l) = x (ix3 0 r ⟨o + l.val, h⟩) :=
  congrArg x (funext fun a : Fin 3 => Fin.ext (by
    match a with
    | 0 => rfl
    | 1 => show 0 + 1 * r.val = r.val; omega
    | 2 => show o + 1 * l.val = o + l.val; omega))

/-- Where a store's entry lands, in a tile of `n` columns. -/
theorem store_at (n o : Nat) (inb : ∀ a, (![0, 0, o] : Fin 3 → Nat) a + S1x256x128.size a ≤ (⟨3, ![1, 256, n]⟩ : Shape).size a) (r : Fin 256) (l : Fin 128) (h : o + l.val < n) :
    (Rect.unit ![0, 0, o] S1x256x128.size inb : Rect ⟨3, ![1, 256, n]⟩).emb (ix3 0 r l : S1x256x128.Idx) = (ix3 0 r ⟨o + l.val, h⟩ : (⟨3, ![1, 256, n]⟩ : Shape).Idx) :=
  funext fun a : Fin 3 => Fin.ext (by
    match a with
    | 0 => rfl
    | 1 => show 0 + 1 * r.val = r.val; omega
    | 2 => show o + 1 * l.val = o + l.val; omega)

theorem tile_index (i : S1x256x128.Idx) : i = (ix3 0 (i 1) (i 2) : S1x256x128.Idx) :=
  funext fun a : Fin 3 => by
    match a with
    | 0 => exact Fin.ext (by have : (i 0).val < 1 := (i 0).isLt; show (i 0).val = 0; omega)
    | 1 => rfl
    | 2 => rfl

/-- The three tiles a point writes. -/
def queries (x : Vec Ideal S1x256x4096 .bf16) (c s : Vec Ideal S256x128 .f32) : S1x256x2048.Idx → EReal := fun i =>
  turnedTile 0 2048 (by omega) rfl x c s (i 1) (i 2) * Ideal.ofBits .f32 0x3E0293EE#32

def keys (x : Vec Ideal S1x256x4096 .bf16) (c s : Vec Ideal S256x128 .f32) : S1x256x512.Idx → EReal := fun i =>
  turnedTile 2048 512 (by omega) rfl x c s (i 1) (i 2)

def values (x : Vec Ideal S1x256x4096 .bf16) : S1x256x512.Idx → EReal := fun i =>
  x (ix3 0 (i 1) ⟨2560 + (i 2).val, by have : (i 2).val < 512 := (i 2).isLt; omega⟩)

theorem query_piece (o : Nat) (ho : o % 128 = 0) (hn : o + 128 ≤ 2048) (inb : ∀ a, (![0, 0, o] : Fin 3 → Nat) a + S1x256x128.size a ≤ S1x256x4096.size a)
    (inb' : ∀ a, (![0, 0, o] : Fin 3 → Nat) a + S1x256x128.size a ≤ S1x256x2048.size a) (x : Vec Ideal S1x256x4096 .bf16) (c s : Vec Ideal S256x128 .f32) (i : S1x256x128.Idx) :
    (k0_pay9 c s (View.ld x (Rect.unit ![0, 0, o] S1x256x128.size inb)) : S1x256x128.Idx → EReal) i
      = queries x c s ((Rect.unit ![0, 0, o] S1x256x128.size inb' : Rect S1x256x2048).emb i) := by
  generalize hr : i 1 = r
  generalize hl : i 2 = l
  have e := tile_index i
  rw [hr, hl] at e
  rw [e]
  change Fin 256 at r
  change Fin 128 at l
  refine (query_head c s _ r l).trans ?_
  refine Eq.trans ?_ (congrArg (queries x c s) (store_at 2048 o inb' r l (by omega))).symm
  rw [load_at x o inb r l (by omega), load_at x o inb r (across l) (by have := (across l).isLt; omega)]
  refine (congrArg (· * Ideal.ofBits .f32 0x3E0293EE#32) ?_)
  refine Eq.trans ?_ (turnedTile_head 0 2048 (by omega) rfl x c s r o ho hn l).symm
  simp only [Nat.zero_add]

theorem key_piece (o p : Nat) (hp : p % 128 = 0) (hn : p + 128 ≤ 512) (h : o = 2048 + p) (inb : ∀ a, (![0, 0, o] : Fin 3 → Nat) a + S1x256x128.size a ≤ S1x256x4096.size a)
    (inb' : ∀ a, (![0, 0, p] : Fin 3 → Nat) a + S1x256x128.size a ≤ S1x256x512.size a) (x : Vec Ideal S1x256x4096 .bf16) (c s : Vec Ideal S256x128 .f32) (i : S1x256x128.Idx) :
    (k0_pay28 c s (View.ld x (Rect.unit ![0, 0, o] S1x256x128.size inb)) : S1x256x128.Idx → EReal) i
      = keys x c s ((Rect.unit ![0, 0, p] S1x256x128.size inb' : Rect S1x256x512).emb i) := by
  subst h
  generalize hr : i 1 = r
  generalize hl : i 2 = l
  have e := tile_index i
  rw [hr, hl] at e
  rw [e]
  change Fin 256 at r
  change Fin 128 at l
  refine (key_head c s _ r l).trans ?_
  refine Eq.trans ?_ (congrArg (keys x c s) (store_at 512 p inb' r l (by omega))).symm
  rw [load_at x _ inb r l (by omega), load_at x _ inb r (across l) (by have := (across l).isLt; omega)]
  exact (turnedTile_head 2048 512 (by omega) rfl x c s r p hp hn l).symm

theorem value_piece (o p : Nat) (hn : p + 128 ≤ 512) (h : o = 2560 + p) (inb : ∀ a, (![0, 0, o] : Fin 3 → Nat) a + S1x256x128.size a ≤ S1x256x4096.size a)
    (inb' : ∀ a, (![0, 0, p] : Fin 3 → Nat) a + S1x256x128.size a ≤ S1x256x512.size a) (x : Vec Ideal S1x256x4096 .bf16) (i : S1x256x128.Idx) :
    (k0_pay29 (View.ld x (Rect.unit ![0, 0, o] S1x256x128.size inb)) : S1x256x128.Idx → EReal) i
      = values x ((Rect.unit ![0, 0, p] S1x256x128.size inb' : Rect S1x256x512).emb i) := by
  subst h
  generalize hr : i 1 = r
  generalize hl : i 2 = l
  have e := tile_index i
  rw [hr, hl] at e
  rw [e]
  change Fin 256 at r
  change Fin 128 at l
  refine (value_head _ r l).trans ?_
  refine Eq.trans ?_ (congrArg (values x) (store_at 512 p inb' r l (by omega))).symm
  rw [load_at x _ inb r l (by omega)]
  exact congrArg (fun k => x (ix3 0 r k)) (Fin.ext (Nat.add_assoc 2560 p l.val))

theorem corner : (![0, 0] : Fin 2 → Nat) = fun _ => 0 := funext fun a => by fin_cases a <;> rfl

theorem table_load (x : Vec Ideal S256x128 .f32) : k0_pay2 (View.ld x r0_0) = x := by
  unfold k0_pay2; rw [View.ld_unit_zero (S := S256x128) corner]; exact shapeCast_id _ _

theorem tile6 (x : Vec Ideal S1x256x4096 .bf16) (y : Vec Ideal S1x256x128 .f32) (c s u v : Vec Ideal S256x128 .f32) (i : S1x256x2048.Idx) :
    (out0_6 x y c s u v : S1x256x2048.Idx → EReal) i = queries x c s i := by
  have h : ∀ (o : Nat) (ho : o % 128 = 0) (hn : o + 128 ≤ 2048) (inb : ∀ a, (![0, 0, o] : Fin 3 → Nat) a + S1x256x128.size a ≤ S1x256x4096.size a)
      (inb' : ∀ a, (![0, 0, o] : Fin 3 → Nat) a + S1x256x128.size a ≤ S1x256x2048.size a) (i : S1x256x128.Idx),
      (k0_pay9 (k0_pay2 (View.ld c r0_0)) (k0_pay2 (View.ld s r0_0)) (View.ld x (Rect.unit ![0, 0, o] S1x256x128.size inb)) : S1x256x128.Idx → EReal) i
        = queries x c s ((Rect.unit ![0, 0, o] S1x256x128.size inb' : Rect S1x256x2048).emb i) := fun o ho hn inb inb' i => by
    rw [table_load, table_load]; exact query_piece o ho hn inb inb' x c s i
  refine View.canon_apply_of_pieces (Val := Elt Ideal) (S := S1x256x2048) (e := .bf16) (queries x c s) _ ?_ i (cover0_6 _ _ _ _ _ _ _ _ _ _ _ _ _ _ _ _ i)
  simp only [List.forall_mem_cons]
  exact ⟨h 1920 rfl (by omega) _ _, h 1792 rfl (by omega) _ _, h 1664 rfl (by omega) _ _, h 1536 rfl (by omega) _ _, h 1408 rfl (by omega) _ _,
    h 1280 rfl (by omega) _ _, h 1152 rfl (by omega) _ _, h 1024 rfl (by omega) _ _, h 896 rfl (by omega) _ _, h 768 rfl (by omega) _ _,
    h 640 rfl (by omega) _ _, h 512 rfl (by omega) _ _, h 384 rfl (by omega) _ _, h 256 rfl (by omega) _ _, h 128 rfl (by omega) _ _,
    h 0 rfl (by omega) _ _, fun _ hq => absurd hq (List.not_mem_nil)⟩

theorem tile7 (x : Vec Ideal S1x256x4096 .bf16) (y : Vec Ideal S1x256x128 .f32) (c s u v : Vec Ideal S256x128 .f32) (i : S1x256x512.Idx) :
    (out0_7 x y c s u v : S1x256x512.Idx → EReal) i = keys x c s i := by
  have h : ∀ (o p : Nat) (hp : p % 128 = 0) (hn : p + 128 ≤ 512) (h : o = 2048 + p) (inb : ∀ a, (![0, 0, o] : Fin 3 → Nat) a + S1x256x128.size a ≤ S1x256x4096.size a)
      (inb' : ∀ a, (![0, 0, p] : Fin 3 → Nat) a + S1x256x128.size a ≤ S1x256x512.size a) (i : S1x256x128.Idx),
      (k0_pay28 (k0_pay2 (View.ld c r0_0)) (k0_pay2 (View.ld s r0_0)) (View.ld x (Rect.unit ![0, 0, o] S1x256x128.size inb)) : S1x256x128.Idx → EReal) i
        = keys x c s ((Rect.unit ![0, 0, p] S1x256x128.size inb' : Rect S1x256x512).emb i) := fun o p hp hn h inb inb' i => by
    rw [table_load, table_load]; exact key_piece o p hp hn h inb inb' x c s i
  refine View.canon_apply_of_pieces (Val := Elt Ideal) (S := S1x256x512) (e := .bf16) (keys x c s) _ ?_ i (cover0_7 _ _ _ _ i)
  simp only [List.forall_mem_cons]
  exact ⟨h 2432 384 rfl (by omega) rfl _ _, h 2304 256 rfl (by omega) rfl _ _, h 2176 128 rfl (by omega) rfl _ _, h 2048 0 rfl (by omega) rfl _ _,
    fun _ hq => absurd hq (List.not_mem_nil)⟩

theorem tile8 (x : Vec Ideal S1x256x4096 .bf16) (y : Vec Ideal S1x256x128 .f32) (c s u v : Vec Ideal S256x128 .f32) (i : S1x256x512.Idx) :
    (out0_8 x y c s u v : S1x256x512.Idx → EReal) i = values x i := by
  refine View.canon_apply_of_pieces (Val := Elt Ideal) (S := S1x256x512) (e := .bf16) (values x) _ ?_ i (cover0_8 _ _ _ _ i)
  simp only [List.forall_mem_cons]
  exact ⟨value_piece 2944 384 (by omega) rfl _ _ x, value_piece 2816 256 (by omega) rfl _ _ x, value_piece 2688 128 (by omega) rfl _ _ x,
    value_piece 2560 0 (by omega) rfl _ _ x, fun _ hq => absurd hq (List.not_mem_nil)⟩

theorem points : cfg0.N = 64 := N_0
theorem below (t : Fin cfg0.N) : t.val < 64 := lt_of_lt_of_eq t.isLt points
theorem at0 : ∀ t : Fin grid0.N, cc0_transform_0 (grid0.coords t) = ![t.val / 16, t.val % 16, 0] := by decide +kernel
theorem at2 : ∀ t : Fin grid0.N, cc0_transform_2 (grid0.coords t) = ![t.val % 16, 0] := by decide +kernel

variable (m : (ℓ : Loc nD τ sig) → Buf (Elt Ideal) ℓ) (c : Dev nD)

/-- The arrays as the program was given them. -/
abbrev projected : S4x4096x4096.Idx → EReal := m ((c : Thread nD τ).loc main_arg0)
abbrev cosines : S4096x64.Idx → EReal := m ((c : Thread nD τ).loc main_arg2)
abbrev sines : S4096x64.Idx → EReal := m ((c : Thread nD τ).loc main_arg3)

/-- The two tables the region finds, a head wide. -/
theorem cos_table : (V m c main_v0 : FVec Ideal S4096x128 .f32)
    = concatenate S4096x128 1 [⟨S4096x64, (cosines m c : FVec Ideal S4096x64 .f32)⟩, ⟨S4096x64, (cosines m c : FVec Ideal S4096x64 .f32)⟩]
        Facts₀.concatenates_S4096x64_S4096x64_S4096x128_d1 := by
  show StableHlo.after hostOps0 (fun b => m (c, b)) main_v0 = _
  after_results

theorem sin_table : (V m c main_v2 : FVec Ideal S4096x128 .f32)
    = concatenate S4096x128 1 [⟨S4096x64, (Host.negf (sines m c : FVec Ideal S4096x64 .f32) : FVec Ideal S4096x64 .f32)⟩, ⟨S4096x64, (sines m c : FVec Ideal S4096x64 .f32)⟩]
        Facts₀.concatenates_S4096x64_S4096x64_S4096x128_d1 := by
  show StableHlo.after hostOps0 (fun b => m (c, b)) main_v2 = _
  after_results

theorem cos_at (p : Fin 4096) (l : Fin 128) : (V m c main_v0 : S4096x128.Idx → EReal) (ix2 p l)
    = if h : l.val < 64 then cosines m c (ix2 p ⟨l.val, h⟩) else cosines m c (ix2 p ⟨l.val - 64, by omega⟩) := by
  rw [cos_table]; pointwise

theorem sin_at (p : Fin 4096) (l : Fin 128) : (V m c main_v2 : S4096x128.Idx → EReal) (ix2 p l)
    = if h : l.val < 64 then -sines m c (ix2 p ⟨l.val, h⟩) else sines m c (ix2 p ⟨l.val - 64, by omega⟩) := by
  rw [sin_table]; pointwise

/-- A point's blocks: its rows of its batch, and the same rows of the tables. -/
theorem rows_block (t : Fin cfg0.N) (r : Fin 256) (k : Fin 4096) :
    (iblk m c 0 t : S1x256x4096.Idx → EReal) (ix3 0 r k)
      = projected m c (ix3 ⟨t.val / 16, by have := below t; omega⟩ ⟨256 * (t.val % 16) + r.val, by omega⟩ k) := by
  have e : ((cfg0.win 0).blk t).view.emb (ix3 0 r k : S1x256x4096.Idx)
      = (ix3 ⟨t.val / 16, by have := below t; omega⟩ ⟨256 * (t.val % 16) + r.val, by omega⟩ k : S4x4096x4096.Idx) := by
    refine funext fun b : Fin 3 => Fin.ext ?_
    refine Eq.trans (b := (cc0_transform_0 (grid0.coords t)) b * S1x256x4096.size b + 1 * ((ix3 0 r k : S1x256x4096.Idx) b).val) rfl ?_
    rw [at0]
    match b with
    | 0 => show t.val / 16 * 1 + 1 * 0 = t.val / 16; omega
    | 1 => show t.val % 16 * 256 + 1 * r.val = 256 * (t.val % 16) + r.val; omega
    | 2 => show 0 * 4096 + 1 * k.val = k.val; omega
  refine Eq.trans (b := (V m c main_arg0 : S4x4096x4096.Idx → EReal) (((cfg0.win 0).blk t).view.emb (ix3 0 r k : S1x256x4096.Idx))) rfl ?_
  rw [e]; exact congrFun (V_main_arg0 m c) _

theorem cos_block (t : Fin cfg0.N) (r : Fin 256) (l : Fin 128) :
    (iblk m c 2 t : S256x128.Idx → EReal) (ix2 r l) = (V m c main_v0 : S4096x128.Idx → EReal) (ix2 ⟨256 * (t.val % 16) + r.val, by omega⟩ l) := by
  have e : ((cfg0.win 2).blk t).view.emb (ix2 r l : S256x128.Idx) = (ix2 ⟨256 * (t.val % 16) + r.val, by omega⟩ l : S4096x128.Idx) := by
    refine funext fun b : Fin 2 => Fin.ext ?_
    refine Eq.trans (b := (cc0_transform_2 (grid0.coords t)) b * S256x128.size b + 1 * ((ix2 r l : S256x128.Idx) b).val) rfl ?_
    rw [at2]
    match b with
    | 0 => show t.val % 16 * 256 + 1 * r.val = 256 * (t.val % 16) + r.val; omega
    | 1 => show 0 * 128 + 1 * l.val = l.val; omega
  exact congrArg (V m c main_v0 : S4096x128.Idx → EReal) e

theorem sin_block (t : Fin cfg0.N) (r : Fin 256) (l : Fin 128) :
    (iblk m c 3 t : S256x128.Idx → EReal) (ix2 r l) = (V m c main_v2 : S4096x128.Idx → EReal) (ix2 ⟨256 * (t.val % 16) + r.val, by omega⟩ l) := by
  have e : ((cfg0.win 3).blk t).view.emb (ix2 r l : S256x128.Idx) = (ix2 ⟨256 * (t.val % 16) + r.val, by omega⟩ l : S4096x128.Idx) := by
    refine funext fun b : Fin 2 => Fin.ext ?_
    refine Eq.trans (b := (cc0_transform_2 (grid0.coords t)) b * S256x128.size b + 1 * ((ix2 r l : S256x128.Idx) b).val) rfl ?_
    rw [at2]
    match b with
    | 0 => show t.val % 16 * 256 + 1 * r.val = 256 * (t.val % 16) + r.val; omega
    | 1 => show 0 * 128 + 1 * l.val = l.val; omega
  exact congrArg (V m c main_v2 : S4096x128.Idx → EReal) e

/-- Adding the entry across, times a sine whose sign changes half-way, is the turn. -/
theorem turn_across (x : Fin 128 → EReal) (a b : Fin 64 → EReal) (l : Fin 128) :
    x l * (if h : l.val < 64 then a ⟨l.val, h⟩ else a ⟨l.val - 64, by omega⟩)
      + x (across l) * (if h : l.val < 64 then -b ⟨l.val, h⟩ else b ⟨l.val - 64, by omega⟩) = turn x a b l := by
  unfold turn
  by_cases h : l.val < 64
  · rw [dif_pos h, dif_pos h, dif_pos h, mul_neg, ← sub_eq_add_neg,
      show across l = ⟨64 + l.val, by omega⟩ from Fin.ext (by show (l.val + 128 - 64) % 128 = 64 + l.val; omega)]
  · rw [dif_neg h, dif_neg h, dif_neg h,
      show across l = ⟨l.val - 64, by omega⟩ from Fin.ext (by show (l.val + 128 - 64) % 128 = l.val - 64; omega),
      show (⟨64 + (l.val - 64), by omega⟩ : Fin 128) = l from Fin.ext (by show 64 + (l.val - 64) = l.val; omega)]

/-- Entry `q` of row `p` of batch `b` turned, the first head's columns starting at column `o`. -/
def turnedAt (o n : Nat) (h : o + n ≤ 4096) (hn : n % 128 = 0) (b : Fin 4) (p : Fin 4096) (q : Fin n) : EReal :=
  turn (fun l => projected m c (ix3 b p ⟨o + (q.val / 128 * 128 + l.val), by omega⟩)) (fun l => cosines m c (ix2 p l)) (fun l => sines m c (ix2 p l))
    ⟨q.val % 128, by omega⟩

theorem turnedTile_at (o n : Nat) (h : o + n ≤ 4096) (hn : n % 128 = 0) (t : Fin cfg0.N) (r : Fin 256) (q : Fin n) :
    turnedTile o n h hn (iblk m c 0 t) (iblk m c 2 t) (iblk m c 3 t) r q
      = turnedAt m c o n h hn ⟨t.val / 16, by have := below t; omega⟩ ⟨256 * (t.val % 16) + r.val, by omega⟩ q := by
  unfold turnedTile turnedAt
  rw [rows_block, rows_block, cos_block, sin_block, cos_at, sin_at]
  refine Eq.trans ?_ (turn_across _ _ _ _)
  rfl

/-- The point that holds row `p` of batch `b`. -/
theorem holds (b : Fin 4) (p : Fin 4096) : 16 * b.val + p.val / 256 < cfg0.N := by rw [points]; omega

theorem batch_eq (b : Fin 4) (p : Fin 4096) (h : (16 * b.val + p.val / 256) / 16 < 4) : (⟨(16 * b.val + p.val / 256) / 16, h⟩ : Fin 4) = b :=
  Fin.ext (by show (16 * b.val + p.val / 256) / 16 = b.val; omega)

theorem row_eq (b : Fin 4) (p : Fin 4096) (h : 256 * ((16 * b.val + p.val / 256) % 16) + p.val % 256 < 4096) :
    (⟨256 * ((16 * b.val + p.val / 256) % 16) + p.val % 256, h⟩ : Fin 4096) = p :=
  Fin.ext (by show 256 * ((16 * b.val + p.val / 256) % 16) + p.val % 256 = p.val; omega)

/-- Every tile is written back whole. -/
theorem cut6 (t : Fin cfg0.N) (z : S1x256x2048.Idx → EReal) (y : S1x256x2048.Idx) : ((cfg0.win 6).cut (grid0.coords t) z : S1x256x2048.Idx → EReal) y = z y := rfl
theorem cut7 (t : Fin cfg0.N) (z : S1x256x512.Idx → EReal) (y : S1x256x512.Idx) : ((cfg0.win 7).cut (grid0.coords t) z : S1x256x512.Idx → EReal) y = z y := rfl
theorem cut8 (t : Fin cfg0.N) (z : S1x256x512.Idx → EReal) (y : S1x256x512.Idx) : ((cfg0.win 8).cut (grid0.coords t) z : S1x256x512.Idx → EReal) y = z y := rfl

/-- The queries, the keys and the values the region leaves. -/
theorem result6 (b : Fin 4) (p : Fin 4096) (q : Fin 2048) : ((dats m 0 c).arrAt 6 cfg0.N : S4x4096x2048.Idx → EReal) (ix3 b p q)
    = turnedAt m c 0 2048 (by omega) rfl b p q * Ideal.ofBits .f32 0x3E0293EE#32 := by
  have e : ((cfg0.win 6).blk ⟨_, holds b p⟩).view.emb (ix3 0 ⟨p.val % 256, by omega⟩ q : S1x256x2048.Idx) = (ix3 b p q : S4x4096x2048.Idx) := by
    refine funext fun a : Fin 3 => Fin.ext ?_
    refine Eq.trans (b := (cc0_transform_0 (grid0.coords ⟨_, holds b p⟩)) a * S1x256x2048.size a + 1 * ((ix3 0 ⟨p.val % 256, by omega⟩ q : S1x256x2048.Idx) a).val) rfl ?_
    rw [at0]
    match a with
    | 0 => show (16 * b.val + p.val / 256) / 16 * 1 + 1 * 0 = b.val; omega
    | 1 => show (16 * b.val + p.val / 256) % 16 * 256 + 1 * (p.val % 256) = p.val; omega
    | 2 => show 0 * 2048 + 1 * q.val = q.val; omega
  rw [← e]
  refine ((dats m 0 c).arrAt_emb_eq_flushed 6 Cert.Kernel7Ideal.Value.disjoint6 ⟨_, holds b p⟩ (flush0_6 _) (ix3 0 ⟨p.val % 256, by omega⟩ q : S1x256x2048.Idx)).trans ?_
  rw [Cert.Kernel7Ideal.Value.flushed6]
  rw [show out0_6 (F := Ideal) (iblk m c 0 ⟨_, holds b p⟩) (iblk m c 1 ⟨_, holds b p⟩) (iblk m c 2 ⟨_, holds b p⟩) (iblk m c 3 ⟨_, holds b p⟩) (iblk m c 4 ⟨_, holds b p⟩) (iblk m c 5 ⟨_, holds b p⟩) = queries (iblk m c 0 ⟨_, holds b p⟩) (iblk m c 2 ⟨_, holds b p⟩) (iblk m c 3 ⟨_, holds b p⟩) from funext fun i => tile6 _ _ _ _ _ _ i]
  refine (cut6 _ (queries (iblk m c 0 ⟨_, holds b p⟩) (iblk m c 2 ⟨_, holds b p⟩) (iblk m c 3 ⟨_, holds b p⟩)) (ix3 0 ⟨p.val % 256, by omega⟩ q)).trans ?_
  refine (congrArg (· * Ideal.ofBits .f32 0x3E0293EE#32) (turnedTile_at m c 0 2048 (by omega) rfl ⟨_, holds b p⟩ ⟨p.val % 256, by omega⟩ q)).trans ?_
  rw [batch_eq, row_eq]

theorem result7 (b : Fin 4) (p : Fin 4096) (q : Fin 512) : ((dats m 0 c).arrAt 7 cfg0.N : S4x4096x512.Idx → EReal) (ix3 b p q)
    = turnedAt m c 2048 512 (by omega) rfl b p q := by
  have e : ((cfg0.win 7).blk ⟨_, holds b p⟩).view.emb (ix3 0 ⟨p.val % 256, by omega⟩ q : S1x256x512.Idx) = (ix3 b p q : S4x4096x512.Idx) := by
    refine funext fun a : Fin 3 => Fin.ext ?_
    refine Eq.trans (b := (cc0_transform_0 (grid0.coords ⟨_, holds b p⟩)) a * S1x256x512.size a + 1 * ((ix3 0 ⟨p.val % 256, by omega⟩ q : S1x256x512.Idx) a).val) rfl ?_
    rw [at0]
    match a with
    | 0 => show (16 * b.val + p.val / 256) / 16 * 1 + 1 * 0 = b.val; omega
    | 1 => show (16 * b.val + p.val / 256) % 16 * 256 + 1 * (p.val % 256) = p.val; omega
    | 2 => show 0 * 512 + 1 * q.val = q.val; omega
  rw [← e]
  refine ((dats m 0 c).arrAt_emb_eq_flushed 7 Cert.Kernel7Ideal.Value.disjoint7 ⟨_, holds b p⟩ (flush0_7 _) (ix3 0 ⟨p.val % 256, by omega⟩ q : S1x256x512.Idx)).trans ?_
  rw [Cert.Kernel7Ideal.Value.flushed7]
  rw [show out0_7 (F := Ideal) (iblk m c 0 ⟨_, holds b p⟩) (iblk m c 1 ⟨_, holds b p⟩) (iblk m c 2 ⟨_, holds b p⟩) (iblk m c 3 ⟨_, holds b p⟩) (iblk m c 4 ⟨_, holds b p⟩) (iblk m c 5 ⟨_, holds b p⟩) = keys (iblk m c 0 ⟨_, holds b p⟩) (iblk m c 2 ⟨_, holds b p⟩) (iblk m c 3 ⟨_, holds b p⟩) from funext fun i => tile7 _ _ _ _ _ _ i]
  refine (cut7 _ (keys (iblk m c 0 ⟨_, holds b p⟩) (iblk m c 2 ⟨_, holds b p⟩) (iblk m c 3 ⟨_, holds b p⟩)) (ix3 0 ⟨p.val % 256, by omega⟩ q)).trans ?_
  refine (turnedTile_at m c 2048 512 (by omega) rfl ⟨_, holds b p⟩ ⟨p.val % 256, by omega⟩ q).trans ?_
  rw [batch_eq, row_eq]

theorem result8 (b : Fin 4) (p : Fin 4096) (q : Fin 512) : ((dats m 0 c).arrAt 8 cfg0.N : S4x4096x512.Idx → EReal) (ix3 b p q)
    = projected m c (ix3 b p ⟨2560 + q.val, by omega⟩) := by
  have e : ((cfg0.win 8).blk ⟨_, holds b p⟩).view.emb (ix3 0 ⟨p.val % 256, by omega⟩ q : S1x256x512.Idx) = (ix3 b p q : S4x4096x512.Idx) := by
    refine funext fun a : Fin 3 => Fin.ext ?_
    refine Eq.trans (b := (cc0_transform_0 (grid0.coords ⟨_, holds b p⟩)) a * S1x256x512.size a + 1 * ((ix3 0 ⟨p.val % 256, by omega⟩ q : S1x256x512.Idx) a).val) rfl ?_
    rw [at0]
    match a with
    | 0 => show (16 * b.val + p.val / 256) / 16 * 1 + 1 * 0 = b.val; omega
    | 1 => show (16 * b.val + p.val / 256) % 16 * 256 + 1 * (p.val % 256) = p.val; omega
    | 2 => show 0 * 512 + 1 * q.val = q.val; omega
  rw [← e]
  refine ((dats m 0 c).arrAt_emb_eq_flushed 8 Cert.Kernel7Ideal.Value.disjoint8 ⟨_, holds b p⟩ (flush0_8 _) (ix3 0 ⟨p.val % 256, by omega⟩ q : S1x256x512.Idx)).trans ?_
  rw [Cert.Kernel7Ideal.Value.flushed8]
  rw [show out0_8 (F := Ideal) (iblk m c 0 ⟨_, holds b p⟩) (iblk m c 1 ⟨_, holds b p⟩) (iblk m c 2 ⟨_, holds b p⟩) (iblk m c 3 ⟨_, holds b p⟩) (iblk m c 4 ⟨_, holds b p⟩) (iblk m c 5 ⟨_, holds b p⟩) = values (iblk m c 0 ⟨_, holds b p⟩) from funext fun i => tile8 _ _ _ _ _ _ i]
  refine (cut8 _ (values (iblk m c 0 ⟨_, holds b p⟩)) (ix3 0 ⟨p.val % 256, by omega⟩ q)).trans ?_
  refine (rows_block m c ⟨_, holds b p⟩ ⟨p.val % 256, by omega⟩ ⟨2560 + q.val, by omega⟩).trans ?_
  rw [batch_eq, row_eq]

/-- The reference's queries and keys. -/
abbrev expectedQ : S4x4096x2048.Idx → EReal := scaled (turned (heads (projected m c)) (cosines m c) (sines m c))
abbrev expectedK : S4x4096x512.Idx → EReal := joined (keyTurned (keyHeads (projected m c)) (cosines m c) (sines m c))

theorem expectedQ_at (b : Fin 4) (p : Fin 4096) (q : Fin 2048) :
    expectedQ m c (ix3 b p q) = turnedAt m c 0 2048 (by omega) rfl b p q * Ideal.ofBits .f32 0x3E0293EE#32 := by
  refine (scaled_at _ b p q).trans (congrArg (· * Ideal.ofBits .f32 0x3E0293EE#32) ?_)
  refine (turned_at (heads (projected m c)) (cosines m c) (sines m c) b p ⟨q.val / 128, by omega⟩ ⟨q.val % 128, by omega⟩).trans ?_
  unfold turnedAt
  refine congrArg (fun f => turn f (fun l => cosines m c (ix2 p l)) (fun l => sines m c (ix2 p l)) ⟨q.val % 128, by omega⟩) (funext fun l => ?_)
  refine (heads_at (projected m c) b p ⟨q.val / 128, by omega⟩ l).trans ?_
  exact congrArg (fun k => projected m c (ix3 b p k)) (Fin.ext (Nat.zero_add (q.val / 128 * 128 + l.val)).symm)

theorem expectedK_at (b : Fin 4) (p : Fin 4096) (q : Fin 512) :
    expectedK m c (ix3 b p q) = turnedAt m c 2048 512 (by omega) rfl b p q := by
  refine (joined_at _ b p q).trans ?_
  refine (keyTurned_at (keyHeads (projected m c)) (cosines m c) (sines m c) b p ⟨q.val / 128, by omega⟩ ⟨q.val % 128, by omega⟩).trans ?_
  unfold turnedAt
  refine congrArg (fun f => turn f (fun l => cosines m c (ix2 p l)) (fun l => sines m c (ix2 p l)) ⟨q.val % 128, by omega⟩) (funext fun l => ?_)
  exact keyHeads_at (projected m c) b p ⟨q.val / 128, by omega⟩ l

/-- All three are the reference's. -/
theorem meets6 : ((dats m 0 c).arrAt 6 cfg0.N : S4x4096x2048.Idx → EReal) = expectedQ m c :=
  funext fun i => by
    rw [eq_ix3 i]
    exact (result6 m c _ _ _).trans (expectedQ_at m c _ _ _).symm

theorem meets7 : ((dats m 0 c).arrAt 7 cfg0.N : S4x4096x512.Idx → EReal) = expectedK m c :=
  funext fun i => by
    rw [eq_ix3 i]
    exact (result7 m c _ _ _).trans (expectedK_at m c _ _ _).symm

theorem meets8 : ((dats m 0 c).arrAt 8 cfg0.N : S4x4096x512.Idx → EReal) = (copied (projected m c) : S4x4096x512.Idx → EReal) :=
  funext fun i => by
    rw [eq_ix3 i]
    exact (result8 m c _ _ _).trans (copied_at _ _ _ _).symm

end Cert.Rope
end
-- ==== Proof.Index7.lean ====
/- The indexer's queries and key: the second part of the rotary embedding in front of the second layer's attention. -/
module

public import proofs.«01_k».proof.Proof.Turn7

@[expose] public section

set_option maxRecDepth 16384
set_option Elab.async false

noncomputable section

namespace Cert.Rope

open Idealize.ShloMosaic Idealize.ShloMosaic.TcCoe Idealize.ShloMosaic.Tactic

/-- Entry `l` of a row of 64 numbers turned by the angles whose cosines and sines are given. -/
def spin (x : Fin 64 → EReal) (c s : Fin 32 → EReal) (l : Fin 64) : EReal :=
  if h : l.val < 32 then x l * c ⟨l.val, h⟩ - x ⟨32 + l.val, by omega⟩ * s ⟨l.val, h⟩
  else x ⟨32 + (l.val - 32), by omega⟩ * c ⟨l.val - 32, by omega⟩ + x ⟨l.val - 32, by omega⟩ * s ⟨l.val - 32, by omega⟩

section Reference
open Cert.Reference7Ideal Cert.Reference7Ideal.Gen

/-- The indexer's columns, cut into sixteen heads. -/
def indexHeads (x : FVec Ideal S4x4096x4096 .bf16) : FVec Ideal S4x4096x16x64 .f32 :=
  shapeCast S4x4096x16x64 (extractStridedSlice S4x4096x1024 ![0, 0, 3072] (extf .f32 x Facts₀.bitsLt_bf16_f32)
    Facts₀.slices_S4x4096x4096_S4x4096x1024_0_0_3072) Facts₀.shapeCasts_S4x4096x1024_S4x4096x16x64

def indexTable (c : FVec Ideal S4096x32 .f32) : FVec Ideal S4x4096x16x32 .f32 :=
  broadcastInDim S4x4096x16x32 ![0, 1, 2, 3] Facts₀.bcast_S1x4096x1x32_S4x4096x16x32_0_1_2_3 (broadcastInDim S1x4096x1x32 ![1, 3] Facts₀.bcast_S4096x32_S1x4096x1x32_1_3 c)

def indexTurned (y : FVec Ideal S4x4096x16x64 .f32) (c s : FVec Ideal S4096x32 .f32) : FVec Ideal S4x4096x16x64 .f32 :=
  concatenate S4x4096x16x64 3 [
    ⟨S4x4096x16x32, (subf (mulf (extractStridedSlice S4x4096x16x32 ![0, 0, 0, 0] y Facts₀.slices_S4x4096x16x64_S4x4096x16x32_0_0_0_0) (indexTable c))
      (mulf (extractStridedSlice S4x4096x16x32 ![0, 0, 0, 32] y Facts₀.slices_S4x4096x16x64_S4x4096x16x32_0_0_0_32) (indexTable s)) : FVec Ideal S4x4096x16x32 .f32)⟩,
    ⟨S4x4096x16x32, (addf (mulf (extractStridedSlice S4x4096x16x32 ![0, 0, 0, 32] y Facts₀.slices_S4x4096x16x64_S4x4096x16x32_0_0_0_32) (indexTable c))
      (mulf (extractStridedSlice S4x4096x16x32 ![0, 0, 0, 0] y Facts₀.slices_S4x4096x16x64_S4x4096x16x32_0_0_0_0) (indexTable s)) : FVec Ideal S4x4096x16x32 .f32)⟩]
    Facts₀.concatenates_S4x4096x16x32_S4x4096x16x32_S4x4096x16x64_d3

/-- Scaled, the heads in front, and zeros up to a width of 128. -/
def indexPadded (y : FVec Ideal S4x4096x16x64 .f32) : FVec Ideal S4x16x4096x128 .bf16 :=
  truncf .bf16 (concatenate S4x16x4096x128 3 [
    ⟨S4x16x4096x64, (transpose S4x16x4096x64 [0, 2, 1, 3] (mulf y (broadcastInDim S4x4096x16x64 ![] Facts₀.bcast_S_S4x4096x16x64 (constant S_ .f32 0x3E000000#32)))
      Facts₀.transposes_S4x4096x16x64_S4x16x4096x64_0_2_1_3 : FVec Ideal S4x16x4096x64 .f32)⟩,
    ⟨S4x16x4096x64, (broadcastInDim S4x16x4096x64 ![] Facts₀.bcast_S_S4x16x4096x64 (constant S_ .f32 0x00000000#32) : FVec Ideal S4x16x4096x64 .f32)⟩]
    Facts₀.concatenates_S4x16x4096x64_S4x16x4096x64_S4x16x4096x128_d3) Facts₀.bitsLt_bf16_f32

theorem indexHeads_at (x : FVec Ideal S4x4096x4096 .bf16) (b : Fin 4) (t : Fin 4096) (h : Fin 16) (l : Fin 64) :
    (indexHeads x : S4x4096x16x64.Idx → EReal) (ix4 b t h l) = x (ix3 b t ⟨3072 + (h.val * 64 + l.val), by omega⟩) := by
  unfold indexHeads; pointwise

theorem indexTurned_at (y : FVec Ideal S4x4096x16x64 .f32) (c s : FVec Ideal S4096x32 .f32) (b : Fin 4) (t : Fin 4096) (h : Fin 16) (l : Fin 64) :
    (indexTurned y c s : S4x4096x16x64.Idx → EReal) (ix4 b t h l) = spin (fun l => y (ix4 b t h l)) (fun l => c (ix2 t l)) (fun l => s (ix2 t l)) l := by
  unfold indexTurned indexTable spin; pointwise

theorem indexPadded_at (y : FVec Ideal S4x4096x16x64 .f32) (b : Fin 4) (h : Fin 16) (t : Fin 4096) (l : Fin 128) :
    (indexPadded y : S4x16x4096x128.Idx → EReal) (ix4 b h t l)
      = if hl : l.val < 64 then y (ix4 b t h ⟨l.val, hl⟩) * Ideal.ofBits .f32 0x3E000000#32 else 0 := by
  unfold indexPadded; pointwise

/-- The indexer's key: one head, from the second array. -/
def indexKey (x : FVec Ideal S4x4096x128 .f32) : FVec Ideal S4x4096x1x64 .f32 :=
  shapeCast S4x4096x1x64 (extractStridedSlice S4x4096x64 ![0, 0, 0] x Facts₀.slices_S4x4096x128_S4x4096x64_0_0_0) Facts₀.shapeCasts_S4x4096x64_S4x4096x1x64

def indexKeyTable (c : FVec Ideal S4096x32 .f32) : FVec Ideal S4x4096x1x32 .f32 :=
  broadcastInDim S4x4096x1x32 ![0, 1, 2, 3] Facts₀.bcast_S1x4096x1x32_S4x4096x1x32_0_1_2_3 (broadcastInDim S1x4096x1x32 ![1, 3] Facts₀.bcast_S4096x32_S1x4096x1x32_1_3 c)

def indexKeyTurned (y : FVec Ideal S4x4096x1x64 .f32) (c s : FVec Ideal S4096x32 .f32) : FVec Ideal S4x4096x1x64 .f32 :=
  concatenate S4x4096x1x64 3 [
    ⟨S4x4096x1x32, (subf (mulf (extractStridedSlice S4x4096x1x32 ![0, 0, 0, 0] y Facts₀.slices_S4x4096x1x64_S4x4096x1x32_0_0_0_0) (indexKeyTable c))
      (mulf (extractStridedSlice S4x4096x1x32 ![0, 0, 0, 32] y Facts₀.slices_S4x4096x1x64_S4x4096x1x32_0_0_0_32) (indexKeyTable s)) : FVec Ideal S4x4096x1x32 .f32)⟩,
    ⟨S4x4096x1x32, (addf (mulf (extractStridedSlice S4x4096x1x32 ![0, 0, 0, 32] y Facts₀.slices_S4x4096x1x64_S4x4096x1x32_0_0_0_32) (indexKeyTable c))
      (mulf (extractStridedSlice S4x4096x1x32 ![0, 0, 0, 0] y Facts₀.slices_S4x4096x1x64_S4x4096x1x32_0_0_0_0) (indexKeyTable s)) : FVec Ideal S4x4096x1x32 .f32)⟩]
    Facts₀.concatenates_S4x4096x1x32_S4x4096x1x32_S4x4096x1x64_d3

def indexKeyPadded (y : FVec Ideal S4x4096x1x64 .f32) : FVec Ideal S4x4096x128 .bf16 :=
  truncf .bf16 (concatenate S4x4096x128 2 [
    ⟨S4x4096x64, (shapeCast S4x4096x64 y Facts₀.shapeCasts_S4x4096x1x64_S4x4096x64 : FVec Ideal S4x4096x64 .f32)⟩,
    ⟨S4x4096x64, (broadcastInDim S4x4096x64 ![] Facts₀.bcast_S_S4x4096x64 (constant S_ .f32 0x00000000#32) : FVec Ideal S4x4096x64 .f32)⟩]
    Facts₀.concatenates_S4x4096x64_S4x4096x64_S4x4096x128_d2) Facts₀.bitsLt_bf16_f32

theorem indexKey_at (x : FVec Ideal S4x4096x128 .f32) (b : Fin 4) (t : Fin 4096) (l : Fin 64) :
    (indexKey x : S4x4096x1x64.Idx → EReal) (ix4 b t 0 l) = x (ix3 b t ⟨l.val, by omega⟩) := by
  unfold indexKey; pointwise

theorem indexKeyTurned_at (y : FVec Ideal S4x4096x1x64 .f32) (c s : FVec Ideal S4096x32 .f32) (b : Fin 4) (t : Fin 4096) (l : Fin 64) :
    (indexKeyTurned y c s : S4x4096x1x64.Idx → EReal) (ix4 b t 0 l) = spin (fun l => y (ix4 b t 0 l)) (fun l => c (ix2 t l)) (fun l => s (ix2 t l)) l := by
  unfold indexKeyTurned indexKeyTable spin; pointwise

theorem indexKeyPadded_at (y : FVec Ideal S4x4096x1x64 .f32) (b : Fin 4) (t : Fin 4096) (l : Fin 128) :
    (indexKeyPadded y : S4x4096x128.Idx → EReal) (ix3 b t l) = if hl : l.val < 64 then y (ix4 b t 0 ⟨l.val, hl⟩) else 0 := by
  unfold indexKeyPadded; pointwise

end Reference

section Kernel
open Cert.Kernel7Ideal Cert.Kernel7Ideal.Gen

/-- The entry half a head's width away, in the same one of the two heads that share 128 columns. -/
abbrev mate (p : Fin 128) : Fin 128 := ⟨p.val / 64 * 64 + (p.val % 64 + 32) % 64, by omega⟩

theorem select_one {α : Type} (a b : α) : Scalar.select 1#1 a b = a := rfl
theorem select_zero {α : Type} (a b : α) : Scalar.select 0#1 a b = b := rfl

/-- The lanes of the first head. -/
theorem low_at (r : Fin 256) (p : Fin 128) : (k0_pay37 : S256x128.Idx → BitVec 1) (ix2 r p) = if p.val < 64 then 1#1 else 0#1 := by
  unfold k0_pay37; pointwise
  revert p; decide +kernel

/-- The lanes of a head's first half. -/
theorem half_at (r : Fin 256) (p : Fin 128) : (k0_pay44 : S256x128.Idx → BitVec 1) (ix2 r p) = if p.val % 64 < 32 then 1#1 else 0#1 := by
  unfold k0_pay44; pointwise
  revert p; decide +kernel

/-- Of the two rotations' entries, the one the lane takes. -/
theorem partner (z : FVec Ideal S256x128 .f32) (r : Fin 256) (p : Fin 128) :
    Scalar.select ((k0_pay44 : S256x128.Idx → BitVec 1) (ix2 r p)) (z (ix2 r ⟨(p.val + 128 - 96) % 128, by omega⟩)) (z (ix2 r ⟨(p.val + 128 - 32) % 128, by omega⟩))
      = z (ix2 r (mate p)) := by
  have f : ∀ k k' : Fin 128, k.val = k'.val → z (ix2 r k) = z (ix2 r k') := fun k k' hk => by rw [Fin.ext hk]
  rw [half_at]
  by_cases h : p.val % 64 < 32
  · rw [if_pos h]; exact (select_one _ _).trans (f _ _ (by show (p.val + 128 - 96) % 128 = p.val / 64 * 64 + (p.val % 64 + 32) % 64; omega))
  · rw [if_neg h]; exact (select_zero _ _).trans (f _ _ (by show (p.val + 128 - 32) % 128 = p.val / 64 * 64 + (p.val % 64 + 32) % 64; omega))

theorem spun_at (c s z : FVec Ideal S256x128 .f32) (r : Fin 256) (p : Fin 128) :
    (k0_pay45 c s z k0_pay44 96#32 : S256x128.Idx → EReal) (ix2 r p)
      = (z (ix2 r p) * c (ix2 r p) + z (ix2 r (mate p)) * s (ix2 r p)) * Ideal.ofBits .f32 0x3E000000#32 := by
  rw [← partner z r p]; unfold k0_pay45; pointwise

theorem even_at (c s z : FVec Ideal S256x128 .f32) (r : Fin 256) (p : Fin 128) :
    (k0_pay46 c s k0_pay37 z k0_pay44 96#32 : S1x1x256x128.Idx → EReal) (ix4 0 0 r p)
      = if p.val < 64 then (k0_pay45 c s z k0_pay44 96#32 : S256x128.Idx → EReal) (ix2 r p) else 0 := by
  unfold k0_pay46; pointwise
  rw [low_at]
  by_cases h : p.val < 64
  · rw [if_pos h, if_pos h, select_one]
  · rw [if_neg h, if_neg h, select_zero]

theorem odd_at (c s z : FVec Ideal S256x128 .f32) (r : Fin 256) (p : Fin 128) :
    (k0_pay47 c s k0_pay37 z k0_pay44 96#32 : S1x1x256x128.Idx → EReal) (ix4 0 0 r p)
      = if p.val < 64 then (k0_pay45 c s z k0_pay44 96#32 : S256x128.Idx → EReal) (ix2 r (across p)) else 0 := by
  unfold k0_pay47 across; pointwise
  rw [low_at]
  by_cases h : p.val < 64
  · rw [if_pos h, if_pos h, select_one]
  · rw [if_neg h, if_neg h, select_zero]

theorem wide_at (y : Vec Ideal S1x256x128 .bf16) (r : Fin 256) (p : Fin 128) : (k0_pay43 y : S256x128.Idx → EReal) (ix2 r p) = y (ix3 0 r p) := by
  unfold k0_pay43; pointwise

theorem key_lane (r : Fin 256) (p : Fin 128) : IntOp.cmpi .slt ((k0_pay81 : S256x128.Idx → BitVec 32) (ix2 r p)) ((k0_pay82 : S256x128.Idx → BitVec 32) (ix2 r p))
    = (k0_pay44 : S256x128.Idx → BitVec 1) (ix2 r p) := rfl

theorem tail_at (c s : FVec Ideal S256x128 .f32) (y : Vec Ideal S1x256x128 .f32) (r : Fin 256) (p : Fin 128) :
    (k0_pay1 c s k0_pay37 (k0_pay80 y) k0_pay81 k0_pay82 : S1x256x128.Idx → EReal) (ix3 0 r p)
      = if p.val < 64 then y (ix3 0 r p) * c (ix2 r p) + y (ix3 0 r (mate p)) * s (ix2 r p) else 0 := by
  have w : ∀ p : Fin 128, (k0_pay80 y : S256x128.Idx → EReal) (ix2 r p) = y (ix3 0 r p) := fun p => by unfold k0_pay80; pointwise
  rw [← w, ← w, ← partner (k0_pay80 y) r p]
  unfold k0_pay1; pointwise
  rw [low_at, key_lane]
  by_cases h : p.val < 64
  · rw [if_pos h, if_pos h, select_one]
  · rw [if_neg h, if_neg h, select_zero]

/-- Entry `l` of a head of 64: itself and its partner, each times its table's entry. -/
def blend (y c s : Fin 64 → EReal) (l : Fin 64) : EReal := y l * c l + y ⟨(l.val + 32) % 64, by omega⟩ * s l

/-- The two tiles a point writes for the indexer. -/
def indexQueries (x : Vec Ideal S1x256x4096 .bf16) (c s : Vec Ideal S256x128 .f32) (h : Fin 16) (r : Fin 256) (p : Fin 128) : EReal :=
  if hp : p.val < 64 then blend (fun l => x (ix3 0 r ⟨3072 + (h.val * 64 + l.val), by omega⟩)) (fun l => c (ix2 r ⟨h.val % 2 * 64 + l.val, by omega⟩))
    (fun l => s (ix2 r ⟨h.val % 2 * 64 + l.val, by omega⟩)) ⟨p.val, hp⟩ * Ideal.ofBits .f32 0x3E000000#32 else 0

def indexQueriesTile (x : Vec Ideal S1x256x4096 .bf16) (c s : Vec Ideal S256x128 .f32) : S1x16x256x128.Idx → EReal := fun i => indexQueries x c s (i 1) (i 2) (i 3)

def indexKeyTile (y : Vec Ideal S1x256x128 .f32) (c s : Vec Ideal S256x128 .f32) (r : Fin 256) (p : Fin 128) : EReal :=
  if hp : p.val < 64 then blend (fun l => y (ix3 0 r ⟨l.val, by omega⟩)) (fun l => c (ix2 r ⟨l.val, by omega⟩)) (fun l => s (ix2 r ⟨l.val, by omega⟩)) ⟨p.val, hp⟩ else 0

theorem store4_at (h : Nat) (hh : h < 16) (inb : ∀ a, (![0, h, 0, 0] : Fin 4 → Nat) a + S1x1x256x128.size a ≤ S1x16x256x128.size a) (r : Fin 256) (l : Fin 128) :
    (Rect.unit ![0, h, 0, 0] S1x1x256x128.size inb : Rect S1x16x256x128).emb (ix4 0 0 r l : S1x1x256x128.Idx) = (ix4 0 ⟨h, hh⟩ r l : S1x16x256x128.Idx) :=
  funext fun a : Fin 4 => Fin.ext (by
    match a with
    | 0 => rfl
    | 1 => show h + 1 * 0 = h; omega
    | 2 => show 0 + 1 * r.val = r.val; omega
    | 3 => show 0 + 1 * l.val = l.val; omega)

theorem tile4_index (i : S1x1x256x128.Idx) : i = (ix4 0 0 (i 2) (i 3) : S1x1x256x128.Idx) :=
  funext fun a : Fin 4 => by
    match a with
    | 0 => exact Fin.ext (by have : (i 0).val < 1 := (i 0).isLt; show (i 0).val = 0; omega)
    | 1 => exact Fin.ext (by have : (i 1).val < 1 := (i 1).isLt; show (i 1).val = 0; omega)
    | 2 => rfl
    | 3 => rfl

/-- Lane `q` of the pair of heads in the 128 columns from `o`, as the entry `l` of head `h`. -/
theorem spun_head (h o : Nat) (hh : h < 16) (inb : ∀ a, (![0, 0, o] : Fin 3 → Nat) a + S1x256x128.size a ≤ S1x256x4096.size a)
    (x : Vec Ideal S1x256x4096 .bf16) (c s : Vec Ideal S256x128 .f32) (r : Fin 256) (p q : Fin 128) (hp : p.val < 64) (hq : q.val = h % 2 * 64 + p.val) (ho : o + h % 2 * 64 = 3072 + h * 64) :
    (k0_pay45 c s (k0_pay43 (View.ld x (Rect.unit ![0, 0, o] S1x256x128.size inb))) k0_pay44 96#32 : S256x128.Idx → EReal) (ix2 r q)
      = indexQueries x c s ⟨h, hh⟩ r p := by
  have f : ∀ k k' : Fin 4096, k.val = k'.val → x (ix3 0 r k) = x (ix3 0 r k') := fun k k' hk => by rw [Fin.ext hk]
  have g : ∀ (z : Vec Ideal S256x128 .f32) (k k' : Fin 128), k.val = k'.val → z (ix2 r k) = z (ix2 r k') := fun z k k' hk => by rw [Fin.ext hk]
  rw [spun_at, wide_at, wide_at, load_at x o inb r q (by omega), load_at x o inb r (mate q) (by have : (mate q).val = q.val / 64 * 64 + (q.val % 64 + 32) % 64 := rfl; omega)]
  unfold indexQueries blend
  rw [dif_pos hp]
  refine congrArg (· * Ideal.ofBits .f32 0x3E000000#32) (congrArg₂ (· + ·) (congrArg₂ (· * ·) (f _ _ ?_) (g c _ _ hq)) (congrArg₂ (· * ·) (f _ _ ?_) (g s _ _ hq)))
  · show o + q.val = 3072 + (h * 64 + p.val); omega
  · show o + (q.val / 64 * 64 + (q.val % 64 + 32) % 64) = 3072 + (h * 64 + (p.val + 32) % 64); omega

theorem past (x : Vec Ideal S1x256x4096 .bf16) (c s : Vec Ideal S256x128 .f32) (h : Fin 16) (r : Fin 256) (p : Fin 128) (hp : ¬p.val < 64) : indexQueries x c s h r p = 0 := by
  unfold indexQueries; rw [dif_neg hp]

theorem even_piece (h o : Nat) (hh : h < 16) (h2 : h % 2 = 0) (ho : o = 3072 + h * 64) (inb : ∀ a, (![0, 0, o] : Fin 3 → Nat) a + S1x256x128.size a ≤ S1x256x4096.size a)
    (inb' : ∀ a, (![0, h, 0, 0] : Fin 4 → Nat) a + S1x1x256x128.size a ≤ S1x16x256x128.size a) (x : Vec Ideal S1x256x4096 .bf16) (c s : Vec Ideal S256x128 .f32) (i : S1x1x256x128.Idx) :
    (k0_pay46 c s k0_pay37 (k0_pay43 (View.ld x (Rect.unit ![0, 0, o] S1x256x128.size inb))) k0_pay44 96#32 : S1x1x256x128.Idx → EReal) i
      = indexQueriesTile x c s ((Rect.unit ![0, h, 0, 0] S1x1x256x128.size inb' : Rect S1x16x256x128).emb i) := by
  generalize hr : i 2 = r
  generalize hl : i 3 = p
  have e := tile4_index i
  rw [hr, hl] at e
  rw [e]
  change Fin 256 at r
  change Fin 128 at p
  refine (even_at c s _ r p).trans ?_
  refine Eq.trans ?_ (congrArg (indexQueriesTile x c s) (store4_at h hh inb' r p)).symm
  show _ = indexQueries x c s ⟨h, hh⟩ r p
  by_cases hp : p.val < 64
  · rw [if_pos hp]; exact spun_head h o hh inb x c s r p p hp (by omega) (by omega)
  · rw [if_neg hp, past x c s _ r p hp]

theorem odd_piece (h o : Nat) (hh : h < 16) (h2 : h % 2 = 1) (ho : o + 64 = 3072 + h * 64) (inb : ∀ a, (![0, 0, o] : Fin 3 → Nat) a + S1x256x128.size a ≤ S1x256x4096.size a)
    (inb' : ∀ a, (![0, h, 0, 0] : Fin 4 → Nat) a + S1x1x256x128.size a ≤ S1x16x256x128.size a) (x : Vec Ideal S1x256x4096 .bf16) (c s : Vec Ideal S256x128 .f32) (i : S1x1x256x128.Idx) :
    (k0_pay47 c s k0_pay37 (k0_pay43 (View.ld x (Rect.unit ![0, 0, o] S1x256x128.size inb))) k0_pay44 96#32 : S1x1x256x128.Idx → EReal) i
      = indexQueriesTile x c s ((Rect.unit ![0, h, 0, 0] S1x1x256x128.size inb' : Rect S1x16x256x128).emb i) := by
  generalize hr : i 2 = r
  generalize hl : i 3 = p
  have e := tile4_index i
  rw [hr, hl] at e
  rw [e]
  change Fin 256 at r
  change Fin 128 at p
  refine (odd_at c s _ r p).trans ?_
  refine Eq.trans ?_ (congrArg (indexQueriesTile x c s) (store4_at h hh inb' r p)).symm
  show _ = indexQueries x c s ⟨h, hh⟩ r p
  by_cases hp : p.val < 64
  · rw [if_pos hp]
    exact spun_head h o hh inb x c s r p (across p) hp (by show (p.val + 128 - 64) % 128 = h % 2 * 64 + p.val; omega) (by omega)
  · rw [if_neg hp, past x c s _ r p hp]

theorem tile9 (x : Vec Ideal S1x256x4096 .bf16) (y : Vec Ideal S1x256x128 .f32) (u v c s : Vec Ideal S256x128 .f32) (i : S1x16x256x128.Idx) :
    (out0_9 x y u v c s : S1x16x256x128.Idx → EReal) i = indexQueriesTile x c s i := by
  have e : ∀ (h o : Nat) (hh : h < 16) (h2 : h % 2 = 0) (ho : o = 3072 + h * 64) (inb : ∀ a, (![0, 0, o] : Fin 3 → Nat) a + S1x256x128.size a ≤ S1x256x4096.size a)
      (inb' : ∀ a, (![0, h, 0, 0] : Fin 4 → Nat) a + S1x1x256x128.size a ≤ S1x16x256x128.size a) (i : S1x1x256x128.Idx),
      (k0_pay46 (k0_pay2 (View.ld c r0_0)) (k0_pay2 (View.ld s r0_0)) k0_pay37 (k0_pay43 (View.ld x (Rect.unit ![0, 0, o] S1x256x128.size inb))) k0_pay44 96#32 : S1x1x256x128.Idx → EReal) i
        = indexQueriesTile x c s ((Rect.unit ![0, h, 0, 0] S1x1x256x128.size inb' : Rect S1x16x256x128).emb i) := fun h o hh h2 ho inb inb' i => by
    rw [table_load, table_load]; exact even_piece h o hh h2 ho inb inb' x c s i
  have d : ∀ (h o : Nat) (hh : h < 16) (h2 : h % 2 = 1) (ho : o + 64 = 3072 + h * 64) (inb : ∀ a, (![0, 0, o] : Fin 3 → Nat) a + S1x256x128.size a ≤ S1x256x4096.size a)
      (inb' : ∀ a, (![0, h, 0, 0] : Fin 4 → Nat) a + S1x1x256x128.size a ≤ S1x16x256x128.size a) (i : S1x1x256x128.Idx),
      (k0_pay47 (k0_pay2 (View.ld c r0_0)) (k0_pay2 (View.ld s r0_0)) k0_pay37 (k0_pay43 (View.ld x (Rect.unit ![0, 0, o] S1x256x128.size inb))) k0_pay44 96#32 : S1x1x256x128.Idx → EReal) i
        = indexQueriesTile x c s ((Rect.unit ![0, h, 0, 0] S1x1x256x128.size inb' : Rect S1x16x256x128).emb i) := fun h o hh h2 ho inb inb' i => by
    rw [table_load, table_load]; exact odd_piece h o hh h2 ho inb inb' x c s i
  refine View.canon_apply_of_pieces (Val := Elt Ideal) (S := S1x16x256x128) (e := .bf16) (indexQueriesTile x c s) _ ?_ i (cover0_9 _ _ _ _ _ _ _ _ _ _ _ _ _ _ _ _ i)
  simp only [List.forall_mem_cons]
  exact ⟨d 15 3968 (by omega) rfl rfl _ _, e 14 3968 (by omega) rfl rfl _ _, d 13 3840 (by omega) rfl rfl _ _, e 12 3840 (by omega) rfl rfl _ _,
    d 11 3712 (by omega) rfl rfl _ _, e 10 3712 (by omega) rfl rfl _ _, d 9 3584 (by omega) rfl rfl _ _, e 8 3584 (by omega) rfl rfl _ _,
    d 7 3456 (by omega) rfl rfl _ _, e 6 3456 (by omega) rfl rfl _ _, d 5 3328 (by omega) rfl rfl _ _, e 4 3328 (by omega) rfl rfl _ _,
    d 3 3200 (by omega) rfl rfl _ _, e 2 3200 (by omega) rfl rfl _ _, d 1 3072 (by omega) rfl rfl _ _, e 0 3072 (by omega) rfl rfl _ _,
    fun _ hq => absurd hq (List.not_mem_nil)⟩

theorem origin : (![0, 0, 0] : Fin 3 → Nat) = fun _ => 0 := funext fun a => by fin_cases a <;> rfl

theorem tile10 (x : Vec Ideal S1x256x4096 .bf16) (y : Vec Ideal S1x256x128 .f32) (u v c s : Vec Ideal S256x128 .f32) (r : Fin 256) (p : Fin 128) :
    (out0_10 x y u v c s : S1x256x128.Idx → EReal) (ix3 0 r p) = indexKeyTile y c s r p := by
  have w : (out0_10 x y u v c s : S1x256x128.Idx → EReal) = k0_pay1 (k0_pay2 (View.ld c r0_0)) (k0_pay2 (View.ld s r0_0)) k0_pay37 (k0_pay80 (View.ld y r0_69)) k0_pay81 k0_pay82 :=
    View.canon_unit_zero (S := S1x256x128) origin _ _
  rw [w, table_load, table_load, View.ld_unit_zero (S := S1x256x128) origin]
  refine (tail_at c s y r p).trans ?_
  unfold indexKeyTile
  by_cases hp : p.val < 64
  · rw [if_pos hp, dif_pos hp]
    unfold blend
    have m : mate p = ⟨(p.val + 32) % 64, by omega⟩ := Fin.ext (by show p.val / 64 * 64 + (p.val % 64 + 32) % 64 = (p.val + 32) % 64; omega)
    rw [m]
  · rw [if_neg hp, dif_neg hp]

end Kernel

section Region
open Cert.Kernel7Ideal Cert.Kernel7Ideal.Gen

variable (m : (ℓ : Loc nD τ sig) → Buf (Elt Ideal) ℓ) (c : Dev nD)

/-- The arrays as the program was given them. -/
abbrev second : S4x4096x128.Idx → EReal := m ((c : Thread nD τ).loc main_arg1)
abbrev indexCosines : S4096x32.Idx → EReal := m ((c : Thread nD τ).loc main_arg4)
abbrev indexSines : S4096x32.Idx → EReal := m ((c : Thread nD τ).loc main_arg5)

/-- The two tables the region finds, each four times as wide as given. -/
theorem index_cos_table : (V m c main_v3 : FVec Ideal S4096x128 .f32)
    = concatenate S4096x128 1 [⟨S4096x32, (indexCosines m c : FVec Ideal S4096x32 .f32)⟩, ⟨S4096x32, (indexCosines m c : FVec Ideal S4096x32 .f32)⟩,
        ⟨S4096x32, (indexCosines m c : FVec Ideal S4096x32 .f32)⟩, ⟨S4096x32, (indexCosines m c : FVec Ideal S4096x32 .f32)⟩]
        Facts₀.concatenates_S4096x32_S4096x32_S4096x32_S4096x32_S4096x128_d1 := by
  show StableHlo.after hostOps0 (fun b => m (c, b)) main_v3 = _
  simp only [StableHlo.after_cons, StableHlo.after_nil]
  rw [StableHlo.nary_result_ne, StableHlo.unary_result_ne, StableHlo.unary_result_ne, StableHlo.nary4_result]
  rotate_left
  · decide
  · decide
  · decide
  repeat (first
    | rw [StableHlo.unary_result]
    | (rw [StableHlo.unary_result_ne]; rotate_left; decide)
    | (rw [StableHlo.binary_result_ne]; rotate_left; decide)
    | (rw [StableHlo.nary_result_ne]; rotate_left; decide))
  rfl

theorem index_sin_table : (V m c main_v6 : FVec Ideal S4096x128 .f32)
    = concatenate S4096x128 1 [⟨S4096x32, (Host.negf (indexSines m c : FVec Ideal S4096x32 .f32) : FVec Ideal S4096x32 .f32)⟩, ⟨S4096x32, (indexSines m c : FVec Ideal S4096x32 .f32)⟩,
        ⟨S4096x32, (Host.negf (indexSines m c : FVec Ideal S4096x32 .f32) : FVec Ideal S4096x32 .f32)⟩, ⟨S4096x32, (indexSines m c : FVec Ideal S4096x32 .f32)⟩]
        Facts₀.concatenates_S4096x32_S4096x32_S4096x32_S4096x32_S4096x128_d1 := by
  show StableHlo.after hostOps0 (fun b => m (c, b)) main_v6 = _
  simp only [StableHlo.after_cons, StableHlo.after_nil]
  rw [StableHlo.nary4_result]
  repeat (first
    | rw [StableHlo.unary_result]
    | (rw [StableHlo.unary_result_ne]; rotate_left; decide)
    | (rw [StableHlo.binary_result_ne]; rotate_left; decide)
    | (rw [StableHlo.nary_result_ne]; rotate_left; decide))
  rfl

theorem index_cos_at (p : Fin 4096) (l : Fin 128) : (V m c main_v3 : S4096x128.Idx → EReal) (ix2 p l) = indexCosines m c (ix2 p ⟨l.val % 32, by omega⟩) := by
  rw [index_cos_table]; pointwise
  have f : ∀ k k' : Fin 32, k.val = k'.val → indexCosines m c (ix2 p k) = indexCosines m c (ix2 p k') := fun k k' hk => by rw [Fin.ext hk]
  split_ifs <;> refine f _ _ ?_ <;> simp only <;> omega

theorem index_sin_at (p : Fin 4096) (l : Fin 128) : (V m c main_v6 : S4096x128.Idx → EReal) (ix2 p l)
    = if l.val % 64 < 32 then -indexSines m c (ix2 p ⟨l.val % 32, by omega⟩) else indexSines m c (ix2 p ⟨l.val % 32, by omega⟩) := by
  rw [index_sin_table]; pointwise
  have f : ∀ k k' : Fin 32, k.val = k'.val → indexSines m c (ix2 p k) = indexSines m c (ix2 p k') := fun k k' hk => by rw [Fin.ext hk]
  by_cases h : l.val % 64 < 32
  · rw [if_pos h]
    split_ifs <;> first | (exfalso; omega) | (refine congrArg (fun z : EReal => -z) (f _ _ ?_); simp only; omega)
  · rw [if_neg h]
    split_ifs <;> first | (exfalso; omega) | (refine f _ _ ?_; simp only; omega)

/-- A point's blocks: its rows of the second array, and the same rows of the tables. -/
theorem second_block (t : Fin cfg0.N) (r : Fin 256) (k : Fin 128) :
    (iblk m c 1 t : S1x256x128.Idx → EReal) (ix3 0 r k)
      = second m c (ix3 ⟨t.val / 16, by have := below t; omega⟩ ⟨256 * (t.val % 16) + r.val, by omega⟩ k) := by
  have e : ((cfg0.win 1).blk t).view.emb (ix3 0 r k : S1x256x128.Idx)
      = (ix3 ⟨t.val / 16, by have := below t; omega⟩ ⟨256 * (t.val % 16) + r.val, by omega⟩ k : S4x4096x128.Idx) := by
    refine funext fun b : Fin 3 => Fin.ext ?_
    refine Eq.trans (b := (cc0_transform_0 (grid0.coords t)) b * S1x256x128.size b + 1 * ((ix3 0 r k : S1x256x128.Idx) b).val) rfl ?_
    rw [at0]
    match b with
    | 0 => show t.val / 16 * 1 + 1 * 0 = t.val / 16; omega
    | 1 => show t.val % 16 * 256 + 1 * r.val = 256 * (t.val % 16) + r.val; omega
    | 2 => show 0 * 128 + 1 * k.val = k.val; omega
  refine Eq.trans (b := (V m c main_arg1 : S4x4096x128.Idx → EReal) (((cfg0.win 1).blk t).view.emb (ix3 0 r k : S1x256x128.Idx))) rfl ?_
  rw [e]; exact congrFun (V_main_arg1 m c) _

theorem index_cos_block (t : Fin cfg0.N) (r : Fin 256) (l : Fin 128) :
    (iblk m c 4 t : S256x128.Idx → EReal) (ix2 r l) = indexCosines m c (ix2 ⟨256 * (t.val % 16) + r.val, by omega⟩ ⟨l.val % 32, by omega⟩) := by
  have e : ((cfg0.win 4).blk t).view.emb (ix2 r l : S256x128.Idx) = (ix2 ⟨256 * (t.val % 16) + r.val, by omega⟩ l : S4096x128.Idx) := by
    refine funext fun b : Fin 2 => Fin.ext ?_
    refine Eq.trans (b := (cc0_transform_2 (grid0.coords t)) b * S256x128.size b + 1 * ((ix2 r l : S256x128.Idx) b).val) rfl ?_
    rw [at2]
    match b with
    | 0 => show t.val % 16 * 256 + 1 * r.val = 256 * (t.val % 16) + r.val; omega
    | 1 => show 0 * 128 + 1 * l.val = l.val; omega
  exact (congrArg (V m c main_v3 : S4096x128.Idx → EReal) e).trans (index_cos_at m c _ l)

theorem index_sin_block (t : Fin cfg0.N) (r : Fin 256) (l : Fin 128) :
    (iblk m c 5 t : S256x128.Idx → EReal) (ix2 r l)
      = if l.val % 64 < 32 then -indexSines m c (ix2 ⟨256 * (t.val % 16) + r.val, by omega⟩ ⟨l.val % 32, by omega⟩)
        else indexSines m c (ix2 ⟨256 * (t.val % 16) + r.val, by omega⟩ ⟨l.val % 32, by omega⟩) := by
  have e : ((cfg0.win 5).blk t).view.emb (ix2 r l : S256x128.Idx) = (ix2 ⟨256 * (t.val % 16) + r.val, by omega⟩ l : S4096x128.Idx) := by
    refine funext fun b : Fin 2 => Fin.ext ?_
    refine Eq.trans (b := (cc0_transform_2 (grid0.coords t)) b * S256x128.size b + 1 * ((ix2 r l : S256x128.Idx) b).val) rfl ?_
    rw [at2]
    match b with
    | 0 => show t.val % 16 * 256 + 1 * r.val = 256 * (t.val % 16) + r.val; omega
    | 1 => show 0 * 128 + 1 * l.val = l.val; omega
  exact (congrArg (V m c main_v6 : S4096x128.Idx → EReal) e).trans (index_sin_at m c _ l)

/-- The blend with those tables is the turn. -/
theorem spin_blend (y c' s' : Fin 64 → EReal) (a b : Fin 32 → EReal) (hc : ∀ l, c' l = a ⟨l.val % 32, by omega⟩)
    (hs : ∀ l, s' l = if l.val < 32 then -b ⟨l.val % 32, by omega⟩ else b ⟨l.val % 32, by omega⟩) (l : Fin 64) : blend y c' s' l = spin y a b l := by
  unfold blend spin
  rw [hc, hs]
  by_cases h : l.val < 32
  · have e : (⟨l.val % 32, by omega⟩ : Fin 32) = ⟨l.val, h⟩ := Fin.ext (by show l.val % 32 = l.val; omega)
    have f : (⟨(l.val + 32) % 64, by omega⟩ : Fin 64) = ⟨32 + l.val, by omega⟩ := Fin.ext (by show (l.val + 32) % 64 = 32 + l.val; omega)
    rw [if_pos h, dif_pos h, e, f, mul_neg, ← sub_eq_add_neg]
  · have e : (⟨l.val % 32, by omega⟩ : Fin 32) = ⟨l.val - 32, by omega⟩ := Fin.ext (by show l.val % 32 = l.val - 32; omega)
    have f : (⟨(l.val + 32) % 64, by omega⟩ : Fin 64) = ⟨l.val - 32, by omega⟩ := Fin.ext (by show (l.val + 32) % 64 = l.val - 32; omega)
    have g : (⟨32 + (l.val - 32), by omega⟩ : Fin 64) = l := Fin.ext (by show 32 + (l.val - 32) = l.val; omega)
    rw [if_neg h, dif_neg h, e, f, g]

/-- Lane `l` of head `h` of the indexer's queries, and of its key, in row `p` of batch `b`. -/
def indexQueryAt (b : Fin 4) (h : Fin 16) (p : Fin 4096) (l : Fin 128) : EReal :=
  if hl : l.val < 64 then spin (fun l => projected m c (ix3 b p ⟨3072 + (h.val * 64 + l.val), by omega⟩)) (fun l => indexCosines m c (ix2 p l)) (fun l => indexSines m c (ix2 p l)) ⟨l.val, hl⟩
    * Ideal.ofBits .f32 0x3E000000#32 else 0

def indexKeyAt (b : Fin 4) (p : Fin 4096) (l : Fin 128) : EReal :=
  if hl : l.val < 64 then spin (fun l => second m c (ix3 b p ⟨l.val, by omega⟩)) (fun l => indexCosines m c (ix2 p l)) (fun l => indexSines m c (ix2 p l)) ⟨l.val, hl⟩ else 0

theorem index_queries_block (t : Fin cfg0.N) (h : Fin 16) (r : Fin 256) (l : Fin 128) :
    indexQueries (iblk m c 0 t) (iblk m c 4 t) (iblk m c 5 t) h r l
      = indexQueryAt m c ⟨t.val / 16, by have := below t; omega⟩ h ⟨256 * (t.val % 16) + r.val, by omega⟩ l := by
  have f : ∀ k k' : Fin 32, k.val = k'.val → k = k' := fun k k' hk => Fin.ext hk
  unfold indexQueries indexQueryAt
  by_cases hl : l.val < 64
  · rw [dif_pos hl, dif_pos hl]
    refine congrArg (· * Ideal.ofBits .f32 0x3E000000#32) ?_
    refine Eq.trans (spin_blend _ _ _ (fun l => indexCosines m c (ix2 ⟨256 * (t.val % 16) + r.val, by omega⟩ l)) (fun l => indexSines m c (ix2 ⟨256 * (t.val % 16) + r.val, by omega⟩ l)) ?_ ?_ _) ?_
    · intro k
      rw [index_cos_block]
      exact congrArg (fun k => indexCosines m c (ix2 ⟨256 * (t.val % 16) + r.val, by omega⟩ k)) (f _ _ (by show (h.val % 2 * 64 + k.val) % 32 = k.val % 32; omega))
    · intro k
      rw [index_sin_block, f ⟨(h.val % 2 * 64 + k.val) % 32, by omega⟩ ⟨k.val % 32, by omega⟩ (by show (h.val % 2 * 64 + k.val) % 32 = k.val % 32; omega)]
      exact if_congr (by show (h.val % 2 * 64 + k.val) % 64 < 32 ↔ k.val < 32; omega) rfl rfl
    · exact congrArg (fun y => spin y (fun l => indexCosines m c (ix2 ⟨256 * (t.val % 16) + r.val, by omega⟩ l)) (fun l => indexSines m c (ix2 ⟨256 * (t.val % 16) + r.val, by omega⟩ l)) ⟨l.val, hl⟩)
        (funext fun k => rows_block m c t r ⟨3072 + (h.val * 64 + k.val), by omega⟩)
  · rw [dif_neg hl, dif_neg hl]

theorem index_key_block (t : Fin cfg0.N) (r : Fin 256) (l : Fin 128) :
    indexKeyTile (iblk m c 1 t) (iblk m c 4 t) (iblk m c 5 t) r l
      = indexKeyAt m c ⟨t.val / 16, by have := below t; omega⟩ ⟨256 * (t.val % 16) + r.val, by omega⟩ l := by
  unfold indexKeyTile indexKeyAt
  by_cases hl : l.val < 64
  · rw [dif_pos hl, dif_pos hl]
    refine Eq.trans (spin_blend _ _ _ (fun l => indexCosines m c (ix2 ⟨256 * (t.val % 16) + r.val, by omega⟩ l)) (fun l => indexSines m c (ix2 ⟨256 * (t.val % 16) + r.val, by omega⟩ l)) ?_ ?_ _) ?_
    · intro k
      exact index_cos_block m c t r ⟨k.val, by omega⟩
    · intro k
      rw [index_sin_block]
      exact if_congr (by show k.val % 64 < 32 ↔ k.val < 32; omega) rfl rfl
    · exact congrArg (fun y => spin y (fun l => indexCosines m c (ix2 ⟨256 * (t.val % 16) + r.val, by omega⟩ l)) (fun l => indexSines m c (ix2 ⟨256 * (t.val % 16) + r.val, by omega⟩ l)) ⟨l.val, hl⟩)
        (funext fun k => second_block m c t r ⟨k.val, by omega⟩)
  · rw [dif_neg hl, dif_neg hl]

theorem at9 : ∀ t : Fin grid0.N, cc0_transform_9 (grid0.coords t) = ![t.val / 16, 0, t.val % 16, 0] := by decide +kernel

/-- Both tiles are written back whole. -/
theorem cut9 (t : Fin cfg0.N) (z : S1x16x256x128.Idx → EReal) (y : S1x16x256x128.Idx) : ((cfg0.win 9).cut (grid0.coords t) z : S1x16x256x128.Idx → EReal) y = z y := rfl
theorem cut10 (t : Fin cfg0.N) (z : S1x256x128.Idx → EReal) (y : S1x256x128.Idx) : ((cfg0.win 10).cut (grid0.coords t) z : S1x256x128.Idx → EReal) y = z y := rfl

/-- The indexer's queries and key the region leaves. -/
theorem result9 (b : Fin 4) (h : Fin 16) (p : Fin 4096) (l : Fin 128) : ((dats m 0 c).arrAt 9 cfg0.N : S4x16x4096x128.Idx → EReal) (ix4 b h p l) = indexQueryAt m c b h p l := by
  have e : ((cfg0.win 9).blk ⟨_, holds b p⟩).view.emb (ix4 0 h ⟨p.val % 256, by omega⟩ l : S1x16x256x128.Idx) = (ix4 b h p l : S4x16x4096x128.Idx) := by
    refine funext fun a : Fin 4 => Fin.ext ?_
    refine Eq.trans (b := (cc0_transform_9 (grid0.coords ⟨_, holds b p⟩)) a * S1x16x256x128.size a + 1 * ((ix4 0 h ⟨p.val % 256, by omega⟩ l : S1x16x256x128.Idx) a).val) rfl ?_
    rw [at9]
    match a with
    | 0 => show (16 * b.val + p.val / 256) / 16 * 1 + 1 * 0 = b.val; omega
    | 1 => show 0 * 16 + 1 * h.val = h.val; omega
    | 2 => show (16 * b.val + p.val / 256) % 16 * 256 + 1 * (p.val % 256) = p.val; omega
    | 3 => show 0 * 128 + 1 * l.val = l.val; omega
  rw [← e]
  refine ((dats m 0 c).arrAt_emb_eq_flushed 9 Cert.Kernel7Ideal.Value.disjoint9 ⟨_, holds b p⟩ (flush0_9 _) (ix4 0 h ⟨p.val % 256, by omega⟩ l : S1x16x256x128.Idx)).trans ?_
  rw [Cert.Kernel7Ideal.Value.flushed9]
  rw [show out0_9 (F := Ideal) (iblk m c 0 ⟨_, holds b p⟩) (iblk m c 1 ⟨_, holds b p⟩) (iblk m c 2 ⟨_, holds b p⟩) (iblk m c 3 ⟨_, holds b p⟩) (iblk m c 4 ⟨_, holds b p⟩) (iblk m c 5 ⟨_, holds b p⟩) = indexQueriesTile (iblk m c 0 ⟨_, holds b p⟩) (iblk m c 4 ⟨_, holds b p⟩) (iblk m c 5 ⟨_, holds b p⟩) from funext fun i => tile9 _ _ _ _ _ _ i]
  refine (cut9 _ (indexQueriesTile (iblk m c 0 ⟨_, holds b p⟩) (iblk m c 4 ⟨_, holds b p⟩) (iblk m c 5 ⟨_, holds b p⟩)) (ix4 0 h ⟨p.val % 256, by omega⟩ l)).trans ?_
  refine (index_queries_block m c ⟨_, holds b p⟩ h ⟨p.val % 256, by omega⟩ l).trans ?_
  rw [batch_eq, row_eq]

theorem result10 (b : Fin 4) (p : Fin 4096) (l : Fin 128) : ((dats m 0 c).arrAt 10 cfg0.N : S4x4096x128.Idx → EReal) (ix3 b p l) = indexKeyAt m c b p l := by
  have e : ((cfg0.win 10).blk ⟨_, holds b p⟩).view.emb (ix3 0 ⟨p.val % 256, by omega⟩ l : S1x256x128.Idx) = (ix3 b p l : S4x4096x128.Idx) := by
    refine funext fun a : Fin 3 => Fin.ext ?_
    refine Eq.trans (b := (cc0_transform_0 (grid0.coords ⟨_, holds b p⟩)) a * S1x256x128.size a + 1 * ((ix3 0 ⟨p.val % 256, by omega⟩ l : S1x256x128.Idx) a).val) rfl ?_
    rw [at0]
    match a with
    | 0 => show (16 * b.val + p.val / 256) / 16 * 1 + 1 * 0 = b.val; omega
    | 1 => show (16 * b.val + p.val / 256) % 16 * 256 + 1 * (p.val % 256) = p.val; omega
    | 2 => show 0 * 128 + 1 * l.val = l.val; omega
  rw [← e]
  refine ((dats m 0 c).arrAt_emb_eq_flushed 10 Cert.Kernel7Ideal.Value.disjoint10 ⟨_, holds b p⟩ (flush0_10 _) (ix3 0 ⟨p.val % 256, by omega⟩ l : S1x256x128.Idx)).trans ?_
  rw [Cert.Kernel7Ideal.Value.flushed10]
  refine (cut10 _ (out0_10 (iblk m c 0 ⟨_, holds b p⟩) (iblk m c 1 ⟨_, holds b p⟩) (iblk m c 2 ⟨_, holds b p⟩) (iblk m c 3 ⟨_, holds b p⟩) (iblk m c 4 ⟨_, holds b p⟩) (iblk m c 5 ⟨_, holds b p⟩)) (ix3 0 ⟨p.val % 256, by omega⟩ l)).trans ?_
  refine (tile10 _ _ _ _ _ _ ⟨p.val % 256, by omega⟩ l).trans ?_
  refine (index_key_block m c ⟨_, holds b p⟩ ⟨p.val % 256, by omega⟩ l).trans ?_
  rw [batch_eq, row_eq]

/-- The reference's. -/
abbrev expectedIndexQ : S4x16x4096x128.Idx → EReal := indexPadded (indexTurned (indexHeads (projected m c)) (indexCosines m c) (indexSines m c))
abbrev expectedIndexK : S4x4096x128.Idx → EReal := indexKeyPadded (indexKeyTurned (indexKey (second m c)) (indexCosines m c) (indexSines m c))

theorem expectedIndexQ_at (b : Fin 4) (h : Fin 16) (p : Fin 4096) (l : Fin 128) : expectedIndexQ m c (ix4 b h p l) = indexQueryAt m c b h p l := by
  refine (indexPadded_at _ b h p l).trans ?_
  unfold indexQueryAt
  by_cases hl : l.val < 64
  · rw [dif_pos hl, dif_pos hl]
    refine congrArg (· * Ideal.ofBits .f32 0x3E000000#32) ?_
    refine (indexTurned_at (indexHeads (projected m c)) (indexCosines m c) (indexSines m c) b p h ⟨l.val, hl⟩).trans ?_
    exact congrArg (fun y => spin y (fun l => indexCosines m c (ix2 p l)) (fun l => indexSines m c (ix2 p l)) ⟨l.val, hl⟩)
      (funext fun k => indexHeads_at (projected m c) b p h k)
  · rw [dif_neg hl, dif_neg hl]

theorem expectedIndexK_at (b : Fin 4) (p : Fin 4096) (l : Fin 128) : expectedIndexK m c (ix3 b p l) = indexKeyAt m c b p l := by
  refine (indexKeyPadded_at _ b p l).trans ?_
  unfold indexKeyAt
  by_cases hl : l.val < 64
  · rw [dif_pos hl, dif_pos hl]
    refine (indexKeyTurned_at (indexKey (second m c)) (indexCosines m c) (indexSines m c) b p ⟨l.val, hl⟩).trans ?_
    exact congrArg (fun y => spin y (fun l => indexCosines m c (ix2 p l)) (fun l => indexSines m c (ix2 p l)) ⟨l.val, hl⟩)
      (funext fun k => indexKey_at (second m c) b p k)
  · rw [dif_neg hl, dif_neg hl]

/-- Both are the reference's. -/
theorem meets9 : ((dats m 0 c).arrAt 9 cfg0.N : S4x16x4096x128.Idx → EReal) = expectedIndexQ m c :=
  funext fun i => by
    rw [eq_ix4 i]
    exact (result9 m c _ _ _ _).trans (expectedIndexQ_at m c _ _ _ _).symm

theorem meets10 : ((dats m 0 c).arrAt 10 cfg0.N : S4x4096x128.Idx → EReal) = expectedIndexK m c :=
  funext fun i => by
    rw [eq_ix3 i]
    exact (result10 m c _ _ _).trans (expectedIndexK_at m c _ _ _).symm

end Region

end Cert.Rope
end
-- ==== Proof.lean ====
/- The proof of the claims: every program's frame, and the agreement of
   the results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_tables_in_range
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import Idealize.ShloMosaic.Adequacy
public import Idealize.ShloMosaic.Init
public import proofs.«01_k».proof.Proof.Meet
public import Idealize.ShloMosaic.Lib.Quiescent
public import proofs.«01_k».proof.Proof.Product2
public import proofs.«01_k».proof.Proof.Product3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Norm4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Norm5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Tail6
public import proofs.«01_k».proof.Proof.TailValue6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Rope7
public import proofs.«01_k».proof.Proof.Turn7
public import proofs.«01_k».proof.Proof.Index7

@[expose] public section

noncomputable section

namespace Cert.Proof

open Idealize.ShloMosaic Idealize.SL.Sem

/-- The frame at any float semantics: the run without what it says of the result. -/
theorem frameAt (F : FTy → Type) [FloatOps F] : Cert.Experts.FrameAt F := fun m g h =>
  θ_run_mono (Cert.Experts.run (Cert.Experts.ranged_of_pre m h) g) fun r hr =>
    ⟨fun c => ⟨(hr.1 c).1, (hr.1 c).2.1, (hr.1 c).2.2.1, (hr.1 c).2.2.2.1, (hr.1 c).2.2.2.2.1⟩, hr.2⟩

section Reference

open Cert.ReferenceIdeal StableHlo

variable (m : (ℓ : Loc nD τ sig) → Buf (Elt Ideal) ℓ) (g : Dev nD → PrngReg)

/-- The reference's run: its result as one term of its arguments. -/
theorem reference_run :
    θ_run (defs (F := Ideal)) (onTc (τ := τ) (main (F := Ideal))) ⟨m, fun _ => 0, g⟩ (fun r => ∀ c : Dev nD,
      r.2.mem ((c.tc : Thread nD τ).loc main_v235) = truncf .bf16 (Cert.Experts.Ref.sumUp (extf .f32 (m ((c.tc : Thread nD τ).loc main_arg0) : FVec Ideal S40960x2048 .bf16) Facts₀.bitsLt_bf16_f32)
          (m ((c.tc : Thread nD τ).loc main_arg1)) (m ((c.tc : Thread nD τ).loc main_arg2))
          (Cert.Experts.Ref.gates (m ((c.tc : Thread nD τ).loc main_arg3)) (m ((c.tc : Thread nD τ).loc main_arg4)))) Facts₀.bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_hlo defs main (ops := Cert.Experts.Ref.line.1) Cert.Experts.Ref.line.2 (by decide) (by decide) Cert.Experts.Ref.sub_bufs Cert.Experts.Ref.no_fresh m g) fun r hr c =>
    ⟨(hr c main_v235).trans (Cert.Experts.Ref.result _), (hr c main_arg0).trans (Cert.Experts.Ref.keeps0 _), (hr c main_arg1).trans (Cert.Experts.Ref.keeps1 _),
      (hr c main_arg2).trans (Cert.Experts.Ref.keeps2 _), (hr c main_arg3).trans (Cert.Experts.Ref.keeps3 _), (hr c main_arg4).trans (Cert.Experts.Ref.keeps4 _)⟩

/-- The reference leaves its arguments and every counter as they were. -/
theorem reference_frame :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (reference_run m g) fun r hr => ⟨fun c => (hr c).2, sem_eq_zero_of_no_sems (by decide) r.2⟩

end Reference

/-- The two programs end with equal results over the extended reals. -/
theorem agree : Cert.algebraic_KernelIdeal_ReferenceIdeal := by
  intro m g m' g' hpre hagree
  have hm : Cert.Experts.Ranged m := Cert.Experts.ranged_of_pre m hpre
  refine ⟨fun c => Cert.Experts.outs hm 4 Cert.KernelIdeal.main_v7 c, ?_, ?_⟩
  · exact θ_run_mono (Cert.Experts.run hm g) fun r hr c =>
      ⟨(hr.1 c).2.2.2.2.2, (hr.1 c).1, (hr.1 c).2.1, (hr.1 c).2.2.1, (hr.1 c).2.2.2.1, (hr.1 c).2.2.2.2.1⟩
  · refine θ_run_mono (reference_run m' g') fun r hr c => ⟨(hr c).1.trans ?_, (hr c).2⟩
    obtain ⟨h0, h1, h2, h3, h4⟩ := hagree c
    rw [h0, h1, h2, h3, h4]
    exact (Cert.Experts.meets hm c).symm

/-- The first layer's input projection: the two programs end with equal results over the extended reals. -/
theorem agree_even : Cert.algebraic_Kernel2Ideal_Reference2Ideal := by
  intro m g m' g' _ hagree
  refine ⟨fun c => Cert.Kernel2Ideal.Value.G2 m c, Cert.Kernel2Ideal.Value.run m g, ?_⟩
  refine θ_run_mono (Cert.Reference2Ideal.Value.run m' g') fun r hr c => ⟨(hr c).1.trans ?_, (hr c).2⟩
  obtain ⟨h0, h1⟩ := hagree c
  rw [h0, h1]
  exact (Cert.Projection.Even.meets m c).symm

/-- The second layer's input projection likewise. -/
theorem agree_odd : Cert.algebraic_Kernel3Ideal_Reference3Ideal := by
  intro m g m' g' _ hagree
  refine ⟨fun c => Cert.Kernel3Ideal.Value.G2 m c, Cert.Kernel3Ideal.Value.run m g, ?_⟩
  refine θ_run_mono (Cert.Reference3Ideal.Value.run m' g') fun r hr c => ⟨(hr c).1.trans ?_, (hr c).2⟩
  obtain ⟨h0, h1⟩ := hagree c
  rw [h0, h1]
  exact (Cert.Projection.Odd.meets m c).symm

/-- The output projection with its norm: both of its results. -/
theorem agree_out : Cert.algebraic_Kernel4Ideal_Reference4Ideal := by
  intro m g m' g' _ hagree
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    θ_run_mono (Cert.Kernel4Ideal.Value.run_blocks m g) fun r hr c => ⟨(hr c).1, (hr c).2.1, (hr c).2.2.2.2⟩, ?_⟩
  refine θ_run_mono (Cert.Reference4Ideal.Value.run m' g') fun r hr c => ⟨(hr c).1.trans ?_, (hr c).2.1.trans ?_, (hr c).2.2⟩
  · obtain ⟨h0, h1, h2, h3, h4, -⟩ := hagree c
    rw [h0, h1, h2, h3, h4]
    exact (Cert.Projection.Out.meets7 m c).symm
  · obtain ⟨h0, h1, h2, h3, h4, -⟩ := hagree c
    rw [h0, h1, h2, h3, h4]
    exact (Cert.Projection.Out.meets8 m c).symm

/-- The combination of the experts with its norm: both of its results. -/
theorem agree_combine : Cert.algebraic_Kernel5Ideal_Reference5Ideal := by
  intro m g m' g' _ hagree
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    Cert.Kernel5Ideal.Value.run_blocks m g, ?_⟩
  refine θ_run_mono (Cert.Reference5Ideal.Value.run m' g') fun r hr c => ⟨(hr c).1.trans ?_, (hr c).2.1.trans ?_, (hr c).2.2⟩
  · obtain ⟨h0, h1, h2, h3, h4⟩ := hagree c
    unfold Cert.Reference5Ideal.Value.res_main_v41
    rw [h0, h1, h2, h3, h4]
    exact (Cert.Combination.meets7 m c).symm
  · obtain ⟨h0, h1, h2, h3, h4⟩ := hagree c
    unfold Cert.Reference5Ideal.Value.res_main_v42
    rw [h0, h1, h2, h3, h4]
    exact (Cert.Combination.meets8 m c).symm

/-- The second layer's input projection past its first 4096 columns. -/
theorem agree_tail : Cert.algebraic_Kernel6Ideal_Reference6Ideal := by
  intro m g m' g' _ hagree
  refine ⟨fun c => (Cert.Projection.Tail.dats m 0 c).arrAt 2 Cert.Kernel6Ideal.cfg0.N,
    θ_run_mono (Cert.Projection.Tail.run m g) fun r hr => hr.1, ?_⟩
  refine θ_run_mono (Cert.Reference6Ideal.Value.run m' g') fun r hr c => ⟨(hr c).1.trans ?_, (hr c).2⟩
  obtain ⟨h0, h1⟩ := hagree c
  rw [h0, h1]
  exact (Cert.Projection.Tail.meets m c).symm

/-- The second layer's preparation: its queries, keys and values, and its indexer's queries and key. -/
theorem agree_prep : Cert.algebraic_Kernel7Ideal_Reference7Ideal := by
  intro m g m' g' _ hagree
  refine ⟨fun c => (Cert.Kernel7Ideal.Gen.dats m 0 c).arrAt 6 Cert.Kernel7Ideal.cfg0.N, fun c => (Cert.Kernel7Ideal.Gen.dats m 0 c).arrAt 7 Cert.Kernel7Ideal.cfg0.N,
    fun c => (Cert.Kernel7Ideal.Gen.dats m 0 c).arrAt 8 Cert.Kernel7Ideal.cfg0.N, fun c => (Cert.Kernel7Ideal.Gen.dats m 0 c).arrAt 9 Cert.Kernel7Ideal.cfg0.N,
    fun c => (Cert.Kernel7Ideal.Gen.dats m 0 c).arrAt 10 Cert.Kernel7Ideal.cfg0.N, Cert.Kernel7Ideal.Value.run_blocks m g, ?_⟩
  refine θ_run_mono (Cert.Reference7Ideal.Value.run m' g') fun r hr c =>
    ⟨(hr c).1.trans ?_, (hr c).2.1.trans ?_, (hr c).2.2.1.trans ?_, (hr c).2.2.2.1.trans ?_, (hr c).2.2.2.2.1.trans ?_, (hr c).2.2.2.2.2⟩
  · obtain ⟨h0, -, h2, h3, -, -⟩ := hagree c
    rw [h0, h2, h3]
    exact (Cert.Rope.meets6 m c).symm
  · obtain ⟨h0, -, h2, h3, -, -⟩ := hagree c
    rw [h0, h2, h3]
    exact (Cert.Rope.meets7 m c).symm
  · obtain ⟨h0, -, -, -, -, -⟩ := hagree c
    rw [h0]
    exact (Cert.Rope.meets8 m c).symm
  · obtain ⟨h0, -, -, -, h4, h5⟩ := hagree c
    rw [h0, h4, h5]
    exact (Cert.Rope.meets9 m c).symm
  · obtain ⟨-, h1, -, -, h4, h5⟩ := hagree c
    rw [h1, h4, h5]
    exact (Cert.Rope.meets10 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_tables_in_range.Gen.facts,
  Cert.Experts.kernel_frame_eq ▸ frameAt Bits, Cert.Experts.kernelIdeal_frame_eq ▸ frameAt Ideal,
  fun m g _ => reference_frame m g, fun m g _ => reference_frame m g,
  fun m g _ => Cert.Kernel2.Gen.frame m g, fun m g _ => Cert.Kernel2Ideal.Gen.frame m g,
  fun m g _ => θ_run_mono (Cert.Reference2Ideal.Value.run m g) fun r hr => ⟨fun c => (hr c).2, sem_eq_zero_of_no_sems (by decide) r.2⟩,
  fun m g _ => Cert.Kernel3.Gen.frame m g, fun m g _ => Cert.Kernel3Ideal.Gen.frame m g,
  fun m g _ => θ_run_mono (Cert.Reference3Ideal.Value.run m g) fun r hr => ⟨fun c => (hr c).2, sem_eq_zero_of_no_sems (by decide) r.2⟩,
  fun m g _ => Cert.Kernel4.Gen.frame m g, fun m g _ => Cert.Kernel4Ideal.Gen.frame m g,
  fun m g _ => θ_run_mono (Cert.Reference4Ideal.Value.run m g) fun r hr => ⟨fun c => (hr c).2.2, sem_eq_zero_of_no_sems (by decide) r.2⟩,
  fun m g _ => Cert.Kernel5.Gen.frame m g, fun m g _ => Cert.Kernel5Ideal.Gen.frame m g,
  fun m g _ => θ_run_mono (Cert.Reference5Ideal.Value.run m g) fun r hr => ⟨fun c => (hr c).2.2, sem_eq_zero_of_no_sems (by decide) r.2⟩,
  Cert.Projection.Tail.kernel_frame_eq ▸ Cert.Projection.Tail.frameAt Bits, Cert.Projection.Tail.kernelIdeal_frame,
  fun m g _ => θ_run_mono (Cert.Reference6Ideal.Value.run m g) fun r hr => ⟨fun c => (hr c).2, sem_eq_zero_of_no_sems (by decide) r.2⟩,
  fun m g _ => Cert.Kernel7.Gen.frame m g, fun m g _ => Cert.Kernel7Ideal.Gen.frame m g,
  fun m g _ => θ_run_mono (Cert.Reference7Ideal.Value.run m g) fun r hr => ⟨fun c => (hr c).2.2.2.2.2, sem_eq_zero_of_no_sems (by decide) r.2⟩,
  trivial, agree, trivial, agree_even, trivial, agree_odd, trivial, agree_out, trivial, agree_combine, trivial, agree_tail, trivial, agree_prep⟩

end Cert.Proof

end
